-- ==== Defs.lean ====
def Pre_Kernel [hPre_ordered : Cert.Pre_ordered.Facts] (m : (ℓ : Loc Cert.Kernel.nD Cert.Kernel.τ Cert.Kernel.sig) → Buf (Elt Bits) ℓ) : Prop :=
  ∀ c : Dev Cert.Kernel.nD,
    (Cert.Pre_ordered.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_Reference (m : (ℓ : Loc Cert.Reference.nD Cert.Reference.τ Cert.Reference.sig) → Buf (Elt Bits) ℓ) : Prop :=
  True

def Pre_Reference_ordered [hPre_ordered : Cert.Pre_ordered.Facts] (m : (ℓ : Loc Cert.Reference.nD Cert.Reference.τ Cert.Reference.sig) → Buf (Elt Bits) ℓ) : Prop :=
  ∀ c : Dev Cert.Reference.nD,
    (Cert.Pre_ordered.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Codes [hPre_nonnegative : Cert.Pre_nonnegative.Facts] (m : (ℓ : Loc Cert.Codes.nD Cert.Codes.τ Cert.Codes.sig) → Buf (Elt Bits) ℓ) : Prop :=
  ∀ c : Dev Cert.Codes.nD,
    (Cert.Pre_nonnegative.fn (F := Bits) (m ((c.tc : Thread Cert.Codes.nD Cert.Codes.τ).loc Cert.Codes.main_arg0)) (m ((c.tc : Thread Cert.Codes.nD Cert.Codes.τ).loc Cert.Codes.main_arg1)) (m ((c.tc : Thread Cert.Codes.nD Cert.Codes.τ).loc Cert.Codes.main_arg2)) (m ((c.tc : Thread Cert.Codes.nD Cert.Codes.τ).loc Cert.Codes.main_arg3))) = (fun _ => 1#1)

def Pre_CodesIdeal [hPre_nonnegative : Cert.Pre_nonnegative.Facts] (m : (ℓ : Loc Cert.CodesIdeal.nD Cert.CodesIdeal.τ Cert.CodesIdeal.sig) → Buf (Elt Ideal) ℓ) : Prop :=
  ∀ c : Dev Cert.CodesIdeal.nD,
    (Cert.Pre_nonnegative.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3))) = (fun _ => 1#1)

def Pre_CodesReferenceIdeal (m : (ℓ : Loc Cert.CodesReferenceIdeal.nD Cert.CodesReferenceIdeal.τ Cert.CodesReferenceIdeal.sig) → Buf (Elt Ideal) ℓ) : Prop :=
  True

def Pre_CodesReferenceIdeal_nonnegative [hPre_nonnegative : Cert.Pre_nonnegative.Facts] (m : (ℓ : Loc Cert.CodesReferenceIdeal.nD Cert.CodesReferenceIdeal.τ Cert.CodesReferenceIdeal.sig) → Buf (Elt Ideal) ℓ) : Prop :=
  ∀ c : Dev Cert.CodesReferenceIdeal.nD,
    (Cert.Pre_nonnegative.fn (F := Ideal) (m ((c.tc : Thread Cert.CodesReferenceIdeal.nD Cert.CodesReferenceIdeal.τ).loc Cert.CodesReferenceIdeal.main_arg0)) (m ((c.tc : Thread Cert.CodesReferenceIdeal.nD Cert.CodesReferenceIdeal.τ).loc Cert.CodesReferenceIdeal.main_arg1)) (m ((c.tc : Thread Cert.CodesReferenceIdeal.nD Cert.CodesReferenceIdeal.τ).loc Cert.CodesReferenceIdeal.main_arg2)) (m ((c.tc : Thread Cert.CodesReferenceIdeal.nD Cert.CodesReferenceIdeal.τ).loc Cert.CodesReferenceIdeal.main_arg3))) = (fun _ => 1#1)

def quiescent_Kernel [hKernel : Cert.Kernel.Facts] [hPre_ordered : Cert.Pre_ordered.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reference_pre_ordered [hReference : Cert.Reference.Facts] [hPre_ordered : Cert.Pre_ordered.Facts] : Prop :=
  ∀ (m : (ℓ : Loc Cert.Reference.nD Cert.Reference.τ Cert.Reference.sig) → Buf (Elt Bits) ℓ) (g : Dev Cert.Reference.nD → PrngReg), Pre_Reference_ordered m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Codes [hCodes : Cert.Codes.Facts] [hPre_nonnegative : Cert.Pre_nonnegative.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3))
      ∧ r.2.sem = fun _ => 0)

def quiescent_CodesIdeal [hCodesIdeal : Cert.CodesIdeal.Facts] [hPre_nonnegative : Cert.Pre_nonnegative.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_CodesReferenceIdeal [hCodesReferenceIdeal : Cert.CodesReferenceIdeal.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0)

def quiescent_CodesReferenceIdeal_pre_nonnegative [hCodesReferenceIdeal : Cert.CodesReferenceIdeal.Facts] [hPre_nonnegative : Cert.Pre_nonnegative.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal_nonnegative m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0)

def bitexact_Kernel_Reference_on_labels_and_scores [hKernel : Cert.Kernel.Facts] [hReference : Cert.Reference.Facts] [hPre_ordered : Cert.Pre_ordered.Facts] [hOn_labels_and_scores : Cert.On_labels_and_scores.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v18)) (v1 : (c : Dev Cert.Kernel.nD) → Buf (Elt Bits) ((c.tc : Thread Cert.Kernel.nD Cert.Kernel.τ).loc Cert.Kernel.main_v20)) (v2 : (c : Dev Cert.Kernel.nD) → Buf (Elt Bits) ((c.tc : Thread Cert.Kernel.nD Cert.Kernel.τ).loc Cert.Kernel.main_v16)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![64, 300]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Kernel.nD Cert.Kernel.τ).loc Cert.Kernel.main_v18) i = v0 c i)
          ∧ (∀ i : (⟨3, ![64, 300, 4]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Kernel.nD Cert.Kernel.τ).loc Cert.Kernel.main_v20) i = v1 c i)
          ∧ (∀ i : (⟨2, ![64, 300]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Kernel.nD Cert.Kernel.τ).loc Cert.Kernel.main_v16) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![64, 300]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Reference.nD Cert.Reference.τ).loc Cert.Reference.main_v42) i = v0 c i)
          ∧ (∀ i : (⟨3, ![64, 300, 4]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Reference.nD Cert.Reference.τ).loc Cert.Reference.main_v46) i = v1 c i)
          ∧ (∀ i : (⟨2, ![64, 300]⟩ : Shape).Idx, (Cert.On_labels_and_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Reference.nD Cert.Reference.τ).loc Cert.Reference.main_values) i = v2 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Codes_CodesIdeal : Prop :=
  True

def algebraic_CodesIdeal_CodesReferenceIdeal [hCodesIdeal : Cert.CodesIdeal.Facts] [hCodesReferenceIdeal : Cert.CodesReferenceIdeal.Facts] [hPre_nonnegative : Cert.Pre_nonnegative.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesReferenceIdeal.nD Cert.CodesReferenceIdeal.τ Cert.CodesReferenceIdeal.sig) → Buf (Elt Ideal) ℓ) (g' : Dev Cert.CodesReferenceIdeal.nD → PrngReg), Pre_CodesIdeal m →
    (∀ c : Dev Cert.CodesIdeal.nD,
      m' ((c.tc : Thread Cert.CodesReferenceIdeal.nD Cert.CodesReferenceIdeal.τ).loc Cert.CodesReferenceIdeal.main_arg0) = m ((c.tc : Thread Cert.CodesIdeal.nD Cert.CodesIdeal.τ).loc Cert.CodesIdeal.main_arg0)
      ∧ m' ((c.tc : Thread Cert.CodesReferenceIdeal.nD Cert.CodesReferenceIdeal.τ).loc Cert.CodesReferenceIdeal.main_arg1) = m ((c.tc : Thread Cert.CodesIdeal.nD Cert.CodesIdeal.τ).loc Cert.CodesIdeal.main_arg1)
      ∧ m' ((c.tc : Thread Cert.CodesReferenceIdeal.nD Cert.CodesReferenceIdeal.τ).loc Cert.CodesReferenceIdeal.main_arg2) = m ((c.tc : Thread Cert.CodesIdeal.nD Cert.CodesIdeal.τ).loc Cert.CodesIdeal.main_arg2)
      ∧ m' ((c.tc : Thread Cert.CodesReferenceIdeal.nD Cert.CodesReferenceIdeal.τ).loc Cert.CodesReferenceIdeal.main_arg3) = m ((c.tc : Thread Cert.CodesIdeal.nD Cert.CodesIdeal.τ).loc Cert.CodesIdeal.main_arg3)) →
    ∃ (v0 : (c : Dev Cert.CodesIdeal.nD) → Buf (Elt Ideal) ((c.tc : Thread Cert.CodesIdeal.nD Cert.CodesIdeal.τ).loc Cert.CodesIdeal.main_v12)) (v1 : (c : Dev Cert.CodesIdeal.nD) → Buf (Elt Ideal) ((c.tc : Thread Cert.CodesIdeal.nD Cert.CodesIdeal.τ).loc Cert.CodesIdeal.main_v14)) (v2 : (c : Dev Cert.CodesIdeal.nD) → Buf (Elt Ideal) ((c.tc : Thread Cert.CodesIdeal.nD Cert.CodesIdeal.τ).loc Cert.CodesIdeal.main_v10)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v12) = v0 c
          ∧ r.2.mem ((c.tc : Thread Cert.CodesIdeal.nD Cert.CodesIdeal.τ).loc Cert.CodesIdeal.main_v14) = v1 c
          ∧ r.2.mem ((c.tc : Thread Cert.CodesIdeal.nD Cert.CodesIdeal.τ).loc Cert.CodesIdeal.main_v10) = v2 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ θ_run (Cert.CodesReferenceIdeal.defs (F := Ideal)) (onTc (τ := Cert.CodesReferenceIdeal.τ) (Cert.CodesReferenceIdeal.main (F := Ideal))) ⟨m', fun _ => 0, g'⟩ (fun r => ∀ c : Dev Cert.CodesReferenceIdeal.nD,
          r.2.mem ((c.tc : Thread Cert.CodesReferenceIdeal.nD Cert.CodesReferenceIdeal.τ).loc Cert.CodesReferenceIdeal.main_v36) = v0 c
          ∧ r.2.mem ((c.tc : Thread Cert.CodesReferenceIdeal.nD Cert.CodesReferenceIdeal.τ).loc Cert.CodesReferenceIdeal.main_v40) = v1 c
          ∧ r.2.mem ((c.tc : Thread Cert.CodesReferenceIdeal.nD Cert.CodesReferenceIdeal.τ).loc Cert.CodesReferenceIdeal.main_values) = v2 c
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1)
          ∧ r.2.mem ((c.tc : Thread Cert.CodesReferenceIdeal.nD Cert.CodesReferenceIdeal.τ).loc Cert.CodesReferenceIdeal.main_arg2) = m' ((c.tc : Thread Cert.CodesReferenceIdeal.nD Cert.CodesReferenceIdeal.τ).loc Cert.CodesReferenceIdeal.main_arg2)
          ∧ r.2.mem ((c.tc : Thread Cert.CodesReferenceIdeal.nD Cert.CodesReferenceIdeal.τ).loc Cert.CodesReferenceIdeal.main_arg3) = m' ((c.tc : Thread Cert.CodesReferenceIdeal.nD Cert.CodesReferenceIdeal.τ).loc Cert.CodesReferenceIdeal.main_arg3))

def Claim : Prop :=
  ∃ (hKernel : Cert.Kernel.Facts) (hReference : Cert.Reference.Facts) (hCodes : Cert.Codes.Facts) (hCodesIdeal : Cert.CodesIdeal.Facts) (hCodesReferenceIdeal : Cert.CodesReferenceIdeal.Facts) (hPre_ordered : Cert.Pre_ordered.Facts) (hPre_nonnegative : Cert.Pre_nonnegative.Facts) (hOn_labels_and_scores : Cert.On_labels_and_scores.Facts),
    quiescent_Kernel (hKernel := hKernel) (hPre_ordered := hPre_ordered)
    ∧ quiescent_Reference (hReference := hReference)
    ∧ quiescent_Reference_pre_ordered (hReference := hReference) (hPre_ordered := hPre_ordered)
    ∧ quiescent_Codes (hCodes := hCodes) (hPre_nonnegative := hPre_nonnegative)
    ∧ quiescent_CodesIdeal (hCodesIdeal := hCodesIdeal) (hPre_nonnegative := hPre_nonnegative)
    ∧ quiescent_CodesReferenceIdeal (hCodesReferenceIdeal := hCodesReferenceIdeal)
    ∧ quiescent_CodesReferenceIdeal_pre_nonnegative (hCodesReferenceIdeal := hCodesReferenceIdeal) (hPre_nonnegative := hPre_nonnegative)
    ∧ bitexact_Kernel_Reference_on_labels_and_scores (hKernel := hKernel) (hReference := hReference) (hPre_ordered := hPre_ordered) (hOn_labels_and_scores := hOn_labels_and_scores)
    ∧ preserves_Codes_CodesIdeal
    ∧ algebraic_CodesIdeal_CodesReferenceIdeal (hCodesIdeal := hCodesIdeal) (hCodesReferenceIdeal := hCodesReferenceIdeal) (hPre_nonnegative := hPre_nonnegative)
-- ==== On_labels_and_scores.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩
abbrev S64x300 : Shape := ⟨2, ![64, 300]⟩
abbrev S64x300x4 : Shape := ⟨3, ![64, 300, 4]⟩

class Facts : Prop where
  bcast_S_S64x300 : S_.BroadcastsInDim S64x300 (![] : Fin 0 → Fin S64x300.rank)
  bcast_S_S64x300x4 : S_.BroadcastsInDim S64x300x4 (![] : Fin 0 → Fin S64x300x4.rank)

variable [Facts]

def fn {F : FTy → Type} [FloatOps F] (main_arg0 : FVec F S64x5000x80 .f32) (main_arg1 : FVec F S64x5000x4 .f32) (main_arg2 : IVec S64x2 32) (main_arg3 : IVec S_ 32) : IVec S64x300 1 × IVec S64x300x4 1 × IVec S64x300 1 :=
  let main_c : IVec S_ 1 := constantI S_ 1 1#1
  let main_v0 : IVec S64x300 1 := broadcastInDim S64x300 ![] bcast_S_S64x300 main_c
  let main_c_0 : IVec S_ 1 := constantI S_ 1 0#1
  let main_v1 : IVec S64x300x4 1 := broadcastInDim S64x300x4 ![] bcast_S_S64x300x4 main_c_0
  let main_c_1 : IVec S_ 1 := constantI S_ 1 1#1
  let main_v2 : IVec S64x300 1 := broadcastInDim S64x300 ![] bcast_S_S64x300 main_c_1
  (main_v0, main_v1, main_v2)
-- ==== Pre_nonnegative.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩

class Facts : Prop where
  bcast_S_S64x5000x80 : S_.BroadcastsInDim S64x5000x80 (![] : Fin 0 → Fin S64x5000x80.rank)

variable [Facts]

def fn {F : FTy → Type} [FloatOps F] (main_arg0 : IVec S64x5000x80 32) (main_arg1 : FVec F S64x5000x4 .f32) (main_arg2 : IVec S64x2 32) (main_arg3 : IVec S_ 32) : IVec S64x5000x80 1 :=
  let main_c : IVec S_ 32 := constantI S_ 32 0#32
  let main_v0 : IVec S64x5000x80 32 := broadcastInDim S64x5000x80 ![] bcast_S_S64x5000x80 main_c
  let main_v1 : IVec S64x5000x80 1 := cmpi .sge main_arg0 main_v0
  main_v1
-- ==== Pre_ordered.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩

class Facts : Prop where
  bcast_S_S64x5000x80 : S_.BroadcastsInDim S64x5000x80 (![] : Fin 0 → Fin S64x5000x80.rank)

variable [Facts]

def fn_part1 {F : FTy → Type} [BitOps F] (main_v9 : IVec S64x5000x80 1) (main_v16 : IVec S64x5000x80 32) (main_v17 : IVec S64x5000x80 32) : IVec S64x5000x80 1 :=
  let main_v18 : IVec S64x5000x80 1 := cmpi .sge main_v16 main_v17
  let main_v19 : IVec S64x5000x80 1 := andi main_v9 main_v18
  main_v19

def fn {F : FTy → Type} [BitOps F] (main_arg0 : FVec F S64x5000x80 .f32) (main_arg1 : FVec F S64x5000x4 .f32) (main_arg2 : IVec S64x2 32) (main_arg3 : IVec S_ 32) : IVec S64x5000x80 1 :=
  let main_cst : FVec F S_ .f32 := constant S_ .f32 0xF149F2CA#32
  let main_v0 : FVec F S64x5000x80 .f32 := broadcastInDim S64x5000x80 ![] bcast_S_S64x5000x80 main_cst
  let main_v1 : FVec F S64x5000x80 .f32 := Host.negf main_v0
  let main_v2 : FVec F S64x5000x80 .f32 := Host.exp main_v1
  let main_cst_0 : FVec F S_ .f32 := constant S_ .f32 0x3F800000#32
  let main_v3 : FVec F S64x5000x80 .f32 := broadcastInDim S64x5000x80 ![] bcast_S_S64x5000x80 main_cst_0
  let main_v4 : FVec F S64x5000x80 .f32 := addf main_v3 main_v2
  let main_cst_1 : FVec F S_ .f32 := constant S_ .f32 0x3F800000#32
  let main_v5 : FVec F S64x5000x80 .f32 := broadcastInDim S64x5000x80 ![] bcast_S_S64x5000x80 main_cst_1
  let main_v6 : FVec F S64x5000x80 .f32 := Host.divf main_v5 main_v4
  let main_v7 : IVec S64x5000x80 32 := bitcastToInt main_v6
  let main_c : IVec S_ 32 := constantI S_ 32 0#32
  let main_v8 : IVec S64x5000x80 32 := broadcastInDim S64x5000x80 ![] bcast_S_S64x5000x80 main_c
  let main_v9 : IVec S64x5000x80 1 := cmpi .sge main_v7 main_v8
  let main_v10 : FVec F S64x5000x80 .f32 := Host.negf main_arg0
  let main_v11 : FVec F S64x5000x80 .f32 := Host.exp main_v10
  let main_cst_2 : FVec F S_ .f32 := constant S_ .f32 0x3F800000#32
  let main_v12 : FVec F S64x5000x80 .f32 := broadcastInDim S64x5000x80 ![] bcast_S_S64x5000x80 main_cst_2
  let main_v13 : FVec F S64x5000x80 .f32 := addf main_v12 main_v11
  let main_cst_3 : FVec F S_ .f32 := constant S_ .f32 0x3F800000#32
  let main_v14 : FVec F S64x5000x80 .f32 := broadcastInDim S64x5000x80 ![] bcast_S_S64x5000x80 main_cst_3
  let main_v15 : FVec F S64x5000x80 .f32 := Host.divf main_v14 main_v13
  let main_v16 : IVec S64x5000x80 32 := bitcastToInt main_v15
  let main_v17 : IVec S64x5000x80 32 := bitcastToInt main_v6
  fn_part1 (F := F) main_v9 main_v16 main_v17
-- ==== Kernel.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩
abbrev S64x3125x128 : Shape := ⟨3, ![64, 3125, 128]⟩
abbrev S64x3136x128 : Shape := ⟨3, ![64, 3136, 128]⟩
abbrev S64x4x5000 : Shape := ⟨3, ![64, 4, 5000]⟩
abbrev S64x8x5000 : Shape := ⟨3, ![64, 8, 5000]⟩
abbrev S64x8 : Shape := ⟨2, ![64, 8]⟩
abbrev S64x8x1 : Shape := ⟨3, ![64, 8, 1]⟩
abbrev S64x8x128 : Shape := ⟨3, ![64, 8, 128]⟩
abbrev S64x8x512 : Shape := ⟨3, ![64, 8, 512]⟩
abbrev S1x3136x128 : Shape := ⟨3, ![1, 3136, 128]⟩
abbrev S1x8x5000 : Shape := ⟨3, ![1, 8, 5000]⟩
abbrev S1x8x128 : Shape := ⟨3, ![1, 8, 128]⟩
abbrev S1x8x512 : Shape := ⟨3, ![1, 8, 512]⟩
abbrev S3136x128 : Shape := ⟨2, ![3136, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S98x32x128 : Shape := ⟨3, ![98, 32, 128]⟩
abbrev S98 : Shape := ⟨1, ![98]⟩
abbrev S30 : Shape := ⟨1, ![30]⟩
abbrev S1x512 : Shape := ⟨2, ![1, 512]⟩
abbrev S32x128 : Shape := ⟨2, ![32, 128]⟩
abbrev S1x1x128 : Shape := ⟨3, ![1, 1, 128]⟩
abbrev S1x32x128 : Shape := ⟨3, ![1, 32, 128]⟩
abbrev S1x1x512 : Shape := ⟨3, ![1, 1, 512]⟩
abbrev S8x5000 : Shape := ⟨2, ![8, 5000]⟩
abbrev S1x5000 : Shape := ⟨2, ![1, 5000]⟩
abbrev S4x5000 : Shape := ⟨2, ![4, 5000]⟩
abbrev S5000x512 : Shape := ⟨2, ![5000, 512]⟩
abbrev S8x512 : Shape := ⟨2, ![8, 512]⟩
abbrev S64x1x300 : Shape := ⟨3, ![64, 1, 300]⟩
abbrev S64x300 : Shape := ⟨2, ![64, 300]⟩
abbrev S64x4x300 : Shape := ⟨3, ![64, 4, 300]⟩
abbrev S64x300x4 : Shape := ⟨3, ![64, 300, 4]⟩

abbrev nBuf : Space → Nat
  | .hbm => 35
  | .vmem => 16
  | .smem => 0
  | _ => 0

abbrev bufTy : (tb : Table) → Fin (tcTables nBuf tb) → BufTy
  | .hbm, ⟨0, _⟩ => ⟨S64x5000x80, .f32⟩
  | .hbm, ⟨1, _⟩ => ⟨S64x5000x4, .f32⟩
  | .hbm, ⟨2, _⟩ => ⟨S64x2, .i32⟩
  | .hbm, ⟨3, _⟩ => ⟨S_, .i32⟩
  | .hbm, ⟨4, _⟩ => ⟨S64x3125x128, .f32⟩
  | .hbm, ⟨5, _⟩ => ⟨S_, .f32⟩
  | .hbm, ⟨6, _⟩ => ⟨S_, .f32⟩
  | .hbm, ⟨7, _⟩ => ⟨S64x3136x128, .f32⟩
  | .hbm, ⟨8, _⟩ => ⟨S64x3136x128, .f32⟩
  | .hbm, ⟨9, _⟩ => ⟨S64x3136x128, .f32⟩
  | .hbm, ⟨10, _⟩ => ⟨S_, .f32⟩
  | .hbm, ⟨11, _⟩ => ⟨S64x3136x128, .f32⟩
  | .hbm, ⟨12, _⟩ => ⟨S64x3136x128, .f32⟩
  | .hbm, ⟨13, _⟩ => ⟨S_, .f32⟩
  | .hbm, ⟨14, _⟩ => ⟨S64x3136x128, .f32⟩
  | .hbm, ⟨15, _⟩ => ⟨S64x3136x128, .f32⟩
  | .hbm, ⟨16, _⟩ => ⟨S64x4x5000, .f32⟩
  | .hbm, ⟨17, _⟩ => ⟨S_, .i32⟩
  | .hbm, ⟨18, _⟩ => ⟨S_, .f32⟩
  | .hbm, ⟨19, _⟩ => ⟨S64x8x5000, .f32⟩
  | .hbm, ⟨20, _⟩ => ⟨S64x2, .f32⟩
  | .hbm, ⟨21, _⟩ => ⟨S_, .i32⟩
  | .hbm, ⟨22, _⟩ => ⟨S_, .f32⟩
  | .hbm, ⟨23, _⟩ => ⟨S64x8, .f32⟩
  | .hbm, ⟨24, _⟩ => ⟨S64x8x1, .f32⟩
  | .hbm, ⟨25, _⟩ => ⟨S64x8x128, .f32⟩
  | .hbm, ⟨26, _⟩ => ⟨S64x8x512, .f32⟩
  | .hbm, ⟨27, _⟩ => ⟨S64x8x512, .i32⟩
  | .hbm, ⟨28, _⟩ => ⟨S64x8x512, .f32⟩
  | .hbm, ⟨29, _⟩ => ⟨S64x1x300, .f32⟩
  | .hbm, ⟨30, _⟩ => ⟨S64x300, .f32⟩
  | .hbm, ⟨31, _⟩ => ⟨S64x1x300, .i32⟩
  | .hbm, ⟨32, _⟩ => ⟨S64x300, .i32⟩
  | .hbm, ⟨33, _⟩ => ⟨S64x4x300, .f32⟩
  | .hbm, ⟨34, _⟩ => ⟨S64x300x4, .f32⟩
  | .local _ .vmem, ⟨0, _⟩ => ⟨S1x3136x128, .f32⟩
  | .local _ .vmem, ⟨1, _⟩ => ⟨S1x3136x128, .f32⟩
  | .local _ .vmem, ⟨2, _⟩ => ⟨S1x8x5000, .f32⟩
  | .local _ .vmem, ⟨3, _⟩ => ⟨S1x8x5000, .f32⟩
  | .local _ .vmem, ⟨4, _⟩ => ⟨S1x8x128, .f32⟩
  | .local _ .vmem, ⟨5, _⟩ => ⟨S1x8x128, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .i32⟩
  | .local _ .vmem, ⟨9, _⟩ => ⟨S1x8x512, .i32⟩
  | .local _ .vmem, ⟨10, _⟩ => ⟨S1x8x512, .f32⟩
  | .local _ .vmem, ⟨11, _⟩ => ⟨S1x8x512, .f32⟩
  | .local _ .vmem, ⟨12, _⟩ => ⟨S3136x128, .i32⟩
  | .local _ .vmem, ⟨13, _⟩ => ⟨S3136x128, .i16⟩
  | .local _ .vmem, ⟨14, _⟩ => ⟨S3136x128, .i32⟩
  | .local _ .vmem, ⟨15, _⟩ => ⟨S8x128, .i32⟩
  | _, _ => ⟨S64x5000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32 : BitVec 32 := 0#32
  let c15_i32 : BitVec 32 := 15#32
  let v12 : BitVec 32 := Scalar.addi c0_i32 c15_i32
  let c1_i32 : BitVec 32 := 1#32
  ⟨c0_i32, v12, c1_i32⟩
@[reducible] def k0_t2_loop : Scf.Loop 32 :=
  let c0_i32_12 : BitVec 32 := 0#32
  let c17_i32 : BitVec 32 := 17#32
  let v41 : BitVec 32 := Scalar.addi c0_i32_12 c17_i32
  let c1_i32_13 : BitVec 32 := 1#32
  ⟨c0_i32_12, v41, c1_i32_13⟩
@[reducible] def k0_t3_loop : Scf.Loop 32 :=
  let c0_i32_74 : BitVec 32 := 0#32
  let c20_i32 : BitVec 32 := 20#32
  let v179 : BitVec 32 := Scalar.addi c0_i32_74 c20_i32
  let c1_i32_75 : BitVec 32 := 1#32
  ⟨c0_i32_74, v179, c1_i32_75⟩
@[reducible] def k0_t4_loop : Scf.Loop 32 :=
  let c0_i32_39 : BitVec 32 := 0#32
  let c300_i32_40 : BitVec 32 := 300#32
  let v102 : BitVec 32 := Scalar.addi c0_i32_39 c300_i32_40
  let c1_i32_41 : BitVec 32 := 1#32
  ⟨c0_i32_39, v102, c1_i32_41⟩
def k0_off1 (v188 : BitVec 32) : Fin 2 → Nat :=
  let c32_i32 : BitVec 32 := 32#32
  let v189 : BitVec 32 := Scalar.muli v188 c32_i32
  let v190 : Index := Scalar.indexCast v189
  let c0_76 : Index := 0#32
  ![v190.toNat, 0]

def k0_chk1 (v188 : BitVec 32) : Prop :=
  (∀ a, (k0_off1 v188) a + S32x128.size a ≤ S3136x128.size a)
theorem k0_off1_inb : ∀ (v188 : BitVec 32) (k0_hw1 : k0_chk1 v188), ∀ a, (k0_off1 v188) a + S32x128.size a ≤ S3136x128.size a := fun v188 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩
abbrev S64x5000x1 : Shape := ⟨3, ![64, 5000, 1]⟩
abbrev S64x5000 : Shape := ⟨2, ![64, 5000]⟩
abbrev S1x64x1x2 : Shape := ⟨4, ![1, 64, 1, 2]⟩
abbrev S1x64x2x2 : Shape := ⟨4, ![1, 64, 2, 2]⟩
abbrev S64x4 : Shape := ⟨2, ![64, 4]⟩
abbrev S64x1x4 : Shape := ⟨3, ![64, 1, 4]⟩
abbrev S64x400000 : Shape := ⟨2, ![64, 400000]⟩
abbrev S64x300 : Shape := ⟨2, ![64, 300]⟩
abbrev S64x300x1 : Shape := ⟨3, ![64, 300, 1]⟩
abbrev S64x300x4 : Shape := ⟨3, ![64, 300, 4]⟩
abbrev S64x300x4x1 : Shape := ⟨4, ![64, 300, 4, 1]⟩
abbrev S1 : Shape := ⟨1, ![1]⟩
abbrev S1x1x1x1 : Shape := ⟨4, ![1, 1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S64x5000x80, .f32⟩
  | .hbm, ⟨1, _⟩ => ⟨S64x5000x4, .f32⟩
  | .hbm, ⟨2, _⟩ => ⟨S64x2, .i32⟩
  | .hbm, ⟨3, _⟩ => ⟨S_, .i32⟩
  | .hbm, ⟨4, _⟩ => ⟨S64x5000x1, .f32⟩
  | .hbm, ⟨5, _⟩ => ⟨S64x5000, .f32⟩
  | .hbm, ⟨6, _⟩ => ⟨S64x5000x1, .f32⟩
  | .hbm, ⟨7, _⟩ => ⟨S64x5000, .f32⟩
  | .hbm, ⟨8, _⟩ => ⟨S64x5000x1, .f32⟩
  | .hbm, ⟨9, _⟩ => ⟨S64x5000, .f32⟩
  | .hbm, ⟨10, _⟩ => ⟨S64x5000x1, .f32⟩
  | .hbm, ⟨11, _⟩ => ⟨S64x5000, .f32⟩
  | .hbm, ⟨12, _⟩ => ⟨S_, .f32⟩
  | .hbm, ⟨13, _⟩ => ⟨S64x5000, .f32⟩
  | .hbm, ⟨14, _⟩ => ⟨S64x5000, .f32⟩
  | .hbm, ⟨15, _⟩ => ⟨S64x5000, .f32⟩
  | .hbm, ⟨16, _⟩ => ⟨S_, .f32⟩
  | .hbm, ⟨17, _⟩ => ⟨S64x5000, .f32⟩
  | .hbm, ⟨18, _⟩ => ⟨S64x5000, .f32⟩
  | .hbm, ⟨19, _⟩ => ⟨S64x5000, .f32⟩
  | .hbm, ⟨20, _⟩ => ⟨S_, .f32⟩
  | .hbm, ⟨21, _⟩ => ⟨S64x5000, .f32⟩
  | .hbm, ⟨22, _⟩ => ⟨S64x5000, .f32⟩
  | .hbm, ⟨23, _⟩ => ⟨S64x5000, .f32⟩
  | .hbm, ⟨24, _⟩ => ⟨S_, .f32⟩
  | .hbm, ⟨25, _⟩ => ⟨S64x5000, .f32⟩
  | .hbm, ⟨26, _⟩ => ⟨S64x5000, .f32⟩
  | .hbm, ⟨27, _⟩ => ⟨S64x5000, .f32⟩
  | .hbm, ⟨28, _⟩ => ⟨S64x5000x1, .f32⟩
  | .hbm, ⟨29, _⟩ => ⟨S64x5000x1, .f32⟩
  | .hbm, ⟨30, _⟩ => ⟨S64x5000x1, .f32⟩
  | .hbm, ⟨31, _⟩ => ⟨S64x5000x1, .f32⟩
  | .hbm, ⟨32, _⟩ => ⟨S64x5000x4, .f32⟩
  | .hbm, ⟨33, _⟩ => ⟨S64x2, .f32⟩
  | .hbm, ⟨34, _⟩ => ⟨S1x64x1x2, .f32⟩
  | .hbm, ⟨35, _⟩ => ⟨S1x64x2x2, .f32⟩
  | .hbm, ⟨36, _⟩ => ⟨S64x4, .f32⟩
  | .hbm, ⟨37, _⟩ => ⟨S64x1x4, .f32⟩
  | .hbm, ⟨38, _⟩ => ⟨S64x5000x4, .f32⟩
  | .hbm, ⟨39, _⟩ => ⟨S64x5000x4, .f32⟩
  | .hbm, ⟨40, _⟩ => ⟨S64x5000x80, .f32⟩
  | .hbm, ⟨41, _⟩ => ⟨S64x5000x80, .f32⟩
  | .hbm, ⟨42, _⟩ => ⟨S_, .f32⟩
  | .hbm, ⟨43, _⟩ => ⟨S64x5000x80, .f32⟩
  | .hbm, ⟨44, _⟩ => ⟨S64x5000x80, .f32⟩
  | .hbm, ⟨45, _⟩ => ⟨S_, .f32⟩
  | .hbm, ⟨46, _⟩ => ⟨S64x5000x80, .f32⟩
  | .hbm, ⟨47, _⟩ => ⟨S64x5000x80, .f32⟩
  | .hbm, ⟨48, _⟩ => ⟨S64x400000, .f32⟩
  | .hbm, ⟨49, _⟩ => ⟨S64x300, .f32⟩
  | .hbm, ⟨50, _⟩ => ⟨S64x300, .i32⟩
  | .hbm, ⟨51, _⟩ => ⟨S_, .i32⟩
  | .hbm, ⟨52, _⟩ => ⟨S_, .i32⟩
  | .hbm, ⟨53, _⟩ => ⟨S64x300, .i32⟩
  | .hbm, ⟨54, _⟩ => ⟨S64x300, .i32⟩
  | .hbm, ⟨55, _⟩ => ⟨S64x300, .i32⟩
  | .hbm, ⟨56, _⟩ => ⟨S_, .i32⟩
  | .hbm, ⟨57, _⟩ => ⟨S64x300, .i32⟩
  | .hbm, ⟨58, _⟩ => ⟨S64x300, .i1⟩
  | .hbm, ⟨59, _⟩ => ⟨S64x300, .i32⟩
  | .hbm, ⟨60, _⟩ => ⟨S64x300, .i32⟩
  | .hbm, ⟨61, _⟩ => ⟨S_, .i32⟩
  | .hbm, ⟨62, _⟩ => ⟨S64x300, .i32⟩
  | .hbm, ⟨63, _⟩ => ⟨S64x300, .i1⟩
  | .hbm, ⟨64, _⟩ => ⟨S64x300, .i1⟩
  | .hbm, ⟨65, _⟩ => ⟨S_, .i32⟩
  | .hbm, ⟨66, _⟩ => ⟨S64x300, .i32⟩
  | .hbm, ⟨67, _⟩ => ⟨S64x300, .i32⟩
  | .hbm, ⟨68, _⟩ => ⟨S64x300, .i32⟩
  | .hbm, ⟨69, _⟩ => ⟨S_, .i32⟩
  | .hbm, ⟨70, _⟩ => ⟨S64x300, .i32⟩
  | .hbm, ⟨71, _⟩ => ⟨S64x300, .i32⟩
  | .hbm, ⟨72, _⟩ => ⟨S64x300, .i32⟩
  | .hbm, ⟨73, _⟩ => ⟨S_, .i32⟩
  | .hbm, ⟨74, _⟩ => ⟨S_, .i32⟩
  | .hbm, ⟨75, _⟩ => ⟨S64x300, .i32⟩
  | .hbm, ⟨76, _⟩ => ⟨S64x300, .i32⟩
  | .hbm, ⟨77, _⟩ => ⟨S64x300, .i32⟩
  | .hbm, ⟨78, _⟩ => ⟨S_, .i32⟩
  | .hbm, ⟨79, _⟩ => ⟨S64x300, .i32⟩
  | .hbm, ⟨80, _⟩ => ⟨S64x300, .i1⟩
  | .hbm, ⟨81, _⟩ => ⟨S64x300, .i32⟩
  | .hbm, ⟨82, _⟩ => ⟨S64x300, .i32⟩
  | .hbm, ⟨83, _⟩ => ⟨S_, .i32⟩
  | .hbm, ⟨84, _⟩ => ⟨S64x300, .i32⟩
  | .hbm, ⟨85, _⟩ => ⟨S64x300, .i1⟩
  | .hbm, ⟨86, _⟩ => ⟨S64x300, .i1⟩
  | .hbm, ⟨87, _⟩ => ⟨S_, .i32⟩
  | .hbm, ⟨88, _⟩ => ⟨S64x300, .i32⟩
  | .hbm, ⟨89, _⟩ => ⟨S64x300, .i32⟩
  | .hbm, ⟨90, _⟩ => ⟨S64x300, .i32⟩
  | .hbm, ⟨91, _⟩ => ⟨S64x300x1, .i32⟩
  | .hbm, ⟨92, _⟩ => ⟨S64x300x4, .i32⟩
  | .hbm, ⟨93, _⟩ => ⟨S_, .i32⟩
  | .hbm, ⟨94, _⟩ => ⟨S64x300x4, .i32⟩
  | .hbm, ⟨95, _⟩ => ⟨S64x300x4, .i1⟩
  | .hbm, ⟨96, _⟩ => ⟨S_, .i32⟩
  | .hbm, ⟨97, _⟩ => ⟨S64x300x4, .i32⟩
  | .hbm, ⟨98, _⟩ => ⟨S64x300x4, .i32⟩
  | .hbm, ⟨99, _⟩ => ⟨S64x300x4, .i32⟩
  | .hbm, ⟨100, _⟩ => ⟨S64x300x4x1, .i32⟩
  | .hbm, ⟨101, _⟩ => ⟨S1, .i32⟩
  | .hbm, ⟨102, _⟩ => ⟨S_, .i32⟩
  | .hbm, ⟨103, _⟩ => ⟨S64x300x4x1, .i32⟩
  | .hbm, ⟨104, _⟩ => ⟨S64x300x4x1, .i1⟩
  | .hbm, ⟨105, _⟩ => ⟨S1x1x1x1, .i32⟩
  | .hbm, ⟨106, _⟩ => ⟨S64x300x4x1, .i32⟩
  | .hbm, ⟨107, _⟩ => ⟨S64x300x4x1, .i1⟩
  | .hbm, ⟨108, _⟩ => ⟨S64x300x4x1, .i1⟩
  | .hbm, ⟨109, _⟩ => ⟨S_, .i1⟩
  | .hbm, ⟨110, _⟩ => ⟨S64x300x4, .i1⟩
  | .hbm, ⟨111, _⟩ => ⟨S64x300x4, .f32⟩
  | .hbm, ⟨112, _⟩ => ⟨S_, .f32⟩
  | .hbm, ⟨113, _⟩ => ⟨S64x300x4, .f32⟩
  | .hbm, ⟨114, _⟩ => ⟨S64x300x4, .f32⟩
  | _, _ => ⟨S64x5000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_values : Ref sig .tc := ⟨.hbm, 49, rfl⟩
abbrev main_indices : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v39 : Ref sig .tc := ⟨.hbm, 68, rfl⟩
abbrev main_c_5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_c : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_0 : Ref sig .tc := ⟨.hbm, 87, rfl⟩
abbrev main_call1_v12 : Ref sig .tc := ⟨.hbm, 88, rfl⟩
abbrev main_call1_v13 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_cst : Ref sig .tc := ⟨.hbm, 112, rfl⟩
abbrev main_call2_v14 : Ref sig .tc := ⟨.hbm, 113, rfl⟩
abbrev main_v46 : Ref sig .tc := ⟨.hbm, 114, rfl⟩

abbrev nD : Nat := 1
abbrev τ : Topo := Topo.v7x

variable {F : FTy → Type} [FloatOps F]
-- ==== Codes.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩
abbrev S64x3125x128 : Shape := ⟨3, ![64, 3125, 128]⟩
abbrev S64x3136x128 : Shape := ⟨3, ![64, 3136, 128]⟩
abbrev S64x4x5000 : Shape := ⟨3, ![64, 4, 5000]⟩
abbrev S64x8x5000 : Shape := ⟨3, ![64, 8, 5000]⟩
abbrev S64x8 : Shape := ⟨2, ![64, 8]⟩
abbrev S64x8x1 : Shape := ⟨3, ![64, 8, 1]⟩
abbrev S64x8x128 : Shape := ⟨3, ![64, 8, 128]⟩
abbrev S64x8x512 : Shape := ⟨3, ![64, 8, 512]⟩
abbrev S1x3136x128 : Shape := ⟨3, ![1, 3136, 128]⟩
abbrev S1x8x5000 : Shape := ⟨3, ![1, 8, 5000]⟩
abbrev S1x8x128 : Shape := ⟨3, ![1, 8, 128]⟩
abbrev S1x8x512 : Shape := ⟨3, ![1, 8, 512]⟩
abbrev S3136x128 : Shape := ⟨2, ![3136, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S98x32x128 : Shape := ⟨3, ![98, 32, 128]⟩
abbrev S98 : Shape := ⟨1, ![98]⟩
abbrev S30 : Shape := ⟨1, ![30]⟩
abbrev S1x512 : Shape := ⟨2, ![1, 512]⟩
abbrev S32x128 : Shape := ⟨2, ![32, 128]⟩
abbrev S1x1x128 : Shape := ⟨3, ![1, 1, 128]⟩
abbrev S1x32x128 : Shape := ⟨3, ![1, 32, 128]⟩
abbrev S1x1x512 : Shape := ⟨3, ![1, 1, 512]⟩
abbrev S8x5000 : Shape := ⟨2, ![8, 5000]⟩
abbrev S1x5000 : Shape := ⟨2, ![1, 5000]⟩
abbrev S4x5000 : Shape := ⟨2, ![4, 5000]⟩
abbrev S5000x512 : Shape := ⟨2, ![5000, 512]⟩
abbrev S8x512 : Shape := ⟨2, ![8, 512]⟩
abbrev S64x1x300 : Shape := ⟨3, ![64, 1, 300]⟩
abbrev S64x300 : Shape := ⟨2, ![64, 300]⟩
abbrev S64x4x300 : Shape := ⟨3, ![64, 4, 300]⟩
abbrev S64x300x4 : Shape := ⟨3, ![64, 300, 4]⟩

abbrev nBuf : Space → Nat
  | .hbm => 27
  | .vmem => 16
  | .smem => 0
  | _ => 0

abbrev bufTy : (tb : Table) → Fin (tcTables nBuf tb) → BufTy
  | .hbm, ⟨0, _⟩ => ⟨S64x5000x80, .i32⟩
  | .hbm, ⟨1, _⟩ => ⟨S64x5000x4, .f32⟩
  | .hbm, ⟨2, _⟩ => ⟨S64x2, .i32⟩
  | .hbm, ⟨3, _⟩ => ⟨S_, .i32⟩
  | .hbm, ⟨4, _⟩ => ⟨S64x3125x128, .i32⟩
  | .hbm, ⟨5, _⟩ => ⟨S_, .i32⟩
  | .hbm, ⟨6, _⟩ => ⟨S_, .i32⟩
  | .hbm, ⟨7, _⟩ => ⟨S64x3136x128, .i32⟩
  | .hbm, ⟨8, _⟩ => ⟨S64x4x5000, .f32⟩
  | .hbm, ⟨9, _⟩ => ⟨S_, .i32⟩
  | .hbm, ⟨10, _⟩ => ⟨S_, .f32⟩
  | .hbm, ⟨11, _⟩ => ⟨S64x8x5000, .f32⟩
  | .hbm, ⟨12, _⟩ => ⟨S64x2, .f32⟩
  | .hbm, ⟨13, _⟩ => ⟨S_, .i32⟩
  | .hbm, ⟨14, _⟩ => ⟨S_, .f32⟩
  | .hbm, ⟨15, _⟩ => ⟨S64x8, .f32⟩
  | .hbm, ⟨16, _⟩ => ⟨S64x8x1, .f32⟩
  | .hbm, ⟨17, _⟩ => ⟨S64x8x128, .f32⟩
  | .hbm, ⟨18, _⟩ => ⟨S64x8x512, .i32⟩
  | .hbm, ⟨19, _⟩ => ⟨S64x8x512, .i32⟩
  | .hbm, ⟨20, _⟩ => ⟨S64x8x512, .f32⟩
  | .hbm, ⟨21, _⟩ => ⟨S64x1x300, .i32⟩
  | .hbm, ⟨22, _⟩ => ⟨S64x300, .i32⟩
  | .hbm, ⟨23, _⟩ => ⟨S64x1x300, .i32⟩
  | .hbm, ⟨24, _⟩ => ⟨S64x300, .i32⟩
  | .hbm, ⟨25, _⟩ => ⟨S64x4x300, .f32⟩
  | .hbm, ⟨26, _⟩ => ⟨S64x300x4, .f32⟩
  | .local _ .vmem, ⟨0, _⟩ => ⟨S1x3136x128, .i32⟩
  | .local _ .vmem, ⟨1, _⟩ => ⟨S1x3136x128, .i32⟩
  | .local _ .vmem, ⟨2, _⟩ => ⟨S1x8x5000, .f32⟩
  | .local _ .vmem, ⟨3, _⟩ => ⟨S1x8x5000, .f32⟩
  | .local _ .vmem, ⟨4, _⟩ => ⟨S1x8x128, .f32⟩
  | .local _ .vmem, ⟨5, _⟩ => ⟨S1x8x128, .f32⟩
  | .local _ .vmem, ⟨6, _⟩ => ⟨S1x8x512, .i32⟩
  | .local _ .vmem, ⟨7, _⟩ => ⟨S1x8x512, .i32⟩
  | .local _ .vmem, ⟨8, _⟩ => ⟨S1x8x512, .i32⟩
  | .local _ .vmem, ⟨9, _⟩ => ⟨S1x8x512, .i32⟩
  | .local _ .vmem, ⟨10, _⟩ => ⟨S1x8x512, .f32⟩
  | .local _ .vmem, ⟨11, _⟩ => ⟨S1x8x512, .f32⟩
  | .local _ .vmem, ⟨12, _⟩ => ⟨S3136x128, .i32⟩
  | .local _ .vmem, ⟨13, _⟩ => ⟨S3136x128, .i16⟩
  | .local _ .vmem, ⟨14, _⟩ => ⟨S3136x128, .i32⟩
  | .local _ .vmem, ⟨15, _⟩ => ⟨S8x128, .i32⟩
  | _, _ => ⟨S64x5000x80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c15_i32 : BitVec 32 := 15#32
  let v11 : BitVec 32 := Scalar.addi c0_i32 c15_i32
  let c1_i32 : BitVec 32 := 1#32
  ⟨c0_i32, v11, c1_i32⟩
@[reducible] def k0_t2_loop : Scf.Loop 32 :=
  let c0_i32_12 : BitVec 32 := 0#32
  let c17_i32 : BitVec 32 := 17#32
  let v40 : BitVec 32 := Scalar.addi c0_i32_12 c17_i32
  let c1_i32_13 : BitVec 32 := 1#32
  ⟨c0_i32_12, v40, c1_i32_13⟩
@[reducible] def k0_t3_loop : Scf.Loop 32 :=
  let c0_i32_74 : BitVec 32 := 0#32
  let c20_i32 : BitVec 32 := 20#32
  let v177 : BitVec 32 := Scalar.addi c0_i32_74 c20_i32
  let c1_i32_75 : BitVec 32 := 1#32
  ⟨c0_i32_74, v177, c1_i32_75⟩
@[reducible] def k0_t4_loop : Scf.Loop 32 :=
  let c0_i32_39 : BitVec 32 := 0#32
  let c300_i32_40 : BitVec 32 := 300#32
  let v101 : BitVec 32 := Scalar.addi c0_i32_39 c300_i32_40
  let c1_i32_41 : BitVec 32 := 1#32
  ⟨c0_i32_39, v101, c1_i32_41⟩
def k0_off1 (v186 : BitVec 32) : Fin 2 → Nat :=
  let c32_i32 : BitVec 32 := 32#32
  let v187 : BitVec 32 := Scalar.muli v186 c32_i32
  let v188 : Index := Scalar.indexCast v187
  let c0_76 : Index := 0#32
  ![v188.toNat, 0]

def k0_chk1 (v186 : BitVec 32) : Prop :=
  (∀ a, (k0_off1 v186) a + S32x128.size a ≤ S3136x128.size a)
theorem k0_off1_inb : ∀ (v186 : BitVec 32) (k0_hw1 : k0_chk1 v186), ∀ a, (k0_off1 v186) a + S32x128.size a ≤ S3136x128.size a := fun v186 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CodesReferenceIdeal.lean ====
abbrev S64x5000x80 : Shape := ⟨3, ![64, 5000, 80]⟩
abbrev S64x5000x4 : Shape := ⟨3, ![64, 5000, 4]⟩
abbrev S64x2 : Shape := ⟨2, ![64, 2]⟩
abbrev S_ : Shape := ⟨0, ![]⟩
abbrev S64x5000x1 : Shape := ⟨3, ![64, 5000, 1]⟩
abbrev S64x5000 : Shape := ⟨2, ![64, 5000]⟩
abbrev S1x64x1x2 : Shape := ⟨4, ![1, 64, 1, 2]⟩
abbrev S1x64x2x2 : Shape := ⟨4, ![1, 64, 2, 2]⟩
abbrev S64x4 : Shape := ⟨2, ![64, 4]⟩
abbrev S64x1x4 : Shape := ⟨3, ![64, 1, 4]⟩
abbrev S64x400000 : Shape := ⟨2, ![64, 400000]⟩
abbrev S64x300 : Shape := ⟨2, ![64, 300]⟩
abbrev S64x300x1 : Shape := ⟨3, ![64, 300, 1]⟩
abbrev S64x300x4 : Shape := ⟨3, ![64, 300, 4]⟩
abbrev S64x300x4x1 : Shape := ⟨4, ![64, 300, 4, 1]⟩
abbrev S1 : Shape := ⟨1, ![1]⟩
abbrev S1x1x1x1 : Shape := ⟨4, ![1, 1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S64x5000x80, .i32⟩
  | .hbm, ⟨1, _⟩ => ⟨S64x5000x4, .f32⟩
  | .hbm, ⟨2, _⟩ => ⟨S64x2, .i32⟩
  | .hbm, ⟨3, _⟩ => ⟨S_, .i32⟩
  | .hbm, ⟨4, _⟩ => ⟨S64x5000x1, .f32⟩
  | .hbm, ⟨5, _⟩ => ⟨S64x5000, .f32⟩
  | .hbm, ⟨6, _⟩ => ⟨S64x5000x1, .f32⟩
  | .hbm, ⟨7, _⟩ => ⟨S64x5000, .f32⟩
  | .hbm, ⟨8, _⟩ => ⟨S64x5000x1, .f32⟩
  | .hbm, ⟨9, _⟩ => ⟨S64x5000, .f32⟩
  | .hbm, ⟨10, _⟩ => ⟨S64x5000x1, .f32⟩
  | .hbm, ⟨11, _⟩ => ⟨S64x5000, .f32⟩
  | .hbm, ⟨12, _⟩ => ⟨S_, .f32⟩
  | .hbm, ⟨13, _⟩ => ⟨S64x5000, .f32⟩
  | .hbm, ⟨14, _⟩ => ⟨S64x5000, .f32⟩
  | .hbm, ⟨15, _⟩ => ⟨S64x5000, .f32⟩
  | .hbm, ⟨16, _⟩ => ⟨S_, .f32⟩
  | .hbm, ⟨17, _⟩ => ⟨S64x5000, .f32⟩
  | .hbm, ⟨18, _⟩ => ⟨S64x5000, .f32⟩
  | .hbm, ⟨19, _⟩ => ⟨S64x5000, .f32⟩
  | .hbm, ⟨20, _⟩ => ⟨S_, .f32⟩
  | .hbm, ⟨21, _⟩ => ⟨S64x5000, .f32⟩
  | .hbm, ⟨22, _⟩ => ⟨S64x5000, .f32⟩
  | .hbm, ⟨23, _⟩ => ⟨S64x5000, .f32⟩
  | .hbm, ⟨24, _⟩ => ⟨S_, .f32⟩
  | .hbm, ⟨25, _⟩ => ⟨S64x5000, .f32⟩
  | .hbm, ⟨26, _⟩ => ⟨S64x5000, .f32⟩
  | .hbm, ⟨27, _⟩ => ⟨S64x5000, .f32⟩
  | .hbm, ⟨28, _⟩ => ⟨S64x5000x1, .f32⟩
  | .hbm, ⟨29, _⟩ => ⟨S64x5000x1, .f32⟩
  | .hbm, ⟨30, _⟩ => ⟨S64x5000x1, .f32⟩
  | .hbm, ⟨31, _⟩ => ⟨S64x5000x1, .f32⟩
  | .hbm, ⟨32, _⟩ => ⟨S64x5000x4, .f32⟩
  | .hbm, ⟨33, _⟩ => ⟨S64x2, .f32⟩
  | .hbm, ⟨34, _⟩ => ⟨S1x64x1x2, .f32⟩
  | .hbm, ⟨35, _⟩ => ⟨S1x64x2x2, .f32⟩
  | .hbm, ⟨36, _⟩ => ⟨S64x4, .f32⟩
  | .hbm, ⟨37, _⟩ => ⟨S64x1x4, .f32⟩
  | .hbm, ⟨38, _⟩ => ⟨S64x5000x4, .f32⟩
  | .hbm, ⟨39, _⟩ => ⟨S64x5000x4, .f32⟩
  | .hbm, ⟨40, _⟩ => ⟨S64x400000, .i32⟩
  | .hbm, ⟨41, _⟩ => ⟨S64x300, .i32⟩
  | .hbm, ⟨42, _⟩ => ⟨S64x300, .i32⟩
  | .hbm, ⟨43, _⟩ => ⟨S_, .i32⟩
  | .hbm, ⟨44, _⟩ => ⟨S_, .i32⟩
  | .hbm, ⟨45, _⟩ => ⟨S64x300, .i32⟩
  | .hbm, ⟨46, _⟩ => ⟨S64x300, .i32⟩
  | .hbm, ⟨47, _⟩ => ⟨S64x300, .i32⟩
  | .hbm, ⟨48, _⟩ => ⟨S_, .i32⟩
  | .hbm, ⟨49, _⟩ => ⟨S64x300, .i32⟩
  | .hbm, ⟨50, _⟩ => ⟨S64x300, .i1⟩
  | .hbm, ⟨51, _⟩ => ⟨S64x300, .i32⟩
  | .hbm, ⟨52, _⟩ => ⟨S64x300, .i32⟩
  | .hbm, ⟨53, _⟩ => ⟨S_, .i32⟩
  | .hbm, ⟨54, _⟩ => ⟨S64x300, .i32⟩
  | .hbm, ⟨55, _⟩ => ⟨S64x300, .i1⟩
  | .hbm, ⟨56, _⟩ => ⟨S64x300, .i1⟩
  | .hbm, ⟨57, _⟩ => ⟨S_, .i32⟩
  | .hbm, ⟨58, _⟩ => ⟨S64x300, .i32⟩
  | .hbm, ⟨59, _⟩ => ⟨S64x300, .i32⟩
  | .hbm, ⟨60, _⟩ => ⟨S64x300, .i32⟩
  | .hbm, ⟨61, _⟩ => ⟨S_, .i32⟩
  | .hbm, ⟨62, _⟩ => ⟨S64x300, .i32⟩
  | .hbm, ⟨63, _⟩ => ⟨S64x300, .i32⟩
  | .hbm, ⟨64, _⟩ => ⟨S64x300, .i32⟩
  | .hbm, ⟨65, _⟩ => ⟨S_, .i32⟩
  | .hbm, ⟨66, _⟩ => ⟨S_, .i32⟩
  | .hbm, ⟨67, _⟩ => ⟨S64x300, .i32⟩
  | .hbm, ⟨68, _⟩ => ⟨S64x300, .i32⟩
  | .hbm, ⟨69, _⟩ => ⟨S64x300, .i32⟩
  | .hbm, ⟨70, _⟩ => ⟨S_, .i32⟩
  | .hbm, ⟨71, _⟩ => ⟨S64x300, .i32⟩
  | .hbm, ⟨72, _⟩ => ⟨S64x300, .i1⟩
  | .hbm, ⟨73, _⟩ => ⟨S64x300, .i32⟩
  | .hbm, ⟨74, _⟩ => ⟨S64x300, .i32⟩
  | .hbm, ⟨75, _⟩ => ⟨S_, .i32⟩
  | .hbm, ⟨76, _⟩ => ⟨S64x300, .i32⟩
  | .hbm, ⟨77, _⟩ => ⟨S64x300, .i1⟩
  | .hbm, ⟨78, _⟩ => ⟨S64x300, .i1⟩
  | .hbm, ⟨79, _⟩ => ⟨S_, .i32⟩
  | .hbm, ⟨80, _⟩ => ⟨S64x300, .i32⟩
  | .hbm, ⟨81, _⟩ => ⟨S64x300, .i32⟩
  | .hbm, ⟨82, _⟩ => ⟨S64x300, .i32⟩
  | .hbm, ⟨83, _⟩ => ⟨S64x300x1, .i32⟩
  | .hbm, ⟨84, _⟩ => ⟨S64x300x4, .i32⟩
  | .hbm, ⟨85, _⟩ => ⟨S_, .i32⟩
  | .hbm, ⟨86, _⟩ => ⟨S64x300x4, .i32⟩
  | .hbm, ⟨87, _⟩ => ⟨S64x300x4, .i1⟩
  | .hbm, ⟨88, _⟩ => ⟨S_, .i32⟩
  | .hbm, ⟨89, _⟩ => ⟨S64x300x4, .i32⟩
  | .hbm, ⟨90, _⟩ => ⟨S64x300x4, .i32⟩
  | .hbm, ⟨91, _⟩ => ⟨S64x300x4, .i32⟩
  | .hbm, ⟨92, _⟩ => ⟨S64x300x4x1, .i32⟩
  | .hbm, ⟨93, _⟩ => ⟨S1, .i32⟩
  | .hbm, ⟨94, _⟩ => ⟨S_, .i32⟩
  | .hbm, ⟨95, _⟩ => ⟨S64x300x4x1, .i32⟩
  | .hbm, ⟨96, _⟩ => ⟨S64x300x4x1, .i1⟩
  | .hbm, ⟨97, _⟩ => ⟨S1x1x1x1, .i32⟩
  | .hbm, ⟨98, _⟩ => ⟨S64x300x4x1, .i32⟩
  | .hbm, ⟨99, _⟩ => ⟨S64x300x4x1, .i1⟩
  | .hbm, ⟨100, _⟩ => ⟨S64x300x4x1, .i1⟩
  | .hbm, ⟨101, _⟩ => ⟨S_, .i1⟩
  | .hbm, ⟨102, _⟩ => ⟨S64x300x4, .i1⟩
  | .hbm, ⟨103, _⟩ => ⟨S64x300x4, .f32⟩
  | .hbm, ⟨104, _⟩ => ⟨S_, .f32⟩
  | .hbm, ⟨105, _⟩ => ⟨S64x300x4, .f32⟩
  | .hbm, ⟨106, _⟩ => ⟨S64x300x4, .f32⟩
  | _, _ => ⟨S64x5000x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v33 : Ref sig .tc := ⟨.hbm, 60, rfl⟩
abbrev main_c_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_cst : Ref sig .tc := ⟨.hbm, 104, rfl⟩
abbrev main_call2_v14 : Ref sig .tc := ⟨.hbm, 105, rfl⟩
abbrev main_v40 : Ref sig .tc := ⟨.hbm, 106, rfl⟩

abbrev nD : Nat := 1
abbrev τ : Topo := Topo.v7x

variable {F : FTy → Type} [FloatOps F]
-- ==== Proof.Words.lean ====
/-
  Word arithmetic the selection rests on: the floor division by a positive word, the middle of two words, a bisection
  that keeps a property at one of its ends, and the number of ones in a vector of bits as the sum of the bits.
-/
module

public import Idealize.ShloMosaic.PureOps.Reduce
public import Idealize.ShloMosaic.Lib.WordCmp
public import Idealize.ShloMosaic.Lib.WordArith
public import Idealize.ShloMosaic.Lib.WordSum
public import Idealize.ShloMosaic.Lib.SortNet.Extract
public import Mathlib.Data.BitVec
public import Mathlib.Tactic.Ring
public import Mathlib.Tactic.Linarith
public import Mathlib.Tactic.NormNum
public import Mathlib.Algebra.BigOperators.Group.Finset.Sigma
public import Mathlib.Algebra.BigOperators.Group.Finset.Piecewise

@[expose] public section

namespace Cert.Words

open Idealize.ShloMosaic

/-! ## Bits of comparisons -/

theorem ofBool_eq_one {b : Bool} : BitVec.ofBool b = 1#1 ↔ b = true := by cases b <;> decide

theorem sgt_iff {w : ℕ} (x y : BitVec w) : IntOp.cmpi .sgt x y = 1#1 ↔ y.toInt < x.toInt := by
  rw [WordCmp.cmpi_sgt_eq, ofBool_eq_one, decide_eq_true_eq]
theorem slt_iff {w : ℕ} (x y : BitVec w) : IntOp.cmpi .slt x y = 1#1 ↔ x.toInt < y.toInt := by
  rw [WordCmp.cmpi_slt_eq, ofBool_eq_one, decide_eq_true_eq]
theorem sge_iff {w : ℕ} (x y : BitVec w) : IntOp.cmpi .sge x y = 1#1 ↔ y.toInt ≤ x.toInt := by
  rw [WordCmp.cmpi_sge_eq, ofBool_eq_one, decide_eq_true_eq]
theorem eq_iff {w : ℕ} (x y : BitVec w) : IntOp.cmpi .eq x y = 1#1 ↔ x = y := by
  rw [WordCmp.cmpi_eq_eq, ofBool_eq_one, decide_eq_true_eq]
theorem ne_iff {w : ℕ} (x y : BitVec w) : IntOp.cmpi .ne x y = 1#1 ↔ x ≠ y := by
  rw [WordCmp.cmpi_ne_eq, ofBool_eq_one, decide_eq_true_eq]
theorem andi_iff (x y : BitVec 1) : IntOp.andi x y = 1#1 ↔ x = 1#1 ∧ y = 1#1 := by
  revert x y; decide
theorem ori_iff (x y : BitVec 1) : IntOp.ori x y = 1#1 ↔ x = 1#1 ∨ y = 1#1 := by
  revert x y; decide

/-! ## Floor division -/

/-- The sign of a word as the compiled text computes it: one bit for positive less one bit for negative. -/
theorem sign_word (x : BitVec 32) :
    (0 < x.toInt ∧ (IntOp.cmpi .sgt x 0#32).setWidth 32 - (IntOp.cmpi .slt x 0#32).setWidth 32 = 1#32)
      ∨ (x.toInt = 0 ∧ (IntOp.cmpi .sgt x 0#32).setWidth 32 - (IntOp.cmpi .slt x 0#32).setWidth 32 = 0#32)
      ∨ (x.toInt < 0 ∧ (IntOp.cmpi .sgt x 0#32).setWidth 32 - (IntOp.cmpi .slt x 0#32).setWidth 32 = 4294967295#32) := by
  have h0 : (0#32).toInt = 0 := rfl
  rw [WordCmp.cmpi_sgt_eq, WordCmp.cmpi_slt_eq, h0]
  rcases lt_trichotomy x.toInt 0 with h | h | h
  · right; right; refine ⟨h, ?_⟩
    rw [decide_eq_false (by omega), decide_eq_true h]; rfl
  · right; left; refine ⟨h, ?_⟩
    rw [decide_eq_false (by omega), decide_eq_false (by omega)]; rfl
  · left; refine ⟨h, ?_⟩
    rw [decide_eq_true h, decide_eq_false (by omega)]; rfl

/-- Quotient and remainder, corrected by one where the signs differ and the remainder is not zero, make the floor of the
    division by a positive word. -/
theorem floor_div (u : ArithUnit) (x d : BitVec 32) (hd : 0 < d.toInt) (sd : BitVec 32) (hsd : sd = 1#32) :
    (Scalar.select (IntOp.andi
        (IntOp.cmpi .ne ((IntOp.cmpi .sgt x 0#32).setWidth 32 - (IntOp.cmpi .slt x 0#32).setWidth 32) sd)
        (IntOp.cmpi .ne (IntOp.remsi u x d) 0#32))
      (IntOp.divsi u x d - 1#32) (IntOp.divsi u x d)).toInt = x.toInt / d.toInt := by
  subst hsd
  have hd0 : d ≠ 0 := by rintro rfl; exact absurd hd (by decide)
  have hdm : d ≠ -1 := by rintro rfl; exact absurd hd (by decide)
  have hc : ¬ IntOp.SDivCorner x d := by rintro (h | ⟨-, h⟩); exacts [hd0 h, hdm h]
  have hq : (IntOp.divsi u x d).toInt = x.toInt.tdiv d.toInt := by
    rw [IntOp.divsi, if_neg hc, BitVec.toInt_sdiv_of_ne_or_ne _ _ (Or.inr hdm)]
  have hr : (IntOp.remsi u x d).toInt = x.toInt.tmod d.toInt := by
    rw [IntOp.remsi, if_neg hc, BitVec.toInt_srem]
  have hx1 := BitVec.le_toInt x
  have hx2 := BitVec.toInt_lt (x := x)
  have hd2 := BitVec.toInt_lt (x := d)
  norm_num at hx1 hx2 hd2
  have hrz : IntOp.remsi u x d ≠ 0#32 ↔ x.toInt.tmod d.toInt ≠ 0 := by
    rw [← hr]; constructor
    · intro h g; exact h (BitVec.eq_of_toInt_eq (by rw [g]; rfl))
    · intro h g; exact h (by rw [g]; rfl)
  have hmain := Int.mul_tdiv_add_tmod x.toInt d.toInt
  rcases le_or_gt 0 x.toInt with hx | hx
  · have hcond : ¬ (IntOp.andi
        (IntOp.cmpi .ne ((IntOp.cmpi .sgt x 0#32).setWidth 32 - (IntOp.cmpi .slt x 0#32).setWidth 32) 1#32)
        (IntOp.cmpi .ne (IntOp.remsi u x d) 0#32)) = 1 := by
      intro h
      obtain ⟨h1, h2⟩ := (andi_iff _ _).1 h
      rw [ne_iff] at h1 h2
      rcases sign_word x with ⟨-, g⟩ | ⟨g, -⟩ | ⟨g, -⟩
      · exact h1 g
      · rw [hrz, g] at h2; exact h2 (by simp)
      · omega
    rw [Scalar.select, if_neg hcond, hq, Int.tdiv_eq_ediv_of_nonneg hx]
  · have hsg : (IntOp.cmpi .sgt x 0#32).setWidth 32 - (IntOp.cmpi .slt x 0#32).setWidth 32 = 4294967295#32 := by
      rcases sign_word x with ⟨g, -⟩ | ⟨g, -⟩ | ⟨-, g⟩
      · omega
      · omega
      · exact g
    rw [hsg]
    have e := Int.emod_add_mul_ediv x.toInt d.toInt
    have e0 := Int.emod_nonneg x.toInt (ne_of_gt hd)
    have e1 := Int.emod_lt_of_pos x.toInt hd
    have t1 : x.toInt.tmod d.toInt ≤ 0 := by
      have := Int.tmod_nonneg d.toInt (a := -x.toInt) (by omega)
      rw [Int.neg_tmod] at this; omega
    have t2 : -d.toInt < x.toInt.tmod d.toInt := by
      have := Int.tmod_lt_of_pos (-x.toInt) hd
      rw [Int.neg_tmod] at this; omega
    by_cases hz : x.toInt.tmod d.toInt = 0
    · have hcond : ¬ (IntOp.andi (IntOp.cmpi .ne (4294967295#32 : BitVec 32) 1#32)
          (IntOp.cmpi .ne (IntOp.remsi u x d) 0#32)) = 1 := by
        intro h
        have h2 := ((andi_iff _ _).1 h).2
        rw [ne_iff, hrz] at h2
        exact h2 hz
      rw [Scalar.select, if_neg hcond, hq]
      rw [hz, add_zero] at hmain
      symm
      apply Int.ediv_eq_of_eq_mul_right (ne_of_gt hd)
      exact hmain.symm
    · have hcond : (IntOp.andi (IntOp.cmpi .ne (4294967295#32 : BitVec 32) 1#32)
          (IntOp.cmpi .ne (IntOp.remsi u x d) 0#32)) = 1 := by
        refine (andi_iff _ _).2 ⟨by decide, ?_⟩
        rw [ne_iff, hrz]; exact hz
      rw [Scalar.select, if_pos hcond]
      have hqlo : -2147483648 ≤ x.toInt.tdiv d.toInt - 1 := by
        by_contra hcon
        push Not at hcon
        have : d.toInt * x.toInt.tdiv d.toInt ≤ 1 * x.toInt.tdiv d.toInt := by
          apply mul_le_mul_of_nonpos_right (by omega) (by omega)
        omega
      have hqhi : x.toInt.tdiv d.toInt ≤ 0 := by
        by_contra hcon
        push Not at hcon
        have : d.toInt * 1 ≤ d.toInt * x.toInt.tdiv d.toInt := mul_le_mul_of_nonneg_left (by omega) (le_of_lt hd)
        omega
      have hsub : (IntOp.divsi u x d - 1#32).toInt = x.toInt.tdiv d.toInt - 1 := by
        have h1 : (1#32).toInt = 1 := rfl
        rw [WordArith.toInt_sub_of_bounds _ _ (by rw [hq, h1]; omega) (by rw [hq, h1]; omega), hq, h1]
      rw [hsub]
      symm
      have t3 : x.toInt.tmod d.toInt < 0 := lt_of_le_of_ne t1 hz
      rw [mul_comm] at hmain
      rw [Int.ediv_eq_iff_of_pos hd]
      constructor
      · rw [sub_mul, one_mul]; omega
      · rw [sub_mul, one_mul]; omega

/-! ## A bisection -/

/-- A bisection over a range of integers that keeps a property at its lower end: if every step moves one end to the middle,
    the lower one only where the property holds, then `k` steps on a range no longer than `2 ^ k` leave at most one step
    between the ends, and the property still holds at the lower one. -/
theorem bisect {G : ℤ → Prop} (lo hi : ℕ → ℤ) (N : ℕ)
    (hstep : ∀ k < N, lo 0 ≤ lo k → lo k ≤ hi k → hi k ≤ hi 0 →
      (lo (k + 1) = lo k ∧ hi (k + 1) = (lo k + hi k) / 2)
      ∨ (lo (k + 1) = (lo k + hi k) / 2 ∧ hi (k + 1) = hi k ∧ G ((lo k + hi k) / 2)))
    (h0 : G (lo 0)) (hle : lo 0 ≤ hi 0) (hw : hi 0 - lo 0 ≤ 2 ^ N) :
    hi N ≤ lo N + 1 ∧ G (lo N) ∧ lo 0 ≤ lo N ∧ lo N ≤ hi N ∧ hi N ≤ hi 0 := by
  have key : ∀ k ≤ N, hi k - lo k ≤ 2 ^ (N - k) ∧ G (lo k) ∧ lo 0 ≤ lo k ∧ lo k ≤ hi k ∧ hi k ≤ hi 0 := by
    intro k
    induction k with
    | zero => intro _; exact ⟨by simpa using hw, h0, le_refl _, hle, le_refl _⟩
    | succ k ih =>
      intro hk
      obtain ⟨i1, i2, i3, i4, i5⟩ := ih (by omega)
      have hp : (2 : ℤ) ^ (N - k) = 2 * 2 ^ (N - (k + 1)) := by
        rw [show N - k = (N - (k + 1)) + 1 by omega, pow_succ]; ring
      rw [hp] at i1
      generalize (2 : ℤ) ^ (N - (k + 1)) = P at i1 ⊢
      rcases hstep k (by omega) i3 i4 i5 with ⟨h1, h2⟩ | ⟨h1, h2, h3⟩
      · rw [h1, h2]; exact ⟨by omega, i2, i3, by omega, by omega⟩
      · rw [h1, h2]; exact ⟨by omega, h3, by omega, by omega, i5⟩
  have := key N (le_refl _)
  simp only [Nat.sub_self, pow_zero] at this
  exact ⟨by omega, this.2⟩

/-! ## Sums of vectors of words -/

section Sums

variable {s t u : Shape}

/-- A shape cast only renames the places of a vector, so it keeps the sum. -/
theorem sum_shapeCast {M : Type} [AddCommMonoid M] (x : s.Idx → M) (h : s.ShapeCasts t) :
    ∑ j : t.Idx, shapeCast t x h j = ∑ i : s.Idx, x i :=
  Equiv.sum_comp (Shape.reshapeEquiv h) x

/-- An integer reduction by addition from zero, at a result index: the sum over the places that drop to it. -/
theorem reduce_add_apply {axes : List (Fin s.rank)} (src : IVec s 32) (h : s.Reduces axes t)
    (hacc : (0#32 : BitVec 32) = IKind.add.neutral) (j : t.Idx) :
    multiReductionI .add axes t src 0#32 h hacc j = ∑ i ∈ Finset.univ.filter (fun i => h.drop i = j), src i := by
  rw [multiReductionI_eq_reduceFold]
  show reduceFold h (· + ·) (0#32 : BitVec 32) src j = _
  rw [reduceFold_add_eq_sum, show (0#32 : BitVec 32) = 0 from rfl, zero_add]

/-- Summed over all its results, such a reduction is the sum of its source. -/
theorem sum_reduce_add {axes : List (Fin s.rank)} (src : IVec s 32) (h : s.Reduces axes t)
    (hacc : (0#32 : BitVec 32) = IKind.add.neutral) :
    ∑ j : t.Idx, multiReductionI .add axes t src 0#32 h hacc j = ∑ i : s.Idx, src i := by
  simp only [reduce_add_apply]
  exact Finset.sum_fiberwise _ _ _

/-- One result only: the reduction is the sum of its source. -/
theorem reduce_add_one {axes : List (Fin s.rank)} (src : IVec s 32) (h : s.Reduces axes t)
    (hacc : (0#32 : BitVec 32) = IKind.add.neutral) [Subsingleton t.Idx] (j : t.Idx) :
    multiReductionI .add axes t src 0#32 h hacc j = ∑ i : s.Idx, src i := by
  rw [reduce_add_apply, Finset.filter_true_of_mem fun i _ => Subsingleton.elim _ _]

/-- The sum of a vector of zeros and ones is the number of ones. -/
theorem sum_bits (p : s.Idx → Prop) [DecidablePred p] (v : IVec s 32) (hv : ∀ i, v i = if p i then 1#32 else 0#32) :
    ∑ i : s.Idx, v i = BitVec.ofNat 32 (Finset.univ.filter p).card := by
  have : ∀ S : Finset s.Idx, ∑ i ∈ S, v i = BitVec.ofNat 32 (S.filter p).card := by
    intro S
    classical
    induction S using Finset.induction_on with
    | empty => rfl
    | insert a S ha ih =>
      rw [Finset.sum_insert ha, ih, hv, Finset.filter_insert]
      by_cases h : p a
      · rw [if_pos h, if_pos h, Finset.card_insert_of_notMem (fun hm => ha (Finset.mem_filter.1 hm).1), BitVec.ofNat_add,
          BitVec.add_comm]
      · rw [if_neg h, if_neg h]; exact BitVec.zero_add _
  exact this Finset.univ

end Sums

/-! ## Maxima and minima of vectors of words -/

/-- A fold of the signed minimum over a set of indices is at most the start and every word met, and is one of them. -/
theorem fold_minsi_spec {κ : Type} [DecidableEq κ] {w : ℕ} (g : κ → BitVec w) (s : Finset κ) (init : BitVec w) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨le_of_eq (by rw [Finset.fold_empty]), fun i hi => absurd hi (Finset.notMem_empty i), Or.inl (by rw [Finset.fold_empty])⟩
  | insert a s has ih =>
    obtain ⟨h1, h2, h3⟩ := ih
    rw [Finset.fold_insert has]
    have hm := SortNet.toInt_minsi (g a) (s.fold IntOp.minsi init g)
    refine ⟨le_trans (by rw [hm]; exact min_le_right _ _) h1, fun i hi => ?_, ?_⟩
    · rcases Finset.mem_insert.mp hi with rfl | hi
      · rw [hm]; exact min_le_left _ _
      · exact le_trans (by rw [hm]; exact min_le_right _ _) (h2 i hi)
    · rcases min_choice (g a).toInt (s.fold IntOp.minsi init g).toInt with h | h
      · exact Or.inr ⟨a, Finset.mem_insert_self a s, BitVec.eq_of_toInt_eq (hm.trans h)⟩
      · rcases h3 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

/-- A signed maximum over a nonempty set of places, started at the least word, is the greatest word there. -/
theorem reduce_max_apply {s t : Shape} {axes : List (Fin s.rank)} (src : IVec s 32) (h : s.Reduces axes t)
    (hacc : (2147483648#32 : BitVec 32) = IKind.maxsi.neutral) (j : t.Idx) (i₀ : s.Idx) (hi₀ : h.drop i₀ = j) :
    (∀ i, h.drop i = j → (src i).toInt ≤ (multiReductionI .maxsi axes t src 2147483648#32 h hacc j).toInt)
      ∧ ∃ i, h.drop i = j ∧ multiReductionI .maxsi axes t src 2147483648#32 h hacc j = src i := by
  classical
  rw [multiReductionI_eq_fold]
  have hspec := SortNet.fold_maxsi_spec src (Finset.univ.filter fun i => h.drop i = j) 2147483648#32
  change _ ∧ _ ∧ _ at hspec
  obtain ⟨-, h2, h3⟩ := hspec
  have hall : ∀ i, h.drop i = j → (src i).toInt ≤ ((Finset.univ.filter fun i => h.drop i = j).fold IKind.maxsi.op 2147483648#32 src).toInt :=
    fun i hi => h2 i (Finset.mem_filter.2 ⟨Finset.mem_univ _, hi⟩)
  refine ⟨hall, ?_⟩
  rcases h3 with h3 | ⟨i, hi, h3⟩
  · refine ⟨i₀, hi₀, BitVec.eq_of_toInt_eq (le_antisymm ?_ (hall i₀ hi₀))⟩
    refine le_trans (le_of_eq (congrArg BitVec.toInt h3)) (SortNet.intMin_toInt_le _)
  · exact ⟨i, (Finset.mem_filter.1 hi).2, h3⟩

/-- A signed minimum over a nonempty set of places, started at the greatest word, is the least word there. -/
theorem reduce_min_apply {s t : Shape} {axes : List (Fin s.rank)} (src : IVec s 32) (h : s.Reduces axes t)
    (hacc : (2147483647#32 : BitVec 32) = IKind.minsi.neutral) (j : t.Idx) (i₀ : s.Idx) (hi₀ : h.drop i₀ = j) :
    (∀ i, h.drop i = j → (multiReductionI .minsi axes t src 2147483647#32 h hacc j).toInt ≤ (src i).toInt)
      ∧ ∃ i, h.drop i = j ∧ multiReductionI .minsi axes t src 2147483647#32 h hacc j = src i := by
  classical
  rw [multiReductionI_eq_fold]
  have hspec := fold_minsi_spec src (Finset.univ.filter fun i => h.drop i = j) 2147483647#32
  obtain ⟨-, h2, h3⟩ := hspec
  have hall : ∀ i, h.drop i = j → ((Finset.univ.filter fun i => h.drop i = j).fold IKind.minsi.op 2147483647#32 src).toInt ≤ (src i).toInt :=
    fun i hi => h2 i (Finset.mem_filter.2 ⟨Finset.mem_univ _, hi⟩)
  refine ⟨hall, ?_⟩
  rcases h3 with h3 | ⟨i, hi, h3⟩
  · refine ⟨i₀, hi₀, BitVec.eq_of_toInt_eq (le_antisymm (hall i₀ hi₀) ?_)⟩
    refine le_trans ?_ (le_of_eq (congrArg BitVec.toInt h3).symm)
    have := BitVec.toInt_lt (x := src i₀)
    have e : (2147483647#32 : BitVec 32).toInt = 2147483647 := rfl
    rw [e]; norm_num at this; omega
  · exact ⟨i, (Finset.mem_filter.1 hi).2, h3⟩

end Cert.Words
-- ==== Proof.Counts.lean ====
/-
  What the kernel's counting steps compute: the printed chains that add up a vector of comparison bits are the numbers
  of places where the comparison holds, and the printed middle of two words is the floor of half their sum.
-/
module

public import proofs.«01_k».proof.Proof.Gen.Kernel.Skeleton
public import proofs.«01_k».proof.Proof.Words

@[expose] public section

noncomputable section

namespace Cert.Kernel.Hand

open Cert.Kernel Cert.Kernel.Gen Cert.Words
open Idealize.ShloMosaic

variable {F : FTy → Type} [BitOps F]

/-- A place's number: its row times 128 plus its lane. -/
def num (j : S3136x128.Idx) : ℕ := 128 * (j 0).val + (j 1).val

theorem row_lt (j : S3136x128.Idx) : (j 0).val < 3136 := (j 0).isLt
theorem lane_lt (j : S3136x128.Idx) : (j 1).val < 128 := (j 1).isLt

theorem num_lt (j : S3136x128.Idx) : num j < 401408 := by
  have := row_lt j; have := lane_lt j; unfold num; omega

theorem num_inj : Function.Injective num := by
  intro a b h
  have h1 := lane_lt a; have h2 := lane_lt b
  unfold num at h
  funext x
  apply Fin.ext
  match x with
  | ⟨0, _⟩ => show (a 0).val = (b 0).val; omega
  | ⟨1, _⟩ => show (a 1).val = (b 1).val; omega

/-- The place numbered `n`. -/
def place (n : ℕ) (h : n < 401408) : S3136x128.Idx := fun a =>
  match a with
  | ⟨0, _⟩ => ⟨n / 128, by show n / 128 < 3136; omega⟩
  | ⟨1, _⟩ => ⟨n % 128, by show n % 128 < 128; omega⟩

theorem num_place (n : ℕ) (h : n < 401408) : num (place n h) = n := by
  show 128 * (n / 128) + n % 128 = n; omega

instance : Nonempty S3136x128.Idx := ⟨place 0 (by decide)⟩

/-- How many places satisfy `p`. -/
abbrev cnt (p : S3136x128.Idx → Prop) [DecidablePred p] : ℕ := (Finset.univ.filter p).card

theorem cnt_le (p : S3136x128.Idx → Prop) [DecidablePred p] : cnt p ≤ 401408 := by
  refine le_trans (Finset.card_le_card_of_injOn num (t := Finset.range 401408) (fun j _ => ?_) (fun a _ b _ h => num_inj h))
    (by rw [Finset.card_range])
  simpa using num_lt j

theorem cnt_ofNat (p : S3136x128.Idx → Prop) [DecidablePred p] : (BitVec.ofNat 32 (cnt p)).toInt = cnt p :=
  WordArith.toInt_ofNat_small _ (by have := cnt_le p; omega)

instance : Subsingleton S1.Idx := ⟨fun a b => funext fun x => Fin.ext (by
  have h1 : (a x).val < 1 := by have := (a x).isLt; have e : S1.size x = 1 := by { match x with | ⟨0, _⟩ => rfl }; omega
  have h2 : (b x).val < 1 := by have := (b x).isLt; have e : S1.size x = 1 := by { match x with | ⟨0, _⟩ => rfl }; omega
  omega)⟩

/-- The chain the kernel adds up its 16-bit comparisons by. -/
theorem count16 (v : IVec S3136x128 16) (m : BitVec 16) :
    extractAt ![0, 0] (shapeCast S1x1 (multiReductionI .add [1] S1 (shapeCast S1x128 (multiReductionI .add [0] S128
      (extsi 32 (extui 16 (cmpi .sgt v (fun _ => m)) natLt_1_16) natLt_16_32) 0#32 reduces_S3136x128_S128 rfl) shapeCasts_S128_S1x128) 0#32
      reduces_S1x128_S1 rfl) shapeCasts_S1_S1x1) inpos_S1x1_p0_0 = BitVec.ofNat 32 (cnt fun j => m.toInt < (v j).toInt) := by
  show shapeCast S1x1 _ shapeCasts_S1_S1x1 _ = _
  refine (reduce_add_one (t := S1) _ reduces_S1x128_S1 rfl _).trans ?_
  refine (sum_shapeCast _ shapeCasts_S128_S1x128).trans ?_
  refine (sum_reduce_add _ _ _).trans ?_
  refine sum_bits _ _ fun i => ?_
  show ((IntOp.cmpi .sgt (v i) m).setWidth 16).signExtend 32 = _
  rw [WordCmp.cmpi_sgt_eq]
  by_cases h : m.toInt < (v i).toInt
  · rw [decide_eq_true h, if_pos h]; rfl
  · rw [decide_eq_false h, if_neg h]; rfl

/-- The chain the kernel adds up its 32-bit comparisons by. -/
theorem count32 (b : IVec S3136x128 1) (p : S3136x128.Idx → Prop) [DecidablePred p] (hb : ∀ j, b j = 1#1 ↔ p j) :
    extractAt ![0, 0, 0] (shapeCast S1x1x1 (multiReductionI .add [1, 2] S1 (shapeCast S1x3136x128
      (extui 32 b natLt_1_32) shapeCasts_S3136x128_S1x3136x128) 0#32 reduces_S1x3136x128_S1 rfl) shapeCasts_S1_S1x1x1)
      inpos_S1x1x1_p0_0_0 = BitVec.ofNat 32 (cnt p) := by
  show shapeCast S1x1x1 _ shapeCasts_S1_S1x1x1 _ = _
  refine (reduce_add_one (t := S1) _ reduces_S1x3136x128_S1 rfl _).trans ?_
  refine (sum_shapeCast _ shapeCasts_S3136x128_S1x3136x128).trans ?_
  refine sum_bits _ _ fun i => ?_
  show (b i).setWidth 32 = _
  by_cases h : p i
  · rw [if_pos h, (hb i).2 h]; rfl
  · rw [if_neg h]
    have : b i = 0#1 := by
      have h1 : ¬ b i = 1#1 := fun h' => h ((hb i).1 h')
      generalize b i = c at h1 ⊢; revert h1; revert c; decide
    rw [this]; rfl

/-- The middle of two words as the kernel computes it. -/
def midW (lo hi : BitVec 32) : BitVec 32 :=
  Scalar.select (IntOp.andi
      (IntOp.cmpi .ne ((IntOp.cmpi .sgt (lo + hi) 0#32).setWidth 32 - (IntOp.cmpi .slt (lo + hi) 0#32).setWidth 32)
        ((IntOp.cmpi .sgt 2#32 0#32).setWidth 32 - (IntOp.cmpi .slt 2#32 0#32).setWidth 32))
      (IntOp.cmpi .ne (IntOp.remsi .scalar (lo + hi) 2#32) 0#32))
    (IntOp.divsi .scalar (lo + hi) 2#32 - 1#32) (IntOp.divsi .scalar (lo + hi) 2#32)

theorem midW_toInt (lo hi : BitVec 32) (h1 : -1000000 ≤ lo.toInt) (h2 : lo.toInt ≤ 1000000) (h3 : -1000000 ≤ hi.toInt)
    (h4 : hi.toInt ≤ 1000000) : (midW lo hi).toInt = (lo.toInt + hi.toInt) / 2 := by
  have h := floor_div .scalar (lo + hi) 2#32 (by decide) ((IntOp.cmpi .sgt 2#32 0#32).setWidth 32 - (IntOp.cmpi .slt 2#32 0#32).setWidth 32) (by decide)
  refine h.trans ?_
  rw [WordArith.toInt_add_of_bounds _ _ (by omega) (by omega)]; rfl

/-- A word in the 16-bit range keeps its value when cut to 16 bits. -/
theorem toInt_cut (x : BitVec 32) (h1 : -32768 ≤ x.toInt) (h2 : x.toInt < 32768) : (x.setWidth 16).toInt = x.toInt := by
  rw [BitVec.toInt_setWidth]
  have hn := x.isLt
  rw [Int.bmod_def]
  norm_num
  rw [BitVec.toInt_eq_toNat_cond] at h1 h2 ⊢
  split <;> split <;> split at h1 <;> split at h2 <;> omega

theorem pay13_count (t : BitVec 32) (v : Vec F S3136x128 .i16) :
    extractAt ![0, 0] (k0_pay13 t v) inpos_S1x1_p0_0 = BitVec.ofNat 32 (cnt fun j => (t.setWidth 16).toInt < (v j : BitVec 16).toInt) :=
  count16 v (t.setWidth 16)

theorem pay12_count (lo hi : BitVec 32) (v : Vec F S3136x128 .i16) :
    extractAt ![0, 0] (k0_pay12 lo hi v) inpos_S1x1_p0_0
      = BitVec.ofNat 32 (cnt fun j => ((midW lo hi).setWidth 16).toInt < (v j : BitVec 16).toInt) :=
  count16 v ((midW lo hi).setWidth 16)

theorem pay17_count (lo hi : BitVec 32) (v : Vec F S3136x128 .i16) :
    extractAt ![0, 0] (k0_pay17 lo hi v) inpos_S1x1_p0_0
      = BitVec.ofNat 32 (cnt fun j => ((midW lo hi).setWidth 16).toInt < (v j : BitVec 16).toInt) :=
  count16 v ((midW lo hi).setWidth 16)

/-- The threshold the two bisections give together. -/
abbrev thr (t16 lo16 : BitVec 32) : BitVec 32 := Scalar.addi (Scalar.shli t16 16#32) (Scalar.addi lo16 32768#32)

theorem pay18_count (a b : BitVec 32) (v : Vec F S3136x128 .i32) :
    extractAt ![0, 0, 0] (k0_pay18 a b v) inpos_S1x1x1_p0_0_0 = BitVec.ofNat 32 (cnt fun j => (thr a b).toInt < (v j : BitVec 32).toInt) :=
  count32 (cmpi .sgt v (fun _ => thr a b)) _ fun j => sgt_iff _ _

theorem pay19_count (a b : BitVec 32) (v : Vec F S3136x128 .i32) :
    extractAt ![0, 0, 0] (k0_pay19 a b v) inpos_S1x1x1_p0_0_0 = BitVec.ofNat 32 (cnt fun j => (v j : BitVec 32) = thr a b) :=
  count32 (cmpi .eq v (fun _ => thr a b)) _ fun j => eq_iff _ _

theorem pay20_apply (j : S3136x128.Idx) : k0_pay20 j = BitVec.ofNat 32 (num j) := by
  show BitVec.ofNat 32 (0 * 3136 + (j 0).val) * BitVec.ofNat 32 128 + BitVec.ofNat 32 (0 * 128 + (j 1).val) = _
  rw [← BitVec.ofNat_mul, ← BitVec.ofNat_add]
  congr 1
  unfold num; omega

theorem pay20_toInt (j : S3136x128.Idx) : (k0_pay20 j).toInt = num j := by
  rw [pay20_apply, WordArith.toInt_ofNat_small _ (by have := num_lt j; omega)]

theorem pay21_count (a b lo hi : BitVec 32) (v : Vec F S3136x128 .i32) (hm : (midW lo hi).toInt ≤ 1000000) :
    extractAt ![0, 0, 0] (k0_pay21 a b lo hi v) inpos_S1x1x1_p0_0_0
      = BitVec.ofNat 32 (cnt fun j => (v j : BitVec 32) = thr a b ∧ (num j : ℤ) < (midW lo hi).toInt) := by
  refine count32 (cmpi .slt (select (cmpi .eq v (fun _ => thr a b)) k0_pay20 (fun _ => 1073741824#32)) (fun _ => midW lo hi)) _ fun j => ?_
  show IntOp.cmpi .slt (Scalar.select (IntOp.cmpi .eq (v j) (thr a b)) (k0_pay20 j) 1073741824#32) (midW lo hi) = 1#1 ↔ _
  rw [slt_iff]
  by_cases h : (v j : BitVec 32) = thr a b
  · rw [WordCmp.select_of_eq_one ((eq_iff _ _).2 h), pay20_toInt]; exact ⟨fun g => ⟨h, g⟩, fun g => g.2⟩
  · have h' : ¬ IntOp.cmpi .eq (v j : BitVec 32) (thr a b) = 1 := fun g => h ((eq_iff _ _).1 g)
    rw [Scalar.select, if_neg h']
    have e : (1073741824#32 : BitVec 32).toInt = 1073741824 := rfl
    rw [e]
    exact ⟨fun g => by omega, fun g => absurd g.1 h⟩

end Cert.Kernel.Hand
-- ==== Proof.Bisect.lean ====
/-
  What the kernel's three bisections leave: a threshold word and a bound on the number of a place such that at least 300
  places lie above the threshold, or on it with a number below the bound.
-/
module

public import proofs.«01_k».proof.Proof.Counts

@[expose] public section

noncomputable section

namespace Cert.Kernel.Hand

open Cert.Kernel Cert.Kernel.Gen Cert.Words
open Idealize.ShloMosaic

/-! ## Counting -/

theorem cnt_mono {p q : S3136x128.Idx → Prop} [DecidablePred p] [DecidablePred q] (h : ∀ j, p j → q j) : cnt p ≤ cnt q :=
  Finset.card_le_card fun j hj => Finset.mem_filter.2 ⟨Finset.mem_univ _, h j (Finset.mem_filter.1 hj).2⟩

theorem cnt_add_le {p q r : S3136x128.Idx → Prop} [DecidablePred p] [DecidablePred q] [DecidablePred r]
    (hpq : ∀ j, p j → ¬ q j) (hp : ∀ j, p j → r j) (hq : ∀ j, q j → r j) : cnt p + cnt q ≤ cnt r := by
  have hd : Disjoint (Finset.univ.filter p) (Finset.univ.filter q) :=
    Finset.disjoint_filter.2 fun j _ h => hpq j h
  show _ + _ ≤ _
  rw [← Finset.card_union_of_disjoint hd]
  refine Finset.card_le_card fun j hj => Finset.mem_filter.2 ⟨Finset.mem_univ _, ?_⟩
  rcases Finset.mem_union.1 hj with h | h
  · exact hp j (Finset.mem_filter.1 h).2
  · exact hq j (Finset.mem_filter.1 h).2

theorem cnt_all {p : S3136x128.Idx → Prop} [DecidablePred p] (h : ∀ j, p j) : 401408 ≤ cnt p := by
  have : (Finset.range 401408).card ≤ (Finset.univ.filter p).card := by
    refine Finset.card_le_card_of_injOn (fun n => if hn : n < 401408 then place n hn else place 0 (by decide)) (fun n hn => ?_) ?_
    · exact Finset.mem_coe.2 (Finset.mem_filter.2 ⟨Finset.mem_univ _, h _⟩)
    · intro a ha b hb hab
      have ha' : a < 401408 := Finset.mem_range.1 (Finset.mem_coe.1 ha)
      have hb' : b < 401408 := Finset.mem_range.1 (Finset.mem_coe.1 hb)
      simp only [dif_pos ha', dif_pos hb'] at hab
      have := congrArg num hab
      rwa [num_place, num_place] at this
  rwa [Finset.card_range] at this

/-! ## One halving -/

/-- One trip of the first two bisections: the upper end moves to the middle where fewer than `K` lie above it, the lower
    end moves there otherwise. -/
def halve (v : S3136x128.Idx → BitVec 16) (K : BitVec 32) (a : BitVec 32 × BitVec 32) : BitVec 32 × BitVec 32 :=
  (Scalar.select (IntOp.cmpi .slt (BitVec.ofNat 32 (cnt fun j => ((midW a.1 a.2).setWidth 16).toInt < (v j).toInt)) K) a.1 (midW a.1 a.2),
   Scalar.select (IntOp.cmpi .slt (BitVec.ofNat 32 (cnt fun j => ((midW a.1 a.2).setWidth 16).toInt < (v j).toInt)) K) (midW a.1 a.2) a.2)

/-- One trip of the third bisection, over the numbers of the places that hold the threshold. -/
def halveTie (e : S3136x128.Idx → Prop) [DecidablePred e] (K : BitVec 32) (a : BitVec 32 × BitVec 32) : BitVec 32 × BitVec 32 :=
  (Scalar.select (IntOp.cmpi .sge (BitVec.ofNat 32 (cnt fun j => e j ∧ (num j : ℤ) < (midW a.1 a.2).toInt)) K) a.1 (midW a.1 a.2),
   Scalar.select (IntOp.cmpi .sge (BitVec.ofNat 32 (cnt fun j => e j ∧ (num j : ℤ) < (midW a.1 a.2).toInt)) K) (midW a.1 a.2) a.2)

theorem select_one {α : Type} {c : BitVec 1} (h : c = 1#1) (a b : α) : Scalar.select c a b = a := if_pos h
theorem select_ne {α : Type} {c : BitVec 1} (h : ¬ c = 1#1) (a b : α) : Scalar.select c a b = b := if_neg h

/-- Both 16-bit bisections: when they end, the ends are at most one apart, and at least `K` words lie above the lower one. -/
theorem halve_run (v : S3136x128.Idx → BitVec 16) (K : BitVec 32) (N : ℕ) (st : ℕ → BitVec 32 × BitVec 32)
    (hst : ∀ k < N, st (k + 1) = halve v K (st k)) (L H : ℤ) (h0 : (st 0).1.toInt = L) (h1 : (st 0).2.toInt = H)
    (hL : -32769 ≤ L) (hLH : L ≤ H) (hH : H ≤ 32767) (hw : H - L ≤ 2 ^ N)
    (hG : K.toInt ≤ cnt fun j => L < (v j).toInt) :
    (st N).2.toInt ≤ (st N).1.toInt + 1 ∧ (K.toInt ≤ cnt fun j => (st N).1.toInt < (v j).toInt)
      ∧ L ≤ (st N).1.toInt ∧ (st N).1.toInt ≤ (st N).2.toInt ∧ (st N).2.toInt ≤ H := by
  have := bisect (G := fun m => K.toInt ≤ cnt fun j => m < (v j).toInt) (fun k => (st k).1.toInt) (fun k => (st k).2.toInt) N
    (fun k hk g1 g2 g3 => ?_) (by rw [h0]; exact hG) (by rw [h0, h1]; exact hLH) (by rw [h0, h1]; exact hw)
  · rw [h0, h1] at this; exact this
  · simp only [h0, h1] at g1 g2 g3
    have hm : (midW (st k).1 (st k).2).toInt = ((st k).1.toInt + (st k).2.toInt) / 2 :=
      midW_toInt _ _ (by omega) (by omega) (by omega) (by omega)
    simp only [hst k hk]
    unfold halve
    by_cases hc : IntOp.cmpi .slt (BitVec.ofNat 32 (cnt fun j => ((midW (st k).1 (st k).2).setWidth 16).toInt < (v j).toInt)) K = 1#1
    · left
      simp only [select_one hc]
      exact ⟨trivial, hm⟩
    · right
      simp only [select_ne hc]
      refine ⟨hm, trivial, ?_⟩
      rw [slt_iff, cnt_ofNat, not_lt] at hc
      by_cases hmid : ((st k).1.toInt + (st k).2.toInt) / 2 = L
      · rw [hmid]; exact hG
      · rw [toInt_cut _ (by rw [hm]; omega) (by rw [hm]; omega), hm] at hc
        exact hc

/-- The tie bisection: its upper end keeps at least `K` of the tied places below it. -/
theorem halveTie_run (e : S3136x128.Idx → Prop) [DecidablePred e] (K : BitVec 32) (N : ℕ) (st : ℕ → BitVec 32 × BitVec 32)
    (hst : ∀ k < N, (midW (st k).1 (st k).2).toInt ≤ 1000000 → st (k + 1) = halveTie e K (st k)) (h0 : (st 0).1.toInt = -1) (h1 : (st 0).2.toInt = 401408)
    (hG : K.toInt ≤ cnt e) :
    K.toInt ≤ cnt fun j => e j ∧ (num j : ℤ) < (st N).2.toInt := by
  have key : ∀ k ≤ N, -1 ≤ (st k).1.toInt ∧ (st k).1.toInt ≤ (st k).2.toInt ∧ (st k).2.toInt ≤ 401408
      ∧ K.toInt ≤ cnt fun j => e j ∧ (num j : ℤ) < (st k).2.toInt := by
    intro k
    induction k with
    | zero =>
      intro _
      refine ⟨by omega, by omega, by omega, le_trans hG (Int.ofNat_le.2 (cnt_mono fun j hj => ⟨hj, ?_⟩))⟩
      have := num_lt j; omega
    | succ k ih =>
      intro hk
      obtain ⟨i1, i2, i3, i4⟩ := ih (by omega)
      have hm : (midW (st k).1 (st k).2).toInt = ((st k).1.toInt + (st k).2.toInt) / 2 :=
        midW_toInt _ _ (by omega) (by omega) (by omega) (by omega)
      simp only [hst k (by omega) (by omega)]
      unfold halveTie
      by_cases hc : IntOp.cmpi .sge (BitVec.ofNat 32 (cnt fun j => e j ∧ (num j : ℤ) < (midW (st k).1 (st k).2).toInt)) K = 1#1
      · simp only [select_one hc]
        rw [sge_iff, cnt_ofNat] at hc
        exact ⟨i1, by omega, by omega, hc⟩
      · simp only [select_ne hc]
        exact ⟨by omega, by omega, i3, i4⟩
  exact (key N (le_refl _)).2.2.2

/-! ## The words the bisections run over -/

/-- A word in two halves, the upper one signed. -/
theorem toInt_shr (x : BitVec 32) : (IntOp.shrsi .vector x 16#32).toInt = x.toInt / 65536 := by
  rw [IntOp.shrsi, if_pos (by decide), BitVec.sshiftRight', BitVec.toInt_sshiftRight, Int.shiftRight_eq_div_pow]
  rfl

theorem toInt_low (x : BitVec 32) : (x &&& 65535#32).toInt = x.toInt % 65536 := by
  have h : (x &&& 65535#32).toNat = x.toNat % 65536 := by
    rw [BitVec.toNat_and]
    exact Nat.and_two_pow_sub_one_eq_mod x.toNat 16
  have hx := x.isLt
  rw [BitVec.toInt_eq_toNat_of_lt (by rw [h]; omega), h, BitVec.toInt_eq_toNat_cond]
  split <;> omega

theorem toInt_low' (x : BitVec 32) : ((x &&& 65535#32) - 32768#32).toInt = x.toInt % 65536 - 32768 := by
  have e : (32768#32 : BitVec 32).toInt = 32768 := rfl
  rw [WordArith.toInt_sub_of_bounds _ _ (by rw [toInt_low, e]; omega) (by rw [toInt_low, e]; omega), toInt_low, e]

theorem toInt_shl (t : BitVec 32) (h1 : -16384 ≤ t.toInt) (h2 : t.toInt < 16384) : (Scalar.shli t 16#32).toInt = t.toInt * 65536 := by
  have e : Scalar.shli t 16#32 = t * 65536#32 := by
    show IntOp.shli .scalar t 16#32 = _
    rw [IntOp.shli, if_pos (by decide)]
    apply BitVec.eq_of_toNat_eq
    rw [BitVec.shiftLeft_eq', BitVec.toNat_shiftLeft, BitVec.toNat_mul, Nat.shiftLeft_eq]; rfl
  have e2 : (65536#32 : BitVec 32).toInt = 65536 := rfl
  rw [e, WordArith.toInt_mul_of_bounds _ _ (by rw [e2]; omega) (by rw [e2]; omega), e2]

theorem toInt_thr (t u : BitVec 32) (h1 : -16384 ≤ t.toInt) (h2 : t.toInt < 16384) (h3 : -32769 ≤ u.toInt) (h4 : u.toInt ≤ 32767) :
    (thr t u).toInt = t.toInt * 65536 + (u.toInt + 32768) := by
  have e : (32768#32 : BitVec 32).toInt = 32768 := rfl
  have e1 := toInt_shl t h1 h2
  have e2 : (Scalar.addi u 32768#32).toInt = u.toInt + 32768 := by
    show (u + 32768#32).toInt = _
    rw [WordArith.toInt_add_of_bounds _ _ (by omega) (by omega), e]
  show (Scalar.shli t 16#32 + Scalar.addi u 32768#32).toInt = _
  rw [WordArith.toInt_add_of_bounds _ _ (by omega) (by omega), e1, e2]

/-- The upper halves, cut to 16 bits. -/
def high (si : S3136x128.Idx → BitVec 32) (j : S3136x128.Idx) : BitVec 16 := (IntOp.shrsi .vector (si j) 16#32).setWidth 16

/-- The lower halves of the words whose upper half is `t`, cut to 16 bits, and the least 16-bit word elsewhere. -/
def low (si : S3136x128.Idx → BitVec 32) (t : BitVec 32) (j : S3136x128.Idx) : BitVec 16 :=
  (Scalar.select (IntOp.cmpi .eq (IntOp.shrsi .vector (si j) 16#32) t) ((si j &&& 65535#32) - 32768#32) 4294934528#32).setWidth 16

theorem high_toInt (si : S3136x128.Idx → BitVec 32) (hs : ∀ j, 0 ≤ (si j).toInt) (j) : (high si j).toInt = (si j).toInt / 65536 := by
  have h := toInt_shr (si j)
  have h1 := hs j
  have h2 := BitVec.toInt_lt (x := si j)
  norm_num at h2
  unfold high
  rw [toInt_cut _ (by omega) (by omega), h]

theorem low_toInt (si : S3136x128.Idx → BitVec 32) (t : BitVec 32) (j) :
    (low si t j).toInt = if (si j).toInt / 65536 = t.toInt then (si j).toInt % 65536 - 32768 else -32768 := by
  have e : (4294934528#32 : BitVec 32).toInt = -32768 := rfl
  have h := toInt_low' (si j)
  unfold low
  by_cases hc : (si j).toInt / 65536 = t.toInt
  · rw [if_pos hc, select_one ((eq_iff _ _).2 (BitVec.eq_of_toInt_eq (by rw [toInt_shr, hc]))), toInt_cut _ (by omega) (by omega), h]
  · rw [if_neg hc, select_ne (fun g => hc (by rw [← (eq_iff _ _).1 g, toInt_shr])), toInt_cut _ (by omega) (by omega), e]

/-- At least 300 words are at or above the threshold. -/
theorem threshold (si : S3136x128.Idx → BitVec 32) (hs : ∀ j, 0 ≤ (si j).toInt)
    (st1 st2 : ℕ → BitVec 32 × BitVec 32) (K : BitVec 32)
    (h1 : ∀ k < 15, st1 (k + 1) = halve (high si) 300#32 (st1 k)) (h10 : st1 0 = (4294967295#32, 16256#32))
    (hK : K = 300#32 - BitVec.ofNat 32 (cnt fun j => (((st1 15).2).setWidth 16).toInt < (high si j).toInt))
    (h2 : ∀ k < 17, st2 (k + 1) = halve (low si (st1 15).2) K (st2 k)) (h20 : st2 0 = (4294934527#32, 32767#32)) :
    300 ≤ cnt fun j => (thr (st1 15).2 (st2 17).2).toInt ≤ (si j).toInt := by
  have e300 : (300#32 : BitVec 32).toInt = 300 := rfl
  obtain ⟨a1, a2, a3, a4, a5⟩ := halve_run (high si) 300#32 15 st1 h1 (-1) 16256 (by rw [h10]; rfl) (by rw [h10]; rfl)
    (by omega) (by omega) (by omega) (by norm_num) (by
      rw [e300]
      refine le_trans (by norm_num) (Int.ofNat_le.2 (cnt_all fun j => ?_))
      have := hs j
      rw [high_toInt si hs]; omega)
  have hcut : (((st1 15).2).setWidth 16).toInt = (st1 15).2.toInt := toInt_cut _ (by omega) (by omega)
  rw [hcut] at hK
  have hKi : K.toInt = 300 - cnt fun j => (st1 15).2.toInt < (high si j).toInt := by
    have := cnt_le fun j => (st1 15).2.toInt < (high si j).toInt
    rw [hK, WordArith.toInt_sub_of_bounds _ _ (by rw [cnt_ofNat, e300]; omega) (by rw [cnt_ofNat, e300]; omega), cnt_ofNat, e300]
  obtain ⟨b1, b2, b3, b4, b5⟩ := halve_run (low si (st1 15).2) K 17 st2 h2 (-32769) 32767 (by rw [h20]; rfl) (by rw [h20]; rfl)
    (by omega) (by omega) (by omega) (by norm_num) (by
      rw [hKi]
      refine le_trans (by omega : _ ≤ ((401408 : ℕ) : ℤ)) (Int.ofNat_le.2 (cnt_all fun j => ?_))
      rw [low_toInt]
      split <;> omega)
  have ht := toInt_thr (st1 15).2 (st2 17).2 (by omega) (by omega) (by omega) (by omega)
  rw [ht, hKi] at *
  generalize (st1 15).1.toInt = lo1 at *
  generalize hhi1 : (st1 15).2.toInt = hi1 at *
  generalize (st2 17).1.toInt = lo2 at *
  generalize (st2 17).2.toInt = hi2 at *
  rcases eq_or_lt_of_le b3 with hlo | hlo
  · rw [e300] at a2
    have := cnt_mono (p := fun j => lo1 < (high si j).toInt) (q := fun j => hi1 * 65536 + (hi2 + 32768) ≤ (si j).toInt) (fun j hj => by
      rw [high_toInt si hs] at hj; omega)
    omega
  · have := cnt_add_le (p := fun j => hi1 < (high si j).toInt) (q := fun j => lo2 < (low si (st1 15).2 j).toInt)
      (r := fun j => hi1 * 65536 + (hi2 + 32768) ≤ (si j).toInt)
      (fun j hj hq => by
        rw [high_toInt si hs] at hj
        rw [low_toInt, hhi1] at hq
        split at hq <;> omega)
      (fun j hj => by rw [high_toInt si hs] at hj; omega)
      (fun j hq => by
        rw [low_toInt, hhi1] at hq
        split at hq <;> omega)
    omega

/-- The selected places: above the threshold, or on it with a number below the bound. -/
def selected (si : S3136x128.Idx → BitVec 32) (tb istar : BitVec 32) (j : S3136x128.Idx) : Prop :=
  tb.toInt < (si j).toInt ∨ (si j = tb ∧ (num j : ℤ) < istar.toInt)

instance (si : S3136x128.Idx → BitVec 32) (tb istar : BitVec 32) : DecidablePred (selected si tb istar) :=
  fun j => inferInstanceAs (Decidable (_ ∨ _))

/-- How many places the kernel still wants among the tied ones. -/
abbrev wanted (si : S3136x128.Idx → BitVec 32) (tb : BitVec 32) : BitVec 32 :=
  300#32 - BitVec.ofNat 32 (cnt fun j => tb.toInt < (si j).toInt)

theorem wanted_toInt (si : S3136x128.Idx → BitVec 32) (tb : BitVec 32) :
    (wanted si tb).toInt = 300 - cnt fun j => tb.toInt < (si j).toInt := by
  have e300 : (300#32 : BitVec 32).toInt = 300 := rfl
  have := cnt_le fun j => tb.toInt < (si j).toInt
  rw [WordArith.toInt_sub_of_bounds _ _ (by rw [cnt_ofNat, e300]; omega) (by rw [cnt_ofNat, e300]; omega), cnt_ofNat, e300]

theorem cnt_tied (si : S3136x128.Idx → BitVec 32) (tb : BitVec 32) (h : 300 ≤ cnt fun j => tb.toInt ≤ (si j).toInt) :
    (300 : ℤ) ≤ (cnt fun j => tb.toInt < (si j).toInt) + cnt fun j => si j = tb := by
  have : (cnt fun j => tb.toInt ≤ (si j).toInt) ≤ (cnt fun j => tb.toInt < (si j).toInt) + cnt fun j => si j = tb := by
    show Finset.card _ ≤ Finset.card _ + Finset.card _
    refine le_trans (Finset.card_le_card fun j hj => ?_) (Finset.card_union_le _ _)
    have hj := (Finset.mem_filter.1 hj).2
    rcases lt_or_eq_of_le hj with g | g
    · exact Finset.mem_union_left _ (Finset.mem_filter.2 ⟨Finset.mem_univ _, g⟩)
    · exact Finset.mem_union_right _ (Finset.mem_filter.2 ⟨Finset.mem_univ _, BitVec.eq_of_toInt_eq g.symm⟩)
  omega

/-- Without ties to break, all tied places are taken. -/
theorem selected_all (si : S3136x128.Idx → BitVec 32) (tb : BitVec 32) (h : 300 ≤ cnt fun j => tb.toInt ≤ (si j).toInt) :
    300 ≤ cnt (selected si tb 1073741824#32) := by
  refine le_trans h (cnt_mono fun j hj => ?_)
  rcases lt_or_eq_of_le hj with g | g
  · exact Or.inl g
  · refine Or.inr ⟨BitVec.eq_of_toInt_eq g.symm, ?_⟩
    have := num_lt j
    have e : (1073741824#32 : BitVec 32).toInt = 1073741824 := rfl
    rw [e]; omega

/-- With ties to break, enough of them are taken. -/
theorem selected_tie (si : S3136x128.Idx → BitVec 32) (tb : BitVec 32) (h : 300 ≤ cnt fun j => tb.toInt ≤ (si j).toInt)
    (st : ℕ → BitVec 32 × BitVec 32) (hst : ∀ k < 20, (midW (st k).1 (st k).2).toInt ≤ 1000000 → st (k + 1) = halveTie (fun j => si j = tb) (wanted si tb) (st k))
    (h0 : st 0 = (4294967295#32, 401408#32)) : 300 ≤ cnt (selected si tb (st 20).2) := by
  have h1 := cnt_tied si tb h
  have h2 := wanted_toInt si tb
  have h3 := halveTie_run (fun j => si j = tb) (wanted si tb) 20 st hst (by rw [h0]; rfl) (by rw [h0]; rfl) (by omega)
  have h4 := cnt_add_le (p := fun j => tb.toInt < (si j).toInt) (q := fun j => si j = tb ∧ (num j : ℤ) < (st 20).2.toInt)
    (r := selected si tb (st 20).2) (fun j hp hq => by rw [hq.1] at hp; omega) (fun j hp => Or.inl hp) (fun j hq => Or.inr hq)
  omega

/-- A place that comes before a selected one is selected. -/
theorem selected_up (si : S3136x128.Idx → BitVec 32) (tb istar : BitVec 32) (a b : S3136x128.Idx) (hb : selected si tb istar b)
    (hab : (si b).toInt < (si a).toInt ∨ ((si a).toInt = (si b).toInt ∧ num a < num b)) : selected si tb istar a := by
  rcases hb with h | ⟨h, h'⟩
  · left; omega
  · rcases hab with g | ⟨g, g'⟩
    · left; rw [h] at g; exact g
    · right; exact ⟨(BitVec.eq_of_toInt_eq g).trans h, by omega⟩

end Cert.Kernel.Hand
-- ==== Proof.Trips.lean ====
/-
  The trips of the kernel's three bisection loops, in closed form, and how its whole-buffer loads and stores read.
-/
module

public import proofs.«01_k».proof.Proof.Gen.Kernel.Frame
public import proofs.«01_k».proof.Proof.Gen.Kernel.Skeleton
public import proofs.«01_k».proof.Proof.Gen.Kernel.Loops
public import proofs.«01_k».proof.Proof.Bisect
public import Idealize.ShloMosaic.Lib.Tactic
public import Idealize.ShloMosaic.Lib.VecWindow
public import Idealize.ShloMosaic.Lib.WritesUnit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- A store of a whole buffer leaves its payload. -/
theorem read_full {κ : Kind} {sp : Space} {s : Shape} {e : EltTy} (v : View sig κ sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  refine View.read_writes_cons_unit_of_mem v f inb w L y y rfl fun a => ?_
  have := inb a; omega

/-- One trip of the first loop. -/
theorem trip1 (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (X : BufTy.Contents (Elt F) arg8.view.ty) (k : Fin k0_t1_loop.trips) (acc : BitVec 32 × BitVec 32) :
    tripR_k0_t1 (F := F) Variants.none c none i arg1 harg1 arg2 harg2 arg3 harg3 arg4 harg4 arg5 harg5 arg6 harg6 arg7 harg7 arg8 harg8 arg9 harg9 arg10 harg10 X k acc = halve (arg8.view.read (Elt F) X) 300#32 acc := by
  have e : View.readAt (Elt F) arg8.view (Rect.unit (s := S3136x128) ![0, 0] S3136x128.size inb_S3136x128_S3136x128_0_0).toLoadRect X = arg8.view.read (Elt F) X :=
    View.readAt_full _ _ _
  unfold tripR_k0_t1 trip_k0_t1 halve
  dsimp only
  unfold trip_k0_t1.sl.v210 trip_k0_t1.sl.v211
  rw [← pay12_count (F := F), ← e]
  rfl

/-- One trip of the second loop. -/
theorem trip2 (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (v13_1 : BitVec 32) (v26 : BitVec 32) (v30 : IVec S3136x128 1) (v34 : IVec S3136x128 32) (c_m32768_i32 : BitVec 32)
    (X : BufTy.Contents (Elt F) arg8.view.ty) (k : Fin k0_t2_loop.trips) (acc : BitVec 32 × BitVec 32) :
    tripR_k0_t2 (F := F) Variants.none c none i arg1 harg1 arg2 harg2 arg3 harg3 arg4 harg4 arg5 harg5 arg6 harg6 arg7 harg7 arg8 harg8 arg9 harg9 arg10 harg10 v13_1 v26 v30 v34 c_m32768_i32 X k acc
      = halve (arg8.view.read (Elt F) X) v26 acc := by
  have e : View.readAt (Elt F) arg8.view (Rect.unit (s := S3136x128) ![0, 0] S3136x128.size inb_S3136x128_S3136x128_0_0).toLoadRect X = arg8.view.read (Elt F) X :=
    View.readAt_full _ _ _
  unfold tripR_k0_t2 trip_k0_t2 halve
  dsimp only
  unfold trip_k0_t2.sl.v210 trip_k0_t2.sl.v211
  rw [← pay17_count (F := F), ← e]
  rfl

/-- One trip of the third loop, while its middle is in range. -/
theorem trip3 (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (v13_1 : BitVec 32) (v26 : BitVec 32) (v30 : IVec S3136x128 1) (v34 : IVec S3136x128 32) (c_m32768_i32 : BitVec 32) (v42_1 v62 : BitVec 32)
    (X : BufTy.Contents (Elt F) arg7.view.ty) (k : Fin k0_t3_loop.trips) (acc : BitVec 32 × BitVec 32) (hm : (midW acc.1 acc.2).toInt ≤ 1000000) :
    tripR_k0_t3 (F := F) Variants.none c none i arg1 harg1 arg2 harg2 arg3 harg3 arg4 harg4 arg5 harg5 arg6 harg6 arg7 harg7 arg8 harg8 arg9 harg9 arg10 harg10 v13_1 v26 v30 v34 c_m32768_i32 v42_1 v62 X k acc
      = halveTie (fun j => arg7.view.read (Elt F) X j = thr v13_1 v42_1) v62 acc := by
  have e : View.readAt (Elt F) arg7.view (Rect.unit (s := S3136x128) ![0, 0] S3136x128.size inb_S3136x128_S3136x128_0_0).toLoadRect X = arg7.view.read (Elt F) X :=
    View.readAt_full _ _ _
  unfold tripR_k0_t3 trip_k0_t3 halveTie
  dsimp only
  unfold trip_k0_t3.sl.v212 trip_k0_t3.sl.v213
  rw [← pay21_count (F := F) v13_1 v42_1 acc.1 acc.2 _ hm, ← e]
  rfl

end Cert.Kernel.Hand
-- ==== Proof.Select.lean ====
/-
  Choosing the greatest values by repeated maximum: the arithmetic of it, over any finite set of places.

  A place carries an integer value and a number that orders equal values. `Before` is the order of a stable descending
  sort: greater values first, equal ones by their numbers. `after f k` is the table `f` with its first `k` maxima
  crossed out (set to -1) one after the other, and `pick f k` is the maximum met next. The main theorem says what the
  picks are when `f` shows the values of a set `sel` closed upwards in `Before` and -1 elsewhere: the first members of
  the whole table in the order `Before`.
-/
module

public import Mathlib.Data.Fintype.Card
public import Mathlib.Data.Finset.Card
public import Mathlib.Data.Finset.Max
public import Mathlib.Logic.Function.Basic
public import Mathlib.Tactic.Common
public import Mathlib.Data.Int.Order.Basic
public import Mathlib.Algebra.Order.Group.Int
public import Mathlib.Data.Prod.Lex

@[expose] public section

namespace Cert.Select

variable {ι : Type} [Fintype ι] [DecidableEq ι] (num : ι → ℕ)

/-- Greater values come first, equal values in the order of their numbers. -/
def Before (s : ι → ℤ) (a b : ι) : Prop := s b < s a ∨ (s a = s b ∧ num a < num b)

/-- `q` holds the greatest value of `f`, and the least number among the places that do. -/
def IsTop (f : ι → ℤ) (q : ι) : Prop := ∀ n, f n < f q ∨ (f n = f q ∧ num q ≤ num n)

/-- There is such a place. -/
theorem exists_isTop [Nonempty ι] (f : ι → ℤ) : ∃ q, IsTop num f q := by
  obtain ⟨m, -, hm⟩ := Finset.exists_max_image (Finset.univ : Finset ι) f ⟨Classical.arbitrary ι, Finset.mem_univ _⟩
  have hne : (Finset.univ.filter fun n => f n = f m).Nonempty := ⟨m, by simp⟩
  obtain ⟨q, hq, hmin⟩ := Finset.exists_min_image _ num hne
  have hqm : f q = f m := (Finset.mem_filter.1 hq).2
  refine ⟨q, fun n => ?_⟩
  rcases lt_or_eq_of_le (hm n (Finset.mem_univ n)) with h | h
  · left; omega
  · right; exact ⟨by omega, hmin n (by simp [h])⟩

/-- There is at most one, when no two places share a number. -/
theorem IsTop.unique (hnum : Function.Injective num) {f : ι → ℤ} {p q : ι} (hp : IsTop num f p) (hq : IsTop num f q) :
    p = q := by
  apply hnum
  rcases hp q with h | ⟨h, h'⟩ <;> rcases hq p with g | ⟨g, g'⟩ <;> omega

/-- The place of the greatest value. -/
noncomputable def top [Nonempty ι] (f : ι → ℤ) : ι := Classical.choose (exists_isTop num f)

theorem top_isTop [Nonempty ι] (f : ι → ℤ) : IsTop num f (top num f) := Classical.choose_spec (exists_isTop num f)

theorem top_eq [Nonempty ι] (hnum : Function.Injective num) {f : ι → ℤ} {q : ι} (hq : IsTop num f q) : top num f = q :=
  (top_isTop num f).unique num hnum hq

/-- The table with its first `k` maxima crossed out. -/
noncomputable def after [Nonempty ι] (f : ι → ℤ) : ℕ → ι → ℤ
  | 0 => f
  | k + 1 => Function.update (after f k) (top num (after f k)) (-1)

/-- The maximum met at step `k`. -/
noncomputable def pick [Nonempty ι] (f : ι → ℤ) (k : ℕ) : ι := top num (after num f k)

theorem after_succ [Nonempty ι] (f : ι → ℤ) (k : ℕ) :
    after num f (k + 1) = Function.update (after num f k) (pick num f k) (-1) := rfl

/-- A place is crossed out after `k` steps when one of them picked it; otherwise it shows what it showed. -/
theorem after_apply [Nonempty ι] (f : ι → ℤ) (k : ℕ) (n : ι) :
    (after num f k n = -1 ∧ ∃ i < k, pick num f i = n) ∨ (after num f k n = f n ∧ ∀ i < k, pick num f i ≠ n) := by
  induction k with
  | zero => right; exact ⟨rfl, fun i hi => absurd hi (Nat.not_lt_zero _)⟩
  | succ k ih =>
    rw [after_succ]
    by_cases h : pick num f k = n
    · left; subst h; exact ⟨Function.update_self .., k, Nat.lt_succ_self _, rfl⟩
    · rw [Function.update_of_ne (Ne.symm h)]
      rcases ih with ⟨h1, i, hi, h2⟩ | ⟨h1, h2⟩
      · left; exact ⟨h1, i, by omega, h2⟩
      · right; refine ⟨h1, fun i hi => ?_⟩
        rcases Nat.lt_succ_iff_lt_or_eq.1 hi with hi | rfl
        · exact h2 i hi
        · exact h

/-- No table entry drops below -1. -/
theorem neg_one_le_after [Nonempty ι] (f : ι → ℤ) (hf : ∀ n, -1 ≤ f n) (k : ℕ) (n : ι) : -1 ≤ after num f k n := by
  rcases after_apply num f k n with ⟨h, -⟩ | ⟨h, -⟩
  · omega
  · rw [h]; exact hf n

section Main

variable [Nonempty ι] (s : ι → ℤ) (hs : ∀ n, 0 ≤ s n) (sel : ι → Prop) [DecidablePred sel]
  (hup : ∀ a b, sel b → Before num s a b → sel a) (K : ℕ) (hK : K ≤ (Finset.univ.filter sel).card)

/-- The values shown of the selected places, and -1 elsewhere. -/
def shown (s : ι → ℤ) (sel : ι → Prop) [DecidablePred sel] (n : ι) : ℤ := if sel n then s n else -1

include hs hK in
/-- While fewer steps have been made than there are selected places, the place picked is selected, was not picked
    before, and shows its value. -/
theorem pick_sel (j : ℕ) (hj : j < K) :
    sel (pick num (shown s sel) j) ∧ after num (shown s sel) j (pick num (shown s sel) j) = s (pick num (shown s sel) j)
      ∧ ∀ i < j, pick num (shown s sel) i ≠ pick num (shown s sel) j := by
  classical
  have hex : ∃ n, sel n ∧ ∀ i < j, pick num (shown s sel) i ≠ n := by
    by_contra hcon
    push Not at hcon
    have hsub : Finset.univ.filter sel ⊆ (Finset.range j).image (pick num (shown s sel)) := by
      intro n hn
      obtain ⟨i, hi, h⟩ := hcon n (Finset.mem_filter.1 hn).2
      exact Finset.mem_image.2 ⟨i, Finset.mem_range.2 hi, h⟩
    have h1 := Finset.card_le_card hsub
    have h2 := Finset.card_image_le (s := Finset.range j) (f := pick num (shown s sel))
    rw [Finset.card_range] at h2
    omega
  obtain ⟨n, hn, hni⟩ := hex
  have hshow : after num (shown s sel) j n = s n := by
    rcases after_apply num (shown s sel) j n with ⟨-, i, hi, h⟩ | ⟨h, -⟩
    · exact absurd h (hni i hi)
    · rw [h, shown, if_pos hn]
  have htop : 0 ≤ after num (shown s sel) j (pick num (shown s sel) j) := by
    rcases top_isTop num (after num (shown s sel) j) n with h | ⟨h, -⟩
    · have := hs n; rw [hshow] at h; exact le_of_lt (lt_of_le_of_lt this h)
    · have := hs n; rw [hshow] at h; rw [h] at this; exact this
  rcases after_apply num (shown s sel) j (pick num (shown s sel) j) with ⟨h, -⟩ | ⟨h, h'⟩
  · omega
  · rw [h] at htop
    have hsel : sel (pick num (shown s sel) j) := by
      by_contra hc; rw [shown, if_neg hc] at htop; omega
    refine ⟨hsel, ?_, h'⟩
    rw [h, shown, if_pos hsel]

include hs hK in
/-- The picks come in the order `Before`. -/
theorem pick_before (hnum : Function.Injective num) (i j : ℕ) (hij : i < j) (hj : j < K) :
    Before num s (pick num (shown s sel) i) (pick num (shown s sel) j) := by
  obtain ⟨hi1, hi2, -⟩ := pick_sel num s hs sel K hK i (by omega)
  obtain ⟨hj1, -, hj3⟩ := pick_sel num s hs sel K hK j hj
  have hj' : after num (shown s sel) i (pick num (shown s sel) j) = s (pick num (shown s sel) j) := by
    rcases after_apply num (shown s sel) i (pick num (shown s sel) j) with ⟨-, i', hi', h⟩ | ⟨h, -⟩
    · exact absurd h (hj3 i' (by omega))
    · rw [h, shown, if_pos hj1]
  rcases top_isTop num (after num (shown s sel) i) (pick num (shown s sel) j) with h | ⟨h, h'⟩
  · left; rw [hj'] at h; rw [← hi2]; exact h
  · right; rw [hj'] at h
    refine ⟨(h.trans hi2).symm, lt_of_le_of_ne h' fun he => hj3 i hij (hnum he)⟩

include hs hK hup in
/-- Nothing is left out: a place that comes before a pick was picked earlier. -/
theorem pick_all (j : ℕ) (hj : j < K) (n : ι) (hn : Before num s n (pick num (shown s sel) j)) :
    ∃ i < j, pick num (shown s sel) i = n := by
  obtain ⟨hj1, hj2, -⟩ := pick_sel num s hs sel K hK j hj
  have hsel := hup n _ hj1 hn
  rcases after_apply num (shown s sel) j n with ⟨-, h⟩ | ⟨h, -⟩
  · exact h
  · exfalso
    rw [shown, if_pos hsel] at h
    have ht := top_isTop num (after num (shown s sel) j) n
    rw [h] at ht
    change s n < after num (shown s sel) j (pick num (shown s sel) j)
      ∨ (s n = after num (shown s sel) j (pick num (shown s sel) j) ∧ num (pick num (shown s sel) j) ≤ num n) at ht
    rw [hj2] at ht
    rcases ht with g | ⟨g, g'⟩ <;> rcases hn with k | ⟨k, k'⟩ <;> omega

end Main

end Cert.Select
-- ==== Proof.Extract.lean ====
/-
  What one extraction step computes: the greatest remaining word, the first block that holds it, the first place of that
  block that holds it, and the state after the place is struck out.
-/
module

public import proofs.«01_k».proof.Proof.Counts
public import proofs.«01_k».proof.Proof.Select
public import Mathlib.Tactic.IntervalCases
public import Idealize.ShloMosaic.Lib.Pointwise.Reshape
public import Idealize.ShloMosaic.Lib.Pointwise.SelectCore

@[expose] public section

noncomputable section

namespace Cert.Kernel.Hand

open Cert.Kernel Cert.Kernel.Gen Cert.Words Cert.Select
open Idealize.ShloMosaic

variable {F : FTy → Type} [BitOps F]

theorem size_one_sub {s : Shape} (h : ∀ a, s.size a = 1) : Subsingleton s.Idx :=
  ⟨fun a b => funext fun x => Fin.ext (by
    have h1 : (a x).val < s.size x := (a x).isLt; have h2 : (b x).val < s.size x := (b x).isLt; have := h x; omega)⟩

instance : Subsingleton S1x1.Idx := size_one_sub (by decide)
instance : Subsingleton S1x1x1.Idx := size_one_sub (by decide)

/-! ## Greatest and least words over a whole vector -/

/-- A maximum over all places of a vector, read through any shape casts around it. -/
theorem max_all {s r t u : Shape} {axes : List (Fin r.rank)} [Subsingleton t.Idx] (v : IVec s 32) (hc : s.ShapeCasts r)
    (h : r.Reduces axes t) (hu : t.ShapeCasts u) (j : u.Idx) (i₀ : s.Idx) :
    (∀ i, (v i).toInt ≤ (shapeCast u (multiReductionI .maxsi axes t (shapeCast r v hc) 2147483648#32 h rfl) hu j).toInt)
      ∧ ∃ i, shapeCast u (multiReductionI .maxsi axes t (shapeCast r v hc) 2147483648#32 h rfl) hu j = v i := by
  have hs := reduce_max_apply (shapeCast r v hc) h rfl (Shape.reshapeEquiv hu j) ((Shape.reshapeEquiv hc).symm i₀) (Subsingleton.elim _ _)
  refine ⟨fun i => ?_, ?_⟩
  · refine le_trans (le_of_eq ?_) (hs.1 ((Shape.reshapeEquiv hc).symm i) (Subsingleton.elim _ _))
    show _ = (v (Shape.reshapeEquiv hc ((Shape.reshapeEquiv hc).symm i))).toInt
    rw [Equiv.apply_symm_apply]
  · obtain ⟨i, -, hi⟩ := hs.2
    exact ⟨Shape.reshapeEquiv hc i, hi⟩

/-- The least of the words at the places a condition picks, where the other places carry a word above all of them. -/
theorem min_where {s r t u : Shape} {axes : List (Fin r.rank)} [Subsingleton t.Idx] (cond : IVec s 1) (v : IVec s 32)
    (big : BitVec 32) (hc : s.ShapeCasts r) (h : r.Reduces axes t) (hu : t.ShapeCasts u) (j : u.Idx)
    (hbig : ∀ i, (v i).toInt < big.toInt) (i₀ : s.Idx) (hi₀ : cond i₀ = 1#1) :
    (∀ i, cond i = 1#1 → (shapeCast u (multiReductionI .minsi axes t (shapeCast r (select cond v (fun _ => big)) hc) 2147483647#32 h rfl) hu j).toInt ≤ (v i).toInt)
      ∧ ∃ i, cond i = 1#1 ∧ shapeCast u (multiReductionI .minsi axes t (shapeCast r (select cond v (fun _ => big)) hc) 2147483647#32 h rfl) hu j = v i := by
  have hs := reduce_min_apply (shapeCast r (select cond v (fun _ => big)) hc) h rfl (Shape.reshapeEquiv hu j) ((Shape.reshapeEquiv hc).symm i₀) (Subsingleton.elim _ _)
  have hall : ∀ i, cond i = 1#1 → (shapeCast u (multiReductionI .minsi axes t (shapeCast r (select cond v (fun _ => big)) hc) 2147483647#32 h rfl) hu j).toInt ≤ (v i).toInt := by
    intro i hi
    refine le_trans (hs.1 ((Shape.reshapeEquiv hc).symm i) (Subsingleton.elim _ _)) (le_of_eq ?_)
    show (Scalar.select (cond (Shape.reshapeEquiv hc ((Shape.reshapeEquiv hc).symm i))) (v (Shape.reshapeEquiv hc ((Shape.reshapeEquiv hc).symm i))) big).toInt = _
    rw [Equiv.apply_symm_apply, WordCmp.select_of_eq_one hi]
  refine ⟨hall, ?_⟩
  obtain ⟨i, -, hi⟩ := hs.2
  by_cases hci : cond (Shape.reshapeEquiv hc i) = 1#1
  · refine ⟨Shape.reshapeEquiv hc i, hci, hi.trans ?_⟩
    show Scalar.select (cond (Shape.reshapeEquiv hc i)) (v (Shape.reshapeEquiv hc i)) big = _
    rw [WordCmp.select_of_eq_one hci]
  · exfalso
    have h1 := hall i₀ hi₀
    have e : shapeCast u (multiReductionI .minsi axes t (shapeCast r (select cond v (fun _ => big)) hc) 2147483647#32 h rfl) hu j = big := by
      refine hi.trans ?_
      show Scalar.select (cond (Shape.reshapeEquiv hc i)) (v (Shape.reshapeEquiv hc i)) big = _
      exact if_neg hci
    rw [e] at h1
    have := hbig i₀
    omega

/-! ## The pieces of one step -/

/-- The one index of a 1 by 1 vector. -/
abbrev o11 : S1x1.Idx := fun a => ⟨0, by match a with | ⟨0, _⟩ => exact Nat.one_pos | ⟨1, _⟩ => exact Nat.one_pos⟩

/-- The one index of a 1 by 1 by 1 vector. -/
abbrev o111 : S1x1x1.Idx := fun a => ⟨(![0, 0, 0] : Fin 3 → ℕ) a, inpos_S1x1x1_p0_0_0 a⟩

/-- The first place of a block. -/
abbrev oblk : S32x128.Idx := fun a =>
  match a with
  | ⟨0, _⟩ => ⟨0, by show 0 < 32; omega⟩
  | ⟨1, _⟩ => ⟨0, by show 0 < 128; omega⟩

/-- A choice by equality of words. -/
theorem select_eq {α : Type} (x y : BitVec 32) (a b : α) : Scalar.select (IntOp.cmpi .eq x y) a b = if x = y then a else b := by
  by_cases h : x = y
  · rw [if_pos h, WordCmp.select_of_eq_one ((eq_iff _ _).2 h)]
  · rw [if_neg h]; exact if_neg (fun g => h ((eq_iff _ _).1 g))

/-- The value a 1 by 1 vector spreads over another. -/
theorem spread {α : Type} {t : Shape} (v : S1x1.Idx → α) (h : S1x1.Broadcasts t) (q : t.Idx) : broadcastTo t v h q = v o11 :=
  congrArg v (Subsingleton.elim _ _)

/-- The greatest block maximum. -/
abbrev topW (bm : IVec S1x128 32) : BitVec 32 := k0_pay2 bm o11

/-- The first block whose maximum is the greatest. -/
abbrev blkW (bm : IVec S1x128 32) : BitVec 32 :=
  extractAt ![0, 0, 0] (k0_pay3 (iota .tc S1x128 32 [1] iota_S1x128_d1_w32) bm) inpos_S1x1x1_p0_0_0

/-- The first place of a block that holds the greatest word, counted within the block. -/
abbrev posW (bm : IVec S1x128 32) (blk : IVec S32x128 32) : BitVec 32 := k0_pay4 (F := F) k0_pay25 bm blk o11

/-- A lane of the vector of block maxima. -/
abbrev lane (l : ℕ) (h : l < 128) : S1x128.Idx := fun a =>
  match a with
  | ⟨0, _⟩ => ⟨0, by show 0 < 1; omega⟩
  | ⟨1, _⟩ => ⟨l, h⟩

theorem lane_eta (q : S1x128.Idx) : lane (q 1).val (q 1).isLt = q := by
  funext a; apply Fin.ext
  match a with
  | ⟨0, _⟩ => show 0 = (q 0).val; have : (q 0).val < 1 := (q 0).isLt; omega
  | ⟨1, _⟩ => rfl

/-- A place's number within its block. -/
def loc (b : S32x128.Idx) : ℕ := 128 * (b 0).val + (b 1).val

theorem loc_lt (b : S32x128.Idx) : loc b < 4096 := by
  have h1 : (b 0).val < 32 := (b 0).isLt; have h2 : (b 1).val < 128 := (b 1).isLt; unfold loc; omega

theorem loc_inj : Function.Injective loc := by
  intro a b h
  have h1 : (a 1).val < 128 := (a 1).isLt; have h2 : (b 1).val < 128 := (b 1).isLt
  unfold loc at h
  funext x
  apply Fin.ext
  match x with
  | ⟨0, _⟩ => show (a 0).val = (b 0).val; omega
  | ⟨1, _⟩ => show (a 1).val = (b 1).val; omega

theorem iota_lane (q : S1x128.Idx) : iota .tc S1x128 32 [1] iota_S1x128_d1_w32 q = BitVec.ofNat 32 (q 1).val := by
  show BitVec.ofNat 32 (0 * 128 + (q 1).val) = _
  rw [zero_mul, zero_add]

theorem pay25_apply (b : S32x128.Idx) : k0_pay25 b = BitVec.ofNat 32 (loc b) := by
  show BitVec.ofNat 32 (0 * 32 + (b 0).val) * BitVec.ofNat 32 128 + BitVec.ofNat 32 (0 * 128 + (b 1).val) = _
  rw [← BitVec.ofNat_mul, ← BitVec.ofNat_add]
  congr 1
  unfold loc; omega

theorem topW_spec (bm : IVec S1x128 32) : (∀ q, (bm q).toInt ≤ (topW bm).toInt) ∧ ∃ q, topW bm = bm q := by
  have h := max_all (r := S1x128) (t := S1) (u := S1x1) bm (by rfl) reduces_S1x128_S1 shapeCasts_S1_S1x1 o11 (lane 0 (by omega))
  have e : shapeCast S1x128 bm (by rfl) = bm := by funext q; show bm (Shape.reshapeEquiv _ q) = _; rw [Shape.reshapeEquiv_self]
  rw [e] at h
  exact h

theorem blkW_spec (bm : IVec S1x128 32) : (∀ q, bm q = topW bm → (blkW bm).toInt ≤ (q 1).val) ∧ ∃ q, bm q = topW bm ∧ blkW bm = BitVec.ofNat 32 (q 1).val := by
  obtain ⟨q₀, hq₀⟩ := (topW_spec bm).2
  have h := min_where (r := S1x1x128) (t := S1) (u := S1x1x1) (cmpi .eq bm (broadcastTo S1x128 (k0_pay2 bm) broadcasts_S1x1_S1x128))
    (iota .tc S1x128 32 [1] iota_S1x128_d1_w32) 128#32 shapeCasts_S1x128_S1x1x128 reduces_S1x1x128_S1 shapeCasts_S1_S1x1x1
    o111
    (fun i => by
      rw [iota_lane, WordArith.toInt_ofNat_small _ (by have : (i 1).val < 128 := (i 1).isLt; omega)]
      have : (i 1).val < 128 := (i 1).isLt
      have e : (128#32 : BitVec 32).toInt = 128 := rfl
      rw [e]; omega) q₀ ((eq_iff _ _).2 (hq₀.symm.trans (spread _ _ _).symm))
  have hcond : ∀ q, cmpi .eq bm (broadcastTo S1x128 (k0_pay2 bm) broadcasts_S1x1_S1x128) q = 1#1 ↔ bm q = topW bm := fun q => by
    refine (eq_iff _ _).trans ?_
    rw [spread]
  obtain ⟨h1, i, hi, h2⟩ := h
  refine ⟨fun q hq => ?_, i, (hcond i).1 hi, h2.trans (iota_lane i)⟩
  have := h1 q ((hcond q).2 hq)
  rw [iota_lane, WordArith.toInt_ofNat_small _ (by have : (q 1).val < 128 := (q 1).isLt; omega)] at this
  exact this

theorem posW_spec (bm : IVec S1x128 32) (blk : IVec S32x128 32) (b₀ : S32x128.Idx) (hb₀ : blk b₀ = topW bm) :
    (∀ b, blk b = topW bm → (posW (F := F) bm blk).toInt ≤ loc b) ∧ ∃ b, blk b = topW bm ∧ posW (F := F) bm blk = BitVec.ofNat 32 (loc b) := by
  have hcond : ∀ q, cmpi .eq blk (broadcastTo S32x128 (k0_pay2 bm) broadcasts_S1x1_S32x128) q = 1#1 ↔ blk q = topW bm := fun q => by
    refine (eq_iff _ _).trans ?_
    rw [spread]
  have h := min_where (r := S1x32x128) (t := S1) (u := S1x1x1) (cmpi .eq blk (broadcastTo S32x128 (k0_pay2 bm) broadcasts_S1x1_S32x128))
    k0_pay25 1073741824#32 shapeCasts_S32x128_S1x32x128 reduces_S1x32x128_S1 shapeCasts_S1_S1x1x1
    o111
    (fun i => by
      rw [pay25_apply, WordArith.toInt_ofNat_small _ (by have := loc_lt i; omega)]
      have := loc_lt i
      have e : (1073741824#32 : BitVec 32).toInt = 1073741824 := rfl
      rw [e]; omega) b₀ ((hcond b₀).2 hb₀)
  obtain ⟨h1, i, hi, h2⟩ := h
  have e : posW (F := F) bm blk = shapeCast S1x1x1 (multiReductionI .minsi [1, 2] S1 (shapeCast S1x32x128
      (select (cmpi .eq blk (broadcastTo S32x128 (k0_pay2 bm) broadcasts_S1x1_S32x128)) k0_pay25 (fun _ => 1073741824#32))
      shapeCasts_S32x128_S1x32x128) 2147483647#32 reduces_S1x32x128_S1 rfl) shapeCasts_S1_S1x1x1 o111 := by
    unfold posW k0_pay4
    simp only [extractAt, broadcast]
    rfl
  refine ⟨fun q hq => ?_, i, (hcond i).1 hi, e.trans (h2.trans (pay25_apply i))⟩
  have := h1 q ((hcond q).2 hq)
  rw [← e] at this
  rw [pay25_apply, WordArith.toInt_ofNat_small _ (by have := loc_lt q; omega)] at this
  exact this

/-- A block with the picked place struck out. -/
theorem pay8_apply (bm : IVec S1x128 32) (blk : IVec S32x128 32) (b : S32x128.Idx) :
    k0_pay8 (F := F) k0_pay25 bm blk b = if BitVec.ofNat 32 (loc b) = posW (F := F) bm blk then 4294967295#32 else blk b := by
  show Scalar.select (IntOp.cmpi .eq (k0_pay25 b) (broadcastTo S32x128 (k0_pay4 (F := F) k0_pay25 bm blk) broadcasts_S1x1_S32x128 b)) 4294967295#32 (blk b) = _
  rw [spread, pay25_apply]
  by_cases h : BitVec.ofNat 32 (loc b) = posW (F := F) bm blk
  · rw [if_pos h, WordCmp.select_of_eq_one ((eq_iff _ _).2 h)]
  · rw [if_neg h]; exact if_neg (fun g => h ((eq_iff _ _).1 g))

/-- The greatest word of one block. -/
def blockTop (blk : IVec S32x128 32) : BitVec 32 :=
  shapeCast S1x1x1 (multiReductionI .maxsi [1, 2] S1 (shapeCast S1x32x128 blk shapeCasts_S32x128_S1x32x128) 2147483648#32
    reduces_S1x32x128_S1 rfl) shapeCasts_S1_S1x1x1 o111

theorem blockTop_spec (blk : IVec S32x128 32) : (∀ b, (blk b).toInt ≤ (blockTop blk).toInt) ∧ ∃ b, blockTop blk = blk b :=
  max_all (r := S1x32x128) (t := S1) (u := S1x1x1) blk shapeCasts_S32x128_S1x32x128 reduces_S1x32x128_S1 shapeCasts_S1_S1x1x1
    o111 oblk

theorem pay28_eq (bm : IVec S1x128 32) (L : BitVec 32) (blk : IVec S32x128 32) :
    k0_pay28 bm L blk = select (cmpi .eq (iota .tc S1x128 32 [1] iota_S1x128_d1_w32) (broadcast S1x128 L))
      (broadcastTo S1x128 (shapeCast S1x1 (broadcast S1x1 (blockTop blk)) shapeCasts_S1x1_S1x1) broadcasts_S1x1_S1x128) bm := rfl

theorem spread_word (W : BitVec 32) (q : S1x128.Idx) :
    broadcastTo S1x128 (shapeCast S1x1 (broadcast S1x1 W) shapeCasts_S1x1_S1x1) broadcasts_S1x1_S1x128 q = W := by
  rw [spread]; rfl

theorem lane_choice (bm v : IVec S1x128 32) (L : BitVec 32) (q : S1x128.Idx) :
    select (cmpi .eq (iota .tc S1x128 32 [1] iota_S1x128_d1_w32) (broadcast S1x128 L)) v bm q
      = if BitVec.ofNat 32 (q 1).val = L then v q else bm q := by
  refine (select_eq _ _ _ _).trans ?_
  rw [iota_lane]
  rfl

/-- The vector of block maxima with one lane renewed. -/
theorem pay28_apply (bm : IVec S1x128 32) (L : BitVec 32) (blk : IVec S32x128 32) (q : S1x128.Idx) :
    k0_pay28 bm L blk q = if BitVec.ofNat 32 (q 1).val = L then blockTop blk else bm q := by
  refine (congrFun (pay28_eq bm L blk) q).trans ?_
  refine (lane_choice _ _ _ _).trans ?_
  rw [spread_word]

/-- The vector of block maxima is right: each of the 98 lanes holds its block's greatest word, the other lanes hold -1. -/
def BlockMax (y : S3136x128.Idx → BitVec 32) (bm : IVec S1x128 32) : Prop :=
  ∀ q : S1x128.Idx,
    ((q 1).val < 98 → (∀ j, num j / 4096 = (q 1).val → (y j).toInt ≤ (bm q).toInt) ∧ ∃ j, num j / 4096 = (q 1).val ∧ bm q = y j)
    ∧ (98 ≤ (q 1).val → bm q = 4294967295#32)

theorem pay24_blockMax (y : Vec F S3136x128 .i32) : BlockMax y (k0_pay24 (F := F) y) := by
  intro q
  have hq : (q 1).val < 128 := (q 1).isLt
  have hq0 : (q 0).val < 1 := (q 0).isLt
  have e : k0_pay24 (F := F) y q = concatenate S128 0 [⟨S98, multiReductionI .maxsi [1, 2] S98 (shapeCast S98x32x128 y shapeCasts_S3136x128_S98x32x128) 2147483648#32 reduces_S98x32x128_S98 rfl⟩,
      ⟨S30, (fun _ => 4294967295#32 : IVec S30 32)⟩] concatenates_S98_S30_S128_d0 (fun a => ⟨(q 1).val, by match a with | ⟨0, _⟩ => exact hq⟩) := by
    refine congrArg (concatenate S128 0 [⟨S98, multiReductionI .maxsi [1, 2] S98 (shapeCast S98x32x128 y shapeCasts_S3136x128_S98x32x128) 2147483648#32 reduces_S98x32x128_S98 rfl⟩,
      ⟨S30, (fun _ => 4294967295#32 : IVec S30 32)⟩] concatenates_S98_S30_S128_d0) (Shape.reshapeEquiv_eq_of_rowMajor _ ?_)
    rw [rowMajor_val1, rowMajor_val2 _ 128 rfl]
    show (q 1).val = _
    omega
  rw [e, concatenate_pair_apply]
  constructor
  · intro h98
    rw [dif_pos (by exact h98)]
    generalize hjj : (Shape.Idx.norm _ : S98.Idx) = jj
    have hjj0 : (jj 0).val = (q 1).val := by rw [← hjj]; rfl
    have hdrop : ∀ i : S98x32x128.Idx, (i 0).val = (q 1).val ↔ reduces_S98x32x128_S98.drop i = jj := by
      intro i
      have h0 := Shape.Reduces.drop_apply_val_of_eq reduces_S98x32x128_S98 i 0 0
      constructor
      · intro hi; funext a; apply Fin.ext
        match a with
        | ⟨0, _⟩ => exact h0.trans (hi.trans hjj0.symm)
      · intro hi; rw [← hjj0, ← hi]; exact h0.symm
    have hnum : ∀ i : S98x32x128.Idx, num (Shape.reshapeEquiv shapeCasts_S3136x128_S98x32x128 i) / 4096 = (i 0).val := by
      intro i
      have h := Shape.rowMajor_reshapeEquiv shapeCasts_S3136x128_S98x32x128 i
      rw [rowMajor_val2 _ 128 rfl, rowMajor_val3 _ 4096 128 rfl rfl] at h
      have h1 : (i 1).val < 32 := (i 1).isLt
      have h2 : (i 2).val < 128 := (i 2).isLt
      unfold num; omega
    have hs := reduce_max_apply (shapeCast S98x32x128 y shapeCasts_S3136x128_S98x32x128) reduces_S98x32x128_S98 rfl jj
      (fun a => match a with | ⟨0, _⟩ => ⟨(q 1).val, h98⟩ | ⟨1, _⟩ => ⟨0, by show 0 < 32; omega⟩ | ⟨2, _⟩ => ⟨0, by show 0 < 128; omega⟩)
      ((hdrop _).1 rfl)
    refine ⟨fun j hj => ?_, ?_⟩
    · have := hs.1 ((Shape.reshapeEquiv shapeCasts_S3136x128_S98x32x128).symm j) ((hdrop _).1 (by
        rw [← hnum, Equiv.apply_symm_apply]; exact hj))
      refine le_trans (le_of_eq ?_) this
      show _ = (y (Shape.reshapeEquiv _ ((Shape.reshapeEquiv _).symm j))).toInt
      rw [Equiv.apply_symm_apply]
    · obtain ⟨i, hi, hv⟩ := hs.2
      exact ⟨Shape.reshapeEquiv shapeCasts_S3136x128_S98x32x128 i, (hnum i).trans ((hdrop i).2 hi), hv⟩
  · intro h98
    rw [dif_neg (by intro h; have h : (q 1).val < 98 := h; omega)]

/-! ## One step -/

/-- The place of `y` that block `L` shows at `b`. -/
abbrev inBlock (L : ℕ) (hL : L < 98) (b : S32x128.Idx) : S3136x128.Idx :=
  place (4096 * L + loc b) (by have := loc_lt b; omega)

/-- The words of a block of `y`. -/
def IsBlock (y : S3136x128.Idx → BitVec 32) (L : ℕ) (blk : S32x128.Idx → BitVec 32) : Prop :=
  ∀ (hL : L < 98) (b : S32x128.Idx), blk b = y (inBlock L hL b)

/-- `y'` is `y` with block `L` replaced by `blk`. -/
def Replaced (y : S3136x128.Idx → BitVec 32) (L : ℕ) (blk : S32x128.Idx → BitVec 32) (y' : S3136x128.Idx → BitVec 32) : Prop :=
  (∀ (hL : L < 98) (b : S32x128.Idx), y' (inBlock L hL b) = blk b) ∧ ∀ j, num j / 4096 ≠ L → y' j = y j

/-- A slot of the two result vectors. -/
abbrev slot (q : S1x512.Idx) : ℕ := (q 1).val

/-- After `k` steps: `y` holds `f` with its `k` foremost places struck out, the block maxima are those of `y`, and the
    first `k` slots hold the words and the numbers of the places struck out. -/
structure ExtInv (f : S3136x128.Idx → ℤ) (k : ℕ) (y : S3136x128.Idx → BitVec 32) (sv fv : IVec S1x512 32)
    (bm : IVec S1x128 32) : Prop where
  word : ∀ j, (y j).toInt = after num f k j
  bmax : BlockMax y bm
  below : ∀ q : S1x512.Idx, slot q < k → (sv q).toInt = after num f (slot q) (pick num f (slot q))
      ∧ fv q = BitVec.ofNat 32 (num (pick num f (slot q)))
  above : ∀ q : S1x512.Idx, k ≤ slot q → sv q = 0#32 ∧ fv q = 0#32

theorem blk_num (L : ℕ) (hL : L < 98) (b : S32x128.Idx) : num (inBlock L hL b) / 4096 = L := by
  rw [num_place]; have := loc_lt b; omega

/-- A place within its block. -/
def local32 (j : S3136x128.Idx) : S32x128.Idx := fun a =>
  match a with
  | ⟨0, _⟩ => ⟨(j 0).val % 32, Nat.mod_lt _ (by decide)⟩
  | ⟨1, _⟩ => ⟨(j 1).val, (j 1).isLt⟩

theorem inBlock_local (j : S3136x128.Idx) (L : ℕ) (hL : L < 98) (h : num j / 4096 = L) : inBlock L hL (local32 j) = j := by
  apply num_inj
  rw [num_place]
  have h1 := lane_lt j
  show 4096 * L + (128 * ((j 0).val % 32) + (j 1).val) = _
  unfold num at h ⊢; omega

theorem off_row (L : ℕ) (hL : L < 98) : (Scalar.indexCast (Scalar.muli (BitVec.ofNat 32 L) 32#32)).toNat = 32 * L := by
  interval_cases L <;> rfl

theorem chk_row (L : ℕ) (hL : L < 98) : (Scalar.indexCast (Scalar.muli (BitVec.ofNat 32 L) 32#32)).toNat + 32 ≤ 3136 := by
  rw [off_row L hL]; omega

section Step

variable {f : S3136x128.Idx → ℤ} {k : ℕ} {y : S3136x128.Idx → BitVec 32} {sv fv : IVec S1x512 32} {bm : IVec S1x128 32}

/-- While `f` is nowhere below -1 the kernel's block is one of the 98, it holds the greatest word, and no earlier block
    does. -/
theorem ExtInv.block (hf : ∀ j, -1 ≤ f j) (h : ExtInv f k y sv fv bm) :
    ∃ L : ℕ, L < 98 ∧ blkW bm = BitVec.ofNat 32 L ∧ (∃ j, num j / 4096 = L ∧ y j = topW bm)
      ∧ (∀ j, (y j).toInt ≤ (topW bm).toInt) ∧ ∀ j, y j = topW bm → L ≤ num j / 4096 := by
  have hy : ∀ j, -1 ≤ (y j).toInt := fun j => by rw [h.word]; exact neg_one_le_after num f hf k j
  obtain ⟨t1, qt, t2⟩ := topW_spec bm
  obtain ⟨b1, qb, b2, b3⟩ := blkW_spec bm
  have hblk : ∀ j, num j / 4096 < 98 := fun j => by have := num_lt j; omega
  have hle : ∀ j, (y j).toInt ≤ (topW bm).toInt := fun j =>
    le_trans (((h.bmax (lane (num j / 4096) (by have := hblk j; omega))).1 (hblk j)).1 j rfl) (t1 _)
  have heq : ∀ j, y j = topW bm → bm (lane (num j / 4096) (by have := hblk j; omega)) = topW bm := by
    intro j hj
    apply BitVec.eq_of_toInt_eq
    refine le_antisymm (t1 _) ?_
    rw [← hj]
    exact ((h.bmax (lane (num j / 4096) (by have := hblk j; omega))).1 (hblk j)).1 j rfl
  have hqb : (qb 1).val < 128 := (qb 1).isLt
  have e3 : (blkW bm).toInt = (qb 1).val := by rw [b3, WordArith.toInt_ofNat_small _ (by omega)]
  have hlt : (qb 1).val < 98 := by
    by_contra hcon
    have hm1 : topW bm = 4294967295#32 := by rw [← b2]; exact (h.bmax qb).2 (by omega)
    have e1 : (4294967295#32 : BitVec 32).toInt = -1 := rfl
    have j0 : y (place 0 (by decide)) = topW bm := by
      apply BitVec.eq_of_toInt_eq
      refine le_antisymm (hle _) ?_
      rw [hm1, e1]; exact hy _
    have := b1 _ (heq _ j0)
    rw [e3] at this
    have g : num (place 0 (by decide)) = 0 := num_place _ _
    have g2 : ((lane (num (place 0 (by decide)) / 4096) (by have := hblk (place 0 (by decide)); omega)) 1).val = 0 := by
      show num (place 0 (by decide)) / 4096 = 0
      rw [g]
    rw [g2] at this
    omega
  refine ⟨(qb 1).val, hlt, b3, ?_, hle, fun j hj => ?_⟩
  · obtain ⟨j, hj1, hj2⟩ := ((h.bmax qb).1 hlt).2
    exact ⟨j, hj1, by rw [← b2, hj2]⟩
  · have := b1 _ (heq j hj)
    rw [e3] at this
    exact Int.ofNat_le.mp this

/-- The address the kernel reads its block at stays inside the vector. -/
theorem ExtInv.chk (hf : ∀ j, -1 ≤ f j) (h : ExtInv f k y sv fv bm) : k0_chk1 (blkW bm) := by
  obtain ⟨L, hL, e, -⟩ := h.block hf
  intro a
  rw [e]
  match a with
  | ⟨0, _⟩ => exact chk_row L hL
  | ⟨1, _⟩ => show 0 + 128 ≤ 128; omega

end Step

end Cert.Kernel.Hand
-- ==== Proof.Step.lean ====
/-
  One extraction step keeps the account of what has been extracted.
-/
module

public import proofs.«01_k».proof.Proof.Extract

@[expose] public section

noncomputable section

namespace Cert.Kernel.Hand

open Cert.Kernel Cert.Kernel.Gen Cert.Words Cert.Select
open Idealize.ShloMosaic

variable {F : FTy → Type} [BitOps F]

/-- The lane numbers of the 512 slots. -/
abbrev slots : IVec S1x512 32 := iota .tc S1x512 32 [1] iota_S1x512_d1_w32

theorem slot_lt (q : S1x512.Idx) : slot q < 512 := (q 1).isLt

theorem slots_apply (q : S1x512.Idx) : slots q = BitVec.ofNat 32 (slot q) := by
  show BitVec.ofNat 32 (0 * 512 + (q 1).val) = _
  rw [zero_mul, zero_add]

theorem ofNat_inj_small {a b : ℕ} (ha : a < 2 ^ 32) (hb : b < 2 ^ 32) : BitVec.ofNat 32 a = BitVec.ofNat 32 b ↔ a = b := by
  constructor
  · intro h
    have := congrArg BitVec.toNat h
    rwa [WordArith.toNat_ofNat_of_lt _ ha, WordArith.toNat_ofNat_of_lt _ hb] at this
  · intro h; rw [h]

theorem spread_slot {α : Type} (v : S1x1.Idx → α) (h : S1x1.ShapeCasts S1x1) (h' : S1x1.Broadcasts S1x512) (q : S1x512.Idx) :
    broadcastTo S1x512 (shapeCast S1x1 v h) h' q = v o11 := by
  rw [spread]
  exact congrArg v (Subsingleton.elim _ _)

theorem iv_word (k : ℕ) : Scf.iv 0#32 1#32 k = BitVec.ofNat 32 k := by
  show 0#32 + BitVec.ofNat 32 k * 1#32 = _
  rw [BitVec.mul_one, BitVec.zero_add]

theorem pay5_iff (k : Fin k0_t4_loop.trips) (hk : k.val < 300) (q : S1x512.Idx) : k0_pay5 slots 0#32 1#32 k q = 1#1 ↔ slot q = k.val := by
  refine (eq_iff _ _).trans ?_
  show slots q = Scf.iv 0#32 1#32 k.val ↔ _
  have := slot_lt q
  rw [slots_apply, iv_word, ofNat_inj_small (by omega) (by omega)]

theorem pay6_apply (k : Fin k0_t4_loop.trips) (hk : k.val < 300) (sv : IVec S1x512 32) (bm : IVec S1x128 32) (q : S1x512.Idx) :
    k0_pay6 slots 0#32 1#32 k sv bm q = sv q + if slot q = k.val then topW bm else 0#32 := by
  show sv q + Scalar.select (k0_pay5 slots 0#32 1#32 k q) (broadcastTo S1x512 (shapeCast S1x1 (k0_pay2 bm) shapeCasts_S1x1_S1x1) broadcasts_S1x1_S1x512 q) 0#32 = _
  rw [spread_slot]
  by_cases h : slot q = k.val
  · rw [if_pos h, WordCmp.select_of_eq_one ((pay5_iff k hk q).2 h)]
  · rw [if_neg h]
    congr 1
    exact if_neg fun g => h ((pay5_iff k hk q).1 g)

theorem pay7_apply (k : Fin k0_t4_loop.trips) (hk : k.val < 300) (fv : IVec S1x512 32) (bm : IVec S1x128 32) (blk : Vec F S32x128 .i32) (q : S1x512.Idx) :
    k0_pay7 (iota .tc S1x128 32 [1] iota_S1x128_d1_w32) slots k0_pay25 0#32 1#32 k fv bm blk q
      = fv q + if slot q = k.val then blkW bm * 4096#32 + posW (F := F) bm blk else 0#32 := by
  have e : k0_pay7 (iota .tc S1x128 32 [1] iota_S1x128_d1_w32) slots k0_pay25 0#32 1#32 k fv bm blk
      = addi fv (select (k0_pay5 slots 0#32 1#32 k) (broadcastTo S1x512 (shapeCast S1x1
          (addi (broadcast S1x1 (Scalar.muli (blkW bm) 4096#32)) (k0_pay4 k0_pay25 bm blk)) shapeCasts_S1x1_S1x1) broadcasts_S1x1_S1x512)
          (broadcast S1x512 0#32)) := rfl
  rw [e]
  show fv q + Scalar.select (k0_pay5 slots 0#32 1#32 k q) (broadcastTo S1x512 _ broadcasts_S1x1_S1x512 q) 0#32 = _
  rw [spread_slot]
  by_cases h : slot q = k.val
  · rw [if_pos h, WordCmp.select_of_eq_one ((pay5_iff k hk q).2 h)]; rfl
  · rw [if_neg h]
    congr 1
    exact if_neg fun g => h ((pay5_iff k hk q).1 g)

/-- Before the first step. -/
theorem ExtInv.zero (f : S3136x128.Idx → ℤ) (y : Vec F S3136x128 .i32) (hy : ∀ j, (y j : BitVec 32).toInt = f j) :
    ExtInv f 0 y k0_pay26 k0_pay26 (k0_pay24 (F := F) y) where
  word := hy
  bmax := pay24_blockMax y
  below := fun q h => absurd h (Nat.not_lt_zero _)
  above := fun q _ => ⟨rfl, rfl⟩

/-- One step. -/
theorem ExtInv.step {f : S3136x128.Idx → ℤ} (hf : ∀ j, -1 ≤ f j) (k : Fin k0_t4_loop.trips) (hk : k.val < 300)
    {y y' : S3136x128.Idx → BitVec 32} {sv fv : IVec S1x512 32} {bm : IVec S1x128 32} {blk : Vec F S32x128 .i32}
    (h : ExtInv f k.val y sv fv bm)
    (hblk : ∀ L : ℕ, L < 98 → blkW bm = BitVec.ofNat 32 L → IsBlock y L blk ∧ Replaced y L (k0_pay8 k0_pay25 bm blk) y') :
    ExtInv f (k.val + 1) y' (k0_pay6 slots 0#32 1#32 k sv bm)
      (k0_pay7 (iota .tc S1x128 32 [1] iota_S1x128_d1_w32) slots k0_pay25 0#32 1#32 k fv bm blk)
      (k0_pay28 bm (blkW bm) (k0_pay8 k0_pay25 bm blk)) := by
  obtain ⟨L, hL, hbw, ⟨j₀, hj₀, hj₀'⟩, hle, hfirst⟩ := h.block hf
  obtain ⟨hB, hR1, hR2⟩ := hblk L hL hbw
  have hB := hB hL
  have hR1 := hR1 hL
  obtain ⟨p1, pb, p2, p3⟩ := posW_spec (F := F) bm blk (local32 j₀) (by rw [hB, inBlock_local j₀ L hL hj₀, hj₀'])
  have hpb := loc_lt pb
  have hp3 : (posW (F := F) bm blk).toInt = loc pb := by rw [p3, WordArith.toInt_ofNat_small _ (by omega)]
  rw [hp3] at p1
  have hqy : y (inBlock L hL pb) = topW bm := by rw [← hB, p2]
  have htop : IsTop num (after num f k.val) (inBlock L hL pb) := by
    intro n
    rw [← h.word, ← h.word, hqy]
    rcases lt_or_eq_of_le (hle n) with g | g
    · exact Or.inl g
    · refine Or.inr ⟨g, ?_⟩
      have hn : y n = topW bm := BitVec.eq_of_toInt_eq g
      have hLn := hfirst n hn
      rw [num_place]
      rcases lt_or_eq_of_le hLn with g' | g'
      · omega
      · have e := inBlock_local n L hL g'.symm
        have := p1 (local32 n) (by rw [hB, e, hn])
        have e2 : num n = 4096 * L + loc (local32 n) := by
          rw [← num_place (4096 * L + loc (local32 n)) (by have := loc_lt (local32 n); omega)]; exact congrArg num e.symm
        rw [e2]; omega
  have hpick : pick num f k.val = inBlock L hL pb := top_eq num num_inj htop
  have hval : after num f k.val (pick num f k.val) = (topW bm).toInt := by rw [hpick, ← h.word, hqy]
  have hnum : num (pick num f k.val) = 4096 * L + loc pb := by rw [hpick, num_place]
  have hy' : ∀ j, (y' j).toInt = after num f (k.val + 1) j := by
    intro j
    rw [after_succ, hpick]
    by_cases hjL : num j / 4096 = L
    · have e := inBlock_local j L hL hjL
      have e3 : y' j = k0_pay8 (F := F) k0_pay25 bm blk (local32 j) := by rw [← hR1 (local32 j), e]
      rw [e3, pay8_apply, p3]
      have hl := loc_lt (local32 j)
      by_cases hj : loc (local32 j) = loc pb
      · rw [if_pos (by rw [hj])]
        have : j = inBlock L hL pb := by rw [← e, loc_inj hj]
        rw [this, Function.update_self]; rfl
      · rw [if_neg (by rw [ofNat_inj_small (by omega) (by omega)]; exact hj), Function.update_of_ne (by
          intro g
          apply hj
          have := congrArg num (e.trans g)
          rw [num_place, num_place] at this; omega)]
        rw [hB, e, h.word]
    · rw [hR2 j hjL, h.word, Function.update_of_ne]
      intro g
      apply hjL
      rw [g, blk_num]
  refine ⟨hy', ?_, ?_, ?_⟩
  · intro q
    have hq : (q 1).val < 128 := (q 1).isLt
    rw [pay28_apply, hbw]
    by_cases hqL : (q 1).val = L
    · rw [if_pos (by rw [hqL])]
      obtain ⟨t1, tb, t2⟩ := blockTop_spec (k0_pay8 (F := F) k0_pay25 bm blk)
      refine ⟨fun _ => ⟨fun j hj => ?_, inBlock L hL tb, ?_, ?_⟩, fun g => by omega⟩
      · have e := inBlock_local j L hL (hj.trans hqL)
        rw [← e, hR1]; exact t1 _
      · rw [blk_num, hqL]
      · rw [hR1, t2]
    · rw [if_neg (by rw [ofNat_inj_small (by omega) (by omega)]; exact hqL)]
      have hb := h.bmax q
      refine ⟨fun g => ⟨fun j hj => ?_, ?_⟩, hb.2⟩
      · rw [hR2 j (by rw [hj]; exact hqL)]; exact (hb.1 g).1 j hj
      · obtain ⟨j, hj, hj2⟩ := (hb.1 g).2
        exact ⟨j, hj, by rw [hR2 j (by rw [hj]; exact hqL)]; exact hj2⟩
  · intro q hq
    rw [pay6_apply k hk, pay7_apply k hk]
    by_cases hqk : slot q = k.val
    · obtain ⟨z1, z2⟩ := h.above q (by omega)
      rw [if_pos hqk, if_pos hqk, z1, z2, hqk, BitVec.zero_add, BitVec.zero_add]
      refine ⟨hval.symm, ?_⟩
      rw [hnum, hbw, p3, BitVec.ofNat_add, BitVec.ofNat_mul, BitVec.mul_comm]
    · obtain ⟨z1, z2⟩ := h.below q (by omega)
      rw [if_neg hqk, if_neg hqk, BitVec.add_zero, BitVec.add_zero]
      exact ⟨z1, z2⟩
  · intro q hq
    obtain ⟨z1, z2⟩ := h.above q (by omega)
    rw [pay6_apply k hk, pay7_apply k hk, if_neg (by omega), if_neg (by omega), z1, z2]
    exact ⟨rfl, rfl⟩

end Cert.Kernel.Hand
-- ==== Proof.Front.lean ====
/-
  The first part of the body: the words of the probabilities, their upper halves, and the first bisection.
-/
module

public import proofs.«01_k».proof.Proof.Gen.Kernel.Frame
public import proofs.«01_k».proof.Proof.Gen.Kernel.Skeleton
public import proofs.«01_k».proof.Proof.Gen.Kernel.Loops
public import proofs.«01_k».proof.Proof.Trips
public import proofs.«01_k».proof.Proof.Step
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The words of a block of probabilities. -/
abbrev words (x : Vec F S1x3136x128 .f32) : S3136x128.Idx → BitVec 32 := k0_pay9 x

theorem pay10_eq (x : Vec F S1x3136x128 .f32) : k0_pay10 x = words x := by
  funext j
  show words x (Shape.reshapeEquiv _ j) = _
  rw [Shape.reshapeEquiv_self]

theorem pay11_eq (x : Vec F S1x3136x128 .f32) : k0_pay11 x = high (words x) := by
  funext j
  show high (words x) (Shape.reshapeEquiv _ j) = _
  rw [Shape.reshapeEquiv_self]

theorem pay16_eq (x : Vec F S1x3136x128 .f32) (t : BitVec 32) : k0_pay16 (k0_pay14 x t) (k0_pay15 x) 4294934528#32 = low (words x) t := by
  funext j
  show low (words x) t (Shape.reshapeEquiv _ j) = _
  rw [Shape.reshapeEquiv_self]

/-- The first bisection has run: `t` is its upper end and `K` is 300 less the number of upper halves above `t`. -/
def First (si : S3136x128.Idx → BitVec 32) (t K : BitVec 32) : Prop :=
  ∃ st : ℕ → BitVec 32 × BitVec 32, st 0 = (4294967295#32, 16256#32) ∧ (∀ k < 15, st (k + 1) = halve (high si) 300#32 (st k))
    ∧ t = (st 15).2 ∧ K = 300#32 - BitVec.ofNat 32 (cnt fun j => (t.setWidth 16).toInt < (high si j).toInt)

theorem trips1 : Scf.trips k0_t1_loop.lb k0_t1_loop.ub k0_t1_loop.st = 15 := by decide
theorem trips2 : Scf.trips k0_t2_loop.lb k0_t2_loop.ub k0_t2_loop.st = 17 := by decide
theorem trips3 : Scf.trips k0_t3_loop.lb k0_t3_loop.ub k0_t3_loop.st = 20 := by decide
theorem trips4 : Scf.trips k0_t4_loop.lb k0_t4_loop.ub k0_t4_loop.st = 300 := by decide

/-- The first part runs, keeps the probabilities, stores their words, and yields the first bisection's results. -/
theorem part2_run (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .f32)
    (K : (Σ' (v13_1 : BitVec 32) (v26 : BitVec 32) (v30 : IVec S3136x128 1) (v34 : IVec S3136x128 32), BitVec 32) → sProp 𝕄) :
    iprop(owns (c : Thread nD τ) arg1 fullShare x ∗ (∃ d, owns (c : Thread nD τ) arg7 fullShare d) ∗ (∃ d, owns (c : Thread nD τ) arg8 fullShare d)
        ∗ (∀ t v26 v30 v34, (⌜First (words x) t v26 ∧ v30 = k0_pay14 x t ∧ v34 = k0_pay15 x⌝ ∗ owns (c : Thread nD τ) arg1 fullShare x ∗ owns (c : Thread nD τ) arg7 fullShare (words x)
            ∗ (∃ d, owns (c : Thread nD τ) arg8 fullShare d)) -∗ K ⟨t, v26, v30, v34, 4294934528#32⟩))
      ⊢ wp frame (wpE (defs₀ (F := F)) Variants.none c none) Set.univ
          (k0_part2 i arg1 harg1 arg2 harg2 arg3 harg3 arg4 harg4 arg5 harg5 arg6 harg6 arg7 harg7 arg8 harg8 arg9 harg9 arg10 harg10) K := by
  simp only [k0_part2_eq_skeleton]; unfold k0_part2_skel
  unfold owns
  iintro ⟨⟨%f1, %h1, H1⟩, ⟨%d7, %f7, -, H7⟩, ⟨%d8, %f8, -, H8⟩, Hk⟩
  sl_exec
  sl_step
  have e1 : View.readAt (Elt F) arg1.view (Rect.unit (s := S1x3136x128) ![0, 0, 0] S1x3136x128.size inb_S1x3136x128_S1x3136x128_0_0_0).toLoadRect f1 = x :=
    (View.readAt_full _ _ _).trans h1
  have e7 : arg7.view.read (Elt F) (arg7.view.writes (Elt F) arg7.view.junk (part2_run.sl.H7_1 c arg1 f1)) = words x := by
    unfold part2_run.sl.H7_1
    rw [e1, read_full, pay10_eq]
  have e8 : arg8.view.read (Elt F) (arg8.view.writes (Elt F) arg8.view.junk (part2_run.sl.H8_1 c arg1 f1)) = high (words x) := by
    unfold part2_run.sl.H8_1
    rw [e1, read_full, pay11_eq]
  iapply Hk
  isplitr
  · ipureintro
    refine ⟨⟨fun n => st_k0_t1 (F := F) Variants.none c none i arg1 harg1 arg2 harg2 arg3 harg3 arg4 harg4 arg5 harg5 arg6 harg6 arg7 harg7 arg8 harg8 arg9 harg9 arg10 harg10 (arg8.view.writes (Elt F) arg8.view.junk (part2_run.sl.H8_1 c arg1 f1))
        (4294967295#32, 16256#32) n, rfl, fun k hk => ?_, ?_, ?_⟩, by rw [e1], by rw [e1]⟩
    · have h := st_k0_t1_succ (F := F) Variants.none c none i arg1 harg1 arg2 harg2 arg3 harg3 arg4 harg4 arg5 harg5 arg6 harg6 arg7 harg7 arg8 harg8 arg9 harg9 arg10 harg10 (arg8.view.writes (Elt F) arg8.view.junk (part2_run.sl.H8_1 c arg1 f1))
        (4294967295#32, 16256#32) ⟨k, hk⟩
      rw [trip1, e8] at h
      exact h
    · rfl
    · unfold part2_run.sl.v26 part2_run.sl.v25
      rw [pay13_count]
      have e : part2_run.sl.v14 c arg1 arg8 f1 = high (words x) :=
        (View.readAt_full _ _ _).trans e8
      rw [e]
      rfl
  isplitl [H1]
  · iexists f1; isplitr; swap; · iexact H1
    ipureintro; exact h1
  isplitl [H7]
  · iexists _; isplitr; swap; · iexact H7
    ipureintro; exact e7
  · iexists _, _; isplitr; swap; · iexact H8
    ipureintro; rfl

end Cert.Kernel.Hand
-- ==== Proof.Middle.lean ====
/-
  The second part of the body: the second bisection and the choice among equal words.
-/
module

public import proofs.«01_k».proof.Proof.Gen.Kernel.Frame
public import proofs.«01_k».proof.Proof.Gen.Kernel.Skeleton
public import proofs.«01_k».proof.Proof.Gen.Kernel.Loops
public import proofs.«01_k».proof.Proof.Front
public import proofs.«01_k».proof.Proof.Step
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The second part runs: with the first bisection's results it yields a threshold and a number that select at least 300 words. -/
theorem part3_run (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .f32) (hx : ∀ j, 0 ≤ (words x j).toInt) (t v26 : BitVec 32) (h1 : First (words x) t v26)
    (K : (Σ' (v45 : BitVec 32) (v67 : IVec S3136x128 32) (v71 : BitVec 32) (v72 : Vec F S3136x128 .i32), IVec S3136x128 32) → sProp 𝕄) :
    iprop(owns (c : Thread nD τ) arg7 fullShare (words x) ∗ (∃ d, owns (c : Thread nD τ) arg8 fullShare d)
        ∗ (∀ tb istar v72 v73, (⌜300 ≤ cnt (selected (words x) tb istar) ∧ v72 = words x ∧ v73 = fun _ => tb⌝
            ∗ owns (c : Thread nD τ) arg7 fullShare (words x)
            ∗ (∃ d, owns (c : Thread nD τ) arg8 fullShare d)) -∗ K ⟨tb, k0_pay20, istar, v72, v73⟩))
      ⊢ wp frame (wpE (defs₀ (F := F)) Variants.none c none) Set.univ
          (k0_part3 i arg1 harg1 arg2 harg2 arg3 harg3 arg4 harg4 arg5 harg5 arg6 harg6 arg7 harg7 arg8 harg8 arg9 harg9 arg10 harg10 t v26 (k0_pay14 x t) (k0_pay15 x) 4294934528#32) K := by
  simp only [k0_part3_eq_skeleton]; unfold k0_part3_skel
  unfold owns
  iintro ⟨⟨%f7, %h7, H7⟩, ⟨%d8, %f8, -, H8⟩, Hk⟩
  sl_exec
  have e7 : View.readAt (Elt F) arg7.view (Rect.unit (s := S3136x128) ![0, 0] S3136x128.size inb_S3136x128_S3136x128_0_0).toLoadRect f7 = words x :=
    (View.readAt_full _ _ _).trans h7
  have e8 : arg8.view.read (Elt F) (arg8.view.writes (Elt F) arg8.view.junk (part3_run.sl.H8_1 x t)) = low (words x) t := by
    unfold part3_run.sl.H8_1
    rw [read_full, pay16_eq]
  have e45 : part3_run.sl.v45 c i arg1 harg1 arg2 harg2 arg3 harg3 arg4 harg4 arg5 harg5 arg6 harg6 arg7 harg7 arg8 harg8 arg9 harg9 arg10 harg10 x t v26 = thr t (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 := rfl
  have hb : k0_pay22 t (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 = fun _ => part3_run.sl.v45 c i arg1 harg1 arg2 harg2 arg3 harg3 arg4 harg4 arg5 harg5 arg6 harg6 arg7 harg7 arg8 harg8 arg9 harg9 arg10 harg10 x t v26 := rfl
  have ht : 300 ≤ cnt fun j => (part3_run.sl.v45 c i arg1 harg1 arg2 harg2 arg3 harg3 arg4 harg4 arg5 harg5 arg6 harg6 arg7 harg7 arg8 harg8 arg9 harg9 arg10 harg10 x t v26).toInt ≤ (words x j).toInt := by
    obtain ⟨st1, h10, h1s, et, hK⟩ := h1
    rw [et] at hK
    have g := threshold (words x) hx st1 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32)) v26 h1s h10 hK (fun k hk => ?_) rfl
    · rw [← et] at g; exact g
    rw [← et]
    have h := st_k0_t2_succ (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) ⟨k, hk⟩
    rw [trip2, e8] at h
    exact h
  rcases Classical.em (part3_run.sl.v70 c i arg1 harg1 arg2 harg2 arg3 harg3 arg4 harg4 arg5 harg5 arg6 harg6 arg7 harg7 arg8 harg8 arg9 harg9 arg10 harg10 x t v26 f7 = 1#1) with hv | hv
  · simp only [if_pos hv]
    sl_exec
    sl_step
    iapply Hk
    isplitr
    · ipureintro
      refine ⟨?_, rfl, hb⟩
      exact selected_all (words x) _ ht
    isplitl [H7]
    · iexists f7; isplitr; swap; · iexact H7
      ipureintro; exact h7
    · iexists _, _; isplitr; swap; · iexact H8
      ipureintro; rfl
  · simp only [if_neg hv]
    sl_exec
    sl_step
    have e62 : part3_run.sl.v62 c i arg1 harg1 arg2 harg2 arg3 harg3 arg4 harg4 arg5 harg5 arg6 harg6 arg7 harg7 arg8 harg8 arg9 harg9 arg10 harg10 x t v26 f7 = wanted (words x) (part3_run.sl.v45 c i arg1 harg1 arg2 harg2 arg3 harg3 arg4 harg4 arg5 harg5 arg6 harg6 arg7 harg7 arg8 harg8 arg9 harg9 arg10 harg10 x t v26) := by
      unfold part3_run.sl.v62 part3_run.sl.v53
      rw [e7, pay18_count]
      rfl
    iapply Hk
    isplitr
    · ipureintro
      refine ⟨?_, rfl, hb⟩
      refine selected_tie (words x) _ ht (st_k0_t3 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 (part3_run.sl.v62 c i arg1 harg1 arg2 harg2 arg3 harg3 arg4 harg4 arg5 harg5 arg6 harg6 arg7 harg7 arg8 harg8 arg9 harg9 arg10 harg10 x t v26 f7) f7 (4294967295#32, 401408#32)) (fun k hk hm => ?_) rfl
      have h := st_k0_t3_succ (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 (part3_run.sl.v62 c i arg1 harg1 arg2 harg2 arg3 harg3 arg4 harg4 arg5 harg5 arg6 harg6 arg7 harg7 arg8 harg8 arg9 harg9 arg10 harg10 x t v26 f7) f7 (4294967295#32, 401408#32) ⟨k, hk⟩
      have hh := trip3 (F := F) c i arg1 harg1 arg2 harg2 arg3 harg3 arg4 harg4 arg5 harg5 arg6 harg6 arg7 harg7 arg8 harg8 arg9 harg9 arg10 harg10 t v26 (k0_pay14 x t) (k0_pay15 x) 4294934528#32 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 (part3_run.sl.v62 c i arg1 harg1 arg2 harg2 arg3 harg3 arg4 harg4 arg5 harg5 arg6 harg6 arg7 harg7 arg8 harg8 arg9 harg9 arg10 harg10 x t v26 f7) f7 ⟨k, hk⟩ (st_k0_t3 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) 4294934528#32 (arg8.view.writes (Elt F) arg8.view.junk (part3_run.sl.H8_1 x t)) (4294934527#32, 32767#32) 17).2 (part3_run.sl.v62 c i arg1 harg1 arg2 harg2 arg3 harg3 arg4 harg4 arg5 harg5 arg6 harg6 arg7 harg7 arg8 harg8 arg9 harg9 arg10 harg10 x t v26 f7) f7 (4294967295#32, 401408#32) k) hm
      rw [h7, e62] at hh
      rw [e62]
      rw [e62] at h
      exact h.trans hh
    isplitl [H7]
    · iexists f7; isplitr; swap; · iexact H7
      ipureintro; exact h7
    · iexists _, _; isplitr; swap; · iexact H8
      ipureintro; rfl

end Cert.Kernel.Hand
-- ==== Proof.Back.lean ====
/-
  The third part of the body: the masked words, the 300 extraction steps and the stored scores.
-/
module

public import proofs.«01_k».proof.Proof.Gen.Kernel.Frame
public import proofs.«01_k».proof.Proof.Gen.Kernel.Skeleton
public import proofs.«01_k».proof.Proof.Gen.Kernel.Loops
public import proofs.«01_k».proof.Proof.Middle
public import proofs.«01_k».proof.Proof.Step
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The masked words: the selected ones, and -1 elsewhere. -/
theorem pay23_apply (si : S3136x128.Idx → BitVec 32) (tb istar : BitVec 32) (j : S3136x128.Idx) :
    k0_pay23 (F := F) tb k0_pay20 istar si (fun _ => tb) si si j = if selected si tb istar j then si j else 4294967295#32 := by
  have e : k0_pay23 (F := F) tb k0_pay20 istar si (fun _ => tb) si si j
      = Scalar.select (IntOp.ori (IntOp.cmpi .sgt (si j) tb) (IntOp.andi (IntOp.cmpi .eq (si j) tb) (IntOp.cmpi .slt (k0_pay20 j) istar))) (si j) 4294967295#32 := by
    show (fun j => Scalar.select (IntOp.ori (IntOp.cmpi .sgt (si j) tb) (IntOp.andi (IntOp.cmpi .eq (si j) tb) (IntOp.cmpi .slt (k0_pay20 j) istar))) (si j) 4294967295#32) (Shape.reshapeEquiv _ j) = _
    rw [Shape.reshapeEquiv_self]
  have h : IntOp.ori (IntOp.cmpi .sgt (si j) tb) (IntOp.andi (IntOp.cmpi .eq (si j) tb) (IntOp.cmpi .slt (k0_pay20 j) istar)) = 1#1 ↔ selected si tb istar j := by
    rw [Cert.Words.ori_iff, Cert.Words.andi_iff, Cert.Words.sgt_iff, Cert.Words.eq_iff, Cert.Words.slt_iff, pay20_toInt]
    exact Iff.rfl
  rw [e]
  by_cases hc : selected si tb istar j
  · rw [if_pos hc, select_one (h.2 hc)]
  · rw [if_neg hc, select_ne (fun g => hc (h.1 g))]

/-- What the extraction steps start from. -/
abbrev start (si : S3136x128.Idx → BitVec 32) (tb istar : BitVec 32) : S3136x128.Idx → ℤ :=
  Cert.Select.shown (fun j => (si j).toInt) (selected si tb istar)

theorem pay23_toInt (si : S3136x128.Idx → BitVec 32) (tb istar : BitVec 32) (j : S3136x128.Idx) :
    (k0_pay23 (F := F) tb k0_pay20 istar si (fun _ => tb) si si j : BitVec 32).toInt = start si tb istar j := by
  rw [pay23_apply]
  unfold start Cert.Select.shown
  split
  · rfl
  · rfl

/-- A block is read at its rows. -/
theorem read_block (v : View sig .tc .vmem S3136x128 .i32) (f : v.ty.Contents (Elt F)) (w : BitVec 32) (hc : k0_chk1 w) (L : ℕ) (hw : w = BitVec.ofNat 32 L) :
    IsBlock (v.read (Elt F) f) L (v.readAt (Elt F) (Rect.unit (s := S3136x128) (k0_off1 w) S32x128.size (k0_off1_inb w hc)).toLoadRect f) := by
  intro hL b
  subst hw
  rw [View.readAt_apply]
  congr 1
  funext a
  have h0 := (b 0).isLt
  have h1 := (b 1).isLt
  apply Fin.ext
  match a with
  | ⟨0, _⟩ =>
    show (Scalar.indexCast (Scalar.muli (BitVec.ofNat 32 L) 32#32)).toNat + 1 * (b 0).val = (4096 * L + (128 * (b 0).val + (b 1).val)) / 128
    rw [off_row L hL]
    change (b 1).val < 128 at h1
    omega
  | ⟨1, _⟩ =>
    show 0 + 1 * (b 1).val = (4096 * L + (128 * (b 0).val + (b 1).val)) % 128
    change (b 1).val < 128 at h1
    omega

/-- A block is written at its rows, and the others stay. -/
theorem write_block (v : View sig .tc .vmem S3136x128 .i32) (f : v.ty.Contents (Elt F)) (w : BitVec 32) (hc : k0_chk1 w) (L : ℕ) (hL : L < 98)
    (hw : w = BitVec.ofNat 32 L) (blk : IVec S32x128 32) :
    Replaced (v.read (Elt F) f) L blk
      (v.read (Elt F) (v.writes (Elt F) f [(⟨Rect.unit (s := S3136x128) (k0_off1 w) S32x128.size (k0_off1_inb w hc), k0_pay27 blk⟩ : View.Piece (Elt F) S3136x128 .i32)])) := by
  subst hw
  have hoff : k0_off1 (BitVec.ofNat 32 L) = ![32 * L, 0] := by
    unfold k0_off1
    dsimp only
    rw [off_row L hL]
  refine ⟨fun hL b => ?_, fun j hj => ?_⟩
  · have h0 := (b 0).isLt
    have h1 := (b 1).isLt
    change (b 1).val < 128 at h1
    refine (View.read_writes_cons_rows_of_mem (d := S3136x128.size) (size := S32x128.size) v f _ _ _ (inBlock L hL b) b hoff ?_ ?_).trans ?_
    rotate_left 2
    · show blk (Shape.reshapeEquiv _ b) = _
      rw [Shape.reshapeEquiv_self]
    · show (4096 * L + (128 * (b 0).val + (b 1).val)) / 128 = 32 * L + (b 0).val
      omega
    · show (4096 * L + (128 * (b 0).val + (b 1).val)) % 128 = (b 1).val
      omega
  · rw [View.read_writes_cons_rows_of_not_mem v f _ _ _ _ hoff (rfl : S32x128.size 0 = 32)]
    · rfl
    · have h1 := (j 1).isLt
      change (j 1).val < 128 at h1
      change (128 * (j 0).val + (j 1).val) / 4096 ≠ L at hj
      show (j 0).val < 32 * L ∨ 32 * L + 32 ≤ (j 0).val
      omega

/-- What the 300 steps leave in the slots. -/
def Picked (si : S3136x128.Idx → BitVec 32) (tb istar : BitVec 32) (sv fv : IVec S1x512 32) : Prop :=
  ∀ q : S1x512.Idx, slot q < 300 → (sv q).toInt = Cert.Select.after num (start si tb istar) (slot q) (Cert.Select.pick num (start si tb istar) (slot q))
    ∧ fv q = BitVec.ofNat 32 (num (Cert.Select.pick num (start si tb istar) (slot q)))

/-- Row 0 of a window of 8 rows. -/
def row0 (q : S1x1x512.Idx) : S1x8x512.Idx := fun a =>
  match a with
  | ⟨0, _⟩ => ⟨0, Nat.one_pos⟩
  | ⟨1, _⟩ => ⟨0, Nat.succ_pos 7⟩
  | ⟨2, _⟩ => ⟨(q 2).val, (q 2).isLt⟩

/-- A store of row 0 leaves its payload there. -/
theorem read_row0 {e : EltTy} (v : View sig .tc .vmem S1x8x512 e) (f : v.ty.Contents (Elt F)) (w : S1x1x512.Idx → Elt F e) (L : List (View.Piece (Elt F) S1x8x512 e))
    (q : S1x1x512.Idx) :
    v.read (Elt F) (v.writes (Elt F) f ((⟨Rect.unit (s := S1x8x512) ![0, 0, 0] S1x1x512.size inb_S1x8x512_S1x1x512_0_0_0, w⟩ : View.Piece (Elt F) S1x8x512 e) :: L)) (row0 q) = w q := by
  refine View.read_writes_cons_unit_of_mem v f _ w L (row0 q) q rfl fun a => ?_
  match a with
  | ⟨0, _⟩ =>
    have := (q 0).isLt
    change (q 0).val < 1 at this
    exact (show 0 = 0 + (q 0).val by omega)
  | ⟨1, _⟩ =>
    have := (q 1).isLt
    change (q 1).val < 1 at this
    exact (show 0 = 0 + (q 1).val by omega)
  | ⟨2, _⟩ => exact (Nat.zero_add _).symm

/-- The third part runs: the words and numbers of the 300 picks, the words stored as scores in row 0. -/
theorem part4_run (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (si : S3136x128.Idx → BitVec 32) (hsi : ∀ j, 0 ≤ (si j).toInt) (tb istar : BitVec 32)
    (K : (Σ' (v103_1 : IVec S1x512 32) (c80_i32 : BitVec 32) (v109 : IVec S1x512 32), BitVec 32) → sProp 𝕄) :
    iprop(owns (c : Thread nD τ) arg7 fullShare si ∗ (∃ d, owns (c : Thread nD τ) arg9 fullShare d) ∗ (∃ d, owns (c : Thread nD τ) arg4 fullShare d)
        ∗ (∀ fv, (∃ sv, ⌜Picked si tb istar sv fv⌝ ∗ owns (c : Thread nD τ) arg7 fullShare si ∗ (∃ d, owns (c : Thread nD τ) arg9 fullShare d)
            ∗ (∃ d, ⌜∀ q, d (row0 q) = k0_pay29 (F := F) sv q⌝ ∗ owns (c : Thread nD τ) arg4 fullShare d)) -∗ K ⟨fv, 80#32, k0_pay30 fv, 0#32⟩))
      ⊢ wp frame (wpE (defs₀ (F := F)) Variants.none c none) Set.univ
          (k0_part4 i arg1 harg1 arg2 harg2 arg3 harg3 arg4 harg4 arg5 harg5 arg6 harg6 arg7 harg7 arg8 harg8 arg9 harg9 arg10 harg10 tb k0_pay20 istar si (fun _ => tb)) K := by
  simp only [k0_part4_eq_skeleton]; unfold k0_part4_skel
  unfold owns
  iintro ⟨⟨%f7, %h7, H7⟩, ⟨%d9, %f9, -, H9⟩, ⟨%d4, %f4, -, H4⟩, Hk⟩
  have hf : ∀ j, -1 ≤ start si tb istar j := fun j => by
    unfold start Cert.Select.shown
    split
    · exact le_trans (by decide) (hsi j)
    · exact le_refl _
  have e7 : View.readAt (Elt F) arg7.view (Rect.unit (s := S3136x128) ![0, 0] S3136x128.size inb_S3136x128_S3136x128_0_0).toLoadRect f7 = si :=
    (View.readAt_full _ _ _).trans h7
  sl_exec
  sl_for (fun k acc => iprop(∃ f, (arg9.view.loc (c : Thread nD τ) ↦[arg9.view.set]{fullShare} f) ∗ ⌜ExtInv (start si tb istar) k (arg9.view.read (Elt F) f) acc.1 acc.2.1 acc.2.2⌝)) $$ [H9]
  · intro k acc
    iintro ⟨%f, H9, %hI⟩
    obtain ⟨a12, a13, a14⟩ := acc
    have hc : k0_chk1 (extractAt ![0, 0, 0] (k0_pay3 (iota .tc S1x128 32 [1] iota_S1x128_d1_w32) a14) inpos_S1x1x1_p0_0_0) := hI.chk hf
    sl_exec
    sl_step
    iexists _; isplitl [H9]; · iexact H9
    ipureintro
    have E188 : part4_run.sl.v188 a14 = blkW a14 := rfl
    have E207 : part4_run.sl.v207 k a12 a14 = k0_pay6 slots 0#32 1#32 k a12 a14 := rfl
    have E219 : part4_run.sl.v219 c arg9 f a14 hc = k0_pay8 (F := F) k0_pay25 a14 (arg9.view.readAt (Elt F) (Rect.unit (s := S3136x128) (k0_off1 (part4_run.sl.v188 a14)) S32x128.size (k0_off1_inb (part4_run.sl.v188 a14) hc)).toLoadRect f) := rfl
    have E215 : part4_run.sl.v215 c arg9 k f a13 a14 hc = k0_pay7 (F := F) (iota .tc S1x128 32 [1] iota_S1x128_d1_w32) slots k0_pay25 0#32 1#32 k a13 a14 (arg9.view.readAt (Elt F) (Rect.unit (s := S3136x128) (k0_off1 (part4_run.sl.v188 a14)) S32x128.size (k0_off1_inb (part4_run.sl.v188 a14) hc)).toLoadRect f) := rfl
    have h := hI.step hf k (lt_of_lt_of_le k.isLt (by decide)) (blk := (arg9.view.readAt (Elt F) (Rect.unit (s := S3136x128) (k0_off1 (part4_run.sl.v188 a14)) S32x128.size (k0_off1_inb (part4_run.sl.v188 a14) hc)).toLoadRect f))
      fun L hL hw => ⟨read_block arg9.view f (part4_run.sl.v188 a14) hc L (E188.trans hw), write_block arg9.view f (part4_run.sl.v188 a14) hc L hL (E188.trans hw) _⟩
    rw [E207, E215, E219]
    dsimp only at h ⊢
    rw [← E188] at h
    exact h
  · iexists _; isplitl [H9]; · iexact H9
    ipureintro
    have e9 : arg9.view.read (Elt F) (arg9.view.writes (Elt F) arg9.view.junk (part4_run.sl.H9_1 si tb istar)) = k0_pay23 (F := F) tb k0_pay20 istar si (fun _ => tb) si si := by
      unfold part4_run.sl.H9_1
      rw [read_full]
    have e88 : part4_run.sl.v88 c arg9 si tb istar = k0_pay23 (F := F) tb k0_pay20 istar si (fun _ => tb) si si := (View.readAt_full _ _ _).trans e9
    rw [e9, e88]
    exact ExtInv.zero (F := F) _ _ (pay23_toInt si tb istar)
  iintro %acc ⟨%f, H9, %hI⟩
  obtain ⟨a12, a13, a14⟩ := acc
  sl_exec
  sl_step
  iapply Hk
  iexists a12
  isplitr
  · ipureintro
    intro q hq
    exact hI.below q (lt_of_lt_of_eq hq trips4.symm)
  isplitl [H7]
  · iexists f7; isplitr; swap; · iexact H7
    ipureintro; exact h7
  isplitl [H9]
  · iexists _, _; isplitr; swap; · iexact H9
    ipureintro; rfl
  · iexists _; isplitr; swap
    · iexists _; isplitr; swap; · iexact H4
      ipureintro; rfl
    · ipureintro
      intro q
      exact read_row0 arg4.view f4 _ _ q

end Cert.Kernel.Hand
-- ==== Proof.Whole.lean ====
/-
  The last part of the body, and the whole body: what one grid point leaves in its three output windows.
-/
module

public import proofs.«01_k».proof.Proof.Gen.Kernel.Frame
public import proofs.«01_k».proof.Proof.Gen.Kernel.Skeleton
public import proofs.«01_k».proof.Proof.Gen.Kernel.Loops
public import proofs.«01_k».proof.Proof.Back
public import proofs.«01_k».proof.Proof.Step
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The labels stored in row 0. -/
abbrev labelRow (fv : IVec S1x512 32) : IVec S1x1x512 32 := k0_pay32 fv 80#32 (k0_pay30 fv) 0#32

/-- What a grid point leaves in its score and label windows: row 0 holds the picked words as scores and the labels of
    the picked numbers, for some selection of at least 300 of the words. -/
def Out (x : Vec F S1x3136x128 .f32) (d4 : S1x8x512.Idx → Elt F .f32) (d5 : S1x8x512.Idx → Elt F .i32) : Prop :=
  ∃ (tb istar : BitVec 32) (sv fv : IVec S1x512 32), 300 ≤ cnt (selected (words x) tb istar) ∧ Picked (words x) tb istar sv fv
    ∧ (∀ q, d4 (row0 q) = k0_pay29 (F := F) sv q) ∧ ∀ q, d5 (row0 q) = labelRow fv q

/-- The fourth part runs and stores the labels in row 0. -/
theorem part5_run (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x2 : Vec F S1x8x5000 .f32) (x3 : Vec F S1x8x128 .f32) (fv : IVec S1x512 32)
    (K : (Σ' (v131 : IVec S1x512 32) (v141 : F .f32) (v143 : F .f32) (v144 : FVec F S1x5000 .f32) (v145 : FVec F S1x5000 .f32) (v146 : FVec F S1x5000 .f32) (v147 : FVec F S1x5000 .f32), FVec F S1x5000 .f32) → sProp 𝕄) :
    iprop(owns (c : Thread nD τ) arg2 fullShare x2 ∗ owns (c : Thread nD τ) arg3 fullShare x3 ∗ (∃ d, owns (c : Thread nD τ) arg5 fullShare d)
        ∗ (∀ r, (owns (c : Thread nD τ) arg2 fullShare x2 ∗ owns (c : Thread nD τ) arg3 fullShare x3
            ∗ (∃ d, ⌜∀ q, d (row0 q) = labelRow fv q⌝ ∗ owns (c : Thread nD τ) arg5 fullShare d)) -∗ K r))
      ⊢ wp frame (wpE (defs₀ (F := F)) Variants.none c none) Set.univ
          (k0_part5 i arg1 harg1 arg2 harg2 arg3 harg3 arg4 harg4 arg5 harg5 arg6 harg6 arg7 harg7 arg8 harg8 arg9 harg9 arg10 harg10 fv 80#32 (k0_pay30 fv) 0#32) K := by
  simp only [k0_part5_eq_skeleton]; unfold k0_part5_skel
  unfold owns
  iintro ⟨⟨%f2, %h2, H2⟩, ⟨%f3, %h3, H3⟩, ⟨%d5, %f5, -, H5⟩, Hk⟩
  sl_exec
  sl_step
  iapply Hk
  isplitl [H2]
  · iexists f2; isplitr; swap; · iexact H2
    ipureintro; exact h2
  isplitl [H3]
  · iexists f3; isplitr; swap; · iexact H3
    ipureintro; exact h3
  iexists _; isplitr; swap
  · iexists _; isplitr; swap; · iexact H5
    ipureintro; rfl
  · ipureintro
    intro q
    exact read_row0 arg5.view f5 _ _ q

/-- The body runs. -/
theorem body_run (c : Dev nD) (i : grid0.Coords) (arg1 : Memref sig .tc .vmem S1x3136x128 .f32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .f32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .f32) (hx : ∀ j, 0 ≤ (words x j).toInt) (x2 : Vec F S1x8x5000 .f32) (x3 : Vec F S1x8x128 .f32)
    (K : PUnit → sProp 𝕄) :
    iprop(owns (c : Thread nD τ) arg1 fullShare x ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (∀ d4 d5, (⌜Out x d4 d5⌝ ∗ owns (c : Thread nD τ) arg1 fullShare x ∗ owns (c : Thread nD τ) arg2 fullShare x2 ∗ owns (c : Thread nD τ) arg3 fullShare x3
            ∗ owns (c : Thread nD τ) arg4 fullShare d4 ∗ owns (c : Thread nD τ) arg5 fullShare d5 ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)) -∗ K PUnit.unit))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  iintro ⟨H1, H2, H3, H4, H5, H6, H7, H8, H9, Hk⟩
  rw [wp_bind]
  iapply (part2_run c i arg1 harg1 arg2 harg2 arg3 harg3 arg4 harg4 arg5 harg5 arg6 harg6 arg7 harg7 arg8 harg8 arg9 harg9 arg10 harg10 x _)
  isplitl [H1]; · iexact H1
  isplitl [H7]; · iexact H7
  isplitl [H8]; · iexact H8
  iintro %t %v26 %v30 %v34 ⟨%hp, H1, H7, H8⟩
  obtain ⟨hF, rfl, rfl⟩ := hp
  rw [wp_bind]
  iapply (part3_run c i arg1 harg1 arg2 harg2 arg3 harg3 arg4 harg4 arg5 harg5 arg6 harg6 arg7 harg7 arg8 harg8 arg9 harg9 arg10 harg10 x hx t v26 hF _)
  isplitl [H7]; · iexact H7
  isplitl [H8]; · iexact H8
  iintro %tb %istar %v72 %v73 ⟨%hp, H7, H8⟩
  obtain ⟨hS, rfl, rfl⟩ := hp
  rw [wp_bind]
  iapply (part4_run c i arg1 harg1 arg2 harg2 arg3 harg3 arg4 harg4 arg5 harg5 arg6 harg6 arg7 harg7 arg8 harg8 arg9 harg9 arg10 harg10 (words x) hx tb istar _)
  isplitl [H7]; · iexact H7
  isplitl [H9]; · iexact H9
  isplitl [H4]; · iexact H4
  iintro %fv ⟨%sv, %hP, H7, H9, ⟨%d4, %h4, H4⟩⟩
  rw [wp_bind]
  iapply (part5_run c i arg1 harg1 arg2 harg2 arg3 harg3 arg4 harg4 arg5 harg5 arg6 harg6 arg7 harg7 arg8 harg8 arg9 harg9 arg10 harg10 x2 x3 fv _)
  isplitl [H2]; · iexact H2
  isplitl [H3]; · iexact H3
  isplitl [H5]; · iexact H5
  iintro %r ⟨H2, H3, ⟨%d5, %h5, H5⟩⟩
  unfold owns
  icases H6 with ⟨%d6, %f6, -, H6⟩
  sl_exec
  sl_step
  iapply Hk
  isplitr
  · ipureintro; exact ⟨tb, istar, sv, fv, hS, hP, h4, h5⟩
  isplitl [H1]; · iexact H1
  isplitl [H2]; · iexact H2
  isplitl [H3]; · iexact H3
  isplitl [H4]; · iexact H4
  isplitl [H5]; · iexact H5
  isplitl [H6]
  · iexists _, _; isplitr; swap; · iexact H6
    ipureintro; rfl
  isplitl [H7]; · iexists _; iexact H7
  isplitl [H8]; · iexact H8
  iexact H9

end Cert.Kernel.Hand
-- ==== Proof.Run.lean ====
module

public import proofs.«01_k».proof.Proof.Gen.Kernel.Frame
public import proofs.«01_k».proof.Proof.Gen.Kernel.Skeleton
public import proofs.«01_k».proof.Proof.Gen.Kernel.Loops
public import proofs.«01_k».proof.Proof.Whole
public import Idealize.ShloMosaic.Lib.Tactic
public import Idealize.ShloMosaic.Lib.Pipeline.ArrRel
public import Idealize.ShloMosaic.Lib.Pipeline.FrameSuffix
public import Idealize.ShloMosaic.Lib.Pipeline.Quiescent

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The data of the run -/

/-- The block of probabilities that grid point `t` works on. -/
abbrev probs (c : Dev nD) (t : Fin cfg0.N) : Vec F S1x3136x128 .f32 := iblk m c 0 t

/-- What the body leaves in a window: in the score and the label window what `Out` says of the point's block, in the
    others anything. -/
def leaves (c : Dev nD) : (w : Fin 6) → (t : Fin cfg0.N) → ((cfg0.win w).block.Idx → Elt F (cfg0.win w).elt) → Prop
  | 3, t, X => ∃ d5, Out (probs m c t) X d5
  | 4, t, X => ∃ d4, Out (probs m c t) d4 X
  | _, _, _ => True

/-- The relational data of the one launch: the arrays as the host left them, `leaves` for the body, nothing owed. -/
def rdat (c : Dev nD) : Pipeline.RDat τ (Elt F) Unit ℕ (UR sig nD τ) ℕ cfg0 c where
  A w := V m c (Pipeline.arrRef spec0 w)
  after w t _ X := leaves m c w t X
  Φ _ := Pipeline.ΦA spec0 c
  q _ := fullShare
  owed _ := 0

/-- Every word of every block is nonnegative. -/
def Plain : Prop := ∀ (c : Dev nD) (t : Fin cfg0.N) (j : S3136x128.Idx), 0 ≤ (words (probs m c t) j).toInt

/-- The row of the body table at a point is the body as the pipeline calls it there. -/
theorem defs₀_row (t : Fin cfg0.N) : defs₀ (F := F) .tc cfg0.body (cfg0.bodyArgs t (cfg0.slots t)) = bodyAt0 t := by
  unfold defs₀; rw [Defs.onTc_tc]

/-- The first window's buffer holds the point's block when the body runs. -/
theorem finds_probs (c : Dev nD) (t : Fin cfg0.N) (X : (cfg0.win 0).block.Idx → Elt F (cfg0.win 0).elt)
    (h : (rdat m c).Finds 0 t X) : X = probs m c t := by
  unfold Pipeline.RDat.Finds at h
  rw [if_pos (fetch0_0 t)] at h
  obtain ⟨d, rfl⟩ := h
  rfl

/-- What one point starts from, the buffers' contents named. -/
def pointPre (c : Dev nD) (t : Fin cfg0.N) (Y : (w : Fin 6) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5))

/-- What one point ends with. -/
def pointPost (c : Dev nD) (t : Fin cfg0.N) : sProp 𝕄 :=
  iprop((rdat m c).Φ t.succ ∗ (rdat m c).owesAt () t.succ
    ∗ (∃ X, ⌜leaves m c 0 t X⌝ ∗ owns (c : Thread nD τ) (st0_0 t) fullShare X)
    ∗ (∃ X, ⌜leaves m c 1 t X⌝ ∗ owns (c : Thread nD τ) (st0_1 t) fullShare X)
    ∗ (∃ X, ⌜leaves m c 2 t X⌝ ∗ owns (c : Thread nD τ) (st0_2 t) fullShare X)
    ∗ (∃ X, ⌜leaves m c 3 t X⌝ ∗ owns (c : Thread nD τ) (st0_3 t) fullShare X)
    ∗ (∃ X, ⌜leaves m c 4 t X⌝ ∗ owns (c : Thread nD τ) (st0_4 t) fullShare X)
    ∗ (∃ X, ⌜leaves m c 5 t X⌝ ∗ owns (c : Thread nD τ) (st0_5 t) fullShare X))

theorem point_run (h : Plain m) (c : Dev nD) (t : Fin cfg0.N)
    (Y : (w : Fin 6) → (cfg0.win w).block.Idx → Elt F (cfg0.win w).elt) (hY : Y 0 = probs m c t) :
    pointPre m c t Y ⊢ wp frame (wpE (defs₀ (F := F)) Variants.none c none) Set.univ (bodyAt0 t) (fun _ => pointPost m c t) := by
  unfold pointPre pointPost bodyAt0
  rw [show (rdat m c).Φ t.succ = Pipeline.ΦA spec0 c from rfl,
    show (rdat m c).owesAt () t.succ = (rdat m c).owesAt () t.castSucc from rfl,
    show (rdat m c).Φ t.castSucc = Pipeline.ΦA spec0 c from rfl, hY]
  unfold Pipeline.ΦA
  rw [scopedRest0_eq]
  simp only [← owns_whole]
  iintro ⟨⟨⟨HA, HB, HC, HD⟩, Hg⟩, HO, H0, H1, H2, H3, H4, H5⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (probs m c t) (h c t) (Y 1) (Y 2) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HA]; · iexact HA
  isplitl [HB]; · iexact HB
  isplitl [HC]; · iexact HC
  iintro %d4 %d5 ⟨%hO, H0, H1, H2, H3, H4, ⟨%d6, H5⟩, HA, HB, HC⟩
  isplitl [HA HB HC HD Hg]
  · isplitr [Hg]
    · isplitl [HA]; · iexact HA
      isplitl [HB]; · iexact HB
      isplitl [HC]; · iexact HC
      iexact HD
    · iexact Hg
  isplitl [HO]; · iexact HO
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; exact ⟨d5, hO⟩
  isplitl [H4]
  · iexists _; isplitr; swap; · iexact H4
    ipureintro; exact ⟨d4, hO⟩
  iexists _; isplitr; swap; · iexact H5
  ipureintro; trivial

/-- The body meets the data at every point. -/
theorem body_meets (h : Plain m) (c : Dev nD) : (rdat m c).BodyObligation (defs₀ (F := F)) Variants.none () Set.univ := fun t Y hY => by
  rw [bigSep_W0, bigSep_W0, defs₀_row]
  exact triple_restated (point_run m h c t Y (finds_probs m c t (Y 0) (hY 0))) rfl .rfl fun _ => .rfl

/-! ## The launch -/

/-- Contents of the windowed arrays after every write-back, as the data allow them. -/
abbrev Arrays (c : Dev nD) := (w : Fin cfg0.W) → Buf (Elt F) ((cfg0.win w).arr.view.loc (c.tc : Thread nD τ))

def Allowed (c : Dev nD) (A : Arrays (F := F) c) : Prop := ∀ w, (rdat m c).ArrAt w cfg0.N (A w)

/-- What the buffers hold at the end, from the arrays' contents: the host lines after the call run on them. -/
abbrev finish (c : Dev nD) (A : Arrays (F := F) c) : Valuation τ sig (Elt F) :=
  StableHlo.after (List.flatten [hostOps1]) (Pipeline.withArrays spec0 c (V0 m c) A)

/-- The arrays after every write-back, opened to some allowed contents. -/
theorem arrays_open (c : Dev nD) : ((rdat m c).arraysAt cfg0.N : sProp 𝕄) ⊢ iprop(∃ A, ⌜Allowed m c A⌝ ∗ (rdat m c).arrays A) := by
  unfold Pipeline.RDat.arraysAt
  iintro Ha
  ihave Ha1 := (BI.bigSep_exists_pi Finset.univ (fun w G => iprop(⌜(rdat m c).ArrAt w cfg0.N G⌝
      ∗ (cfg0.win w).arr.view.loc (c.tc : Thread nD τ) ↦[(cfg0.win w).arr.view.set]{(rdat m c).share w} G))) $$ Ha
  icases Ha1 with ⟨%A, Ha⟩
  ihave Ha2 := (BI.bigSep_pure_sep Finset.univ (fun w => (rdat m c).ArrAt w cfg0.N (A w))
      (fun w => (cfg0.win w).arr.view.loc (c.tc : Thread nD τ) ↦[(cfg0.win w).arr.view.set]{(rdat m c).share w} A w)) $$ Ha
  icases Ha2 with ⟨%hA, Ha⟩
  iexists A; isplitr
  · ipureintro; exact fun w => hA w (Finset.mem_univ w)
  unfold Pipeline.RDat.arrays
  iexact Ha

/-- And closed again. -/
theorem arrays_close (c : Dev nD) (A : Arrays (F := F) c) (hA : Allowed m c A) :
    ((rdat m c).arrays A : sProp 𝕄) ⊢ (rdat m c).arraysAt cfg0.N := by
  unfold Pipeline.RDat.arraysAt Pipeline.RDat.arrays
  refine BI.bigSep_mono fun w _ => ?_
  show ((cfg0.win w).arr.view.loc (c.tc : Thread nD τ) ↦[(cfg0.win w).arr.view.set]{(rdat m c).share w} A w : sProp 𝕄)
    ⊢ iprop(∃ G, ⌜(rdat m c).ArrAt w cfg0.N G⌝ ∗ (cfg0.win w).arr.view.loc (c.tc : Thread nD τ) ↦[(cfg0.win w).arr.view.set]{(rdat m c).share w} G)
  iintro H; iexists (A w); isplitr
  · ipureintro; exact hA w
  iexact H

/-- The state the run ends in: on each core the buffers outside the arrays hold what the host lines make of some allowed
    contents of the arrays. -/
def Ended (r : PUnit × MemSt nD τ sig (Elt F)) : Prop :=
  ∀ c : Dev nD, ∃ A, Allowed m c A
    ∧ ∀ b ∈ Pipeline.restRefs sig spec0, r.2.mem ((c.tc : Thread nD τ).loc b) = finish m c A (Proc.devRef .tc b)

theorem full_share (c : Dev nD) (w : Fin cfg0.W) : Pipeline.shareOf cfg0.spec w = fullShare :=
  Pipeline.shareOf_eq_fullShare_of_injective _ launch0.win.arr_inj w

theorem run_ended (h : Plain m) :
    θ_run defs (onTc (τ := τ) (main (F := F))) (s₀ m ρ) (fun r => Ended m r ∧ r.2.sem = fun _ => 0) := by
  classical
  exact Pipeline.RDat.θ_run_region_pf_tail_quiescent (fun q => (cfgs q).toPCfg (Val := Elt F)) (fun q => (cfgs q).toPCfg_adm)
    (fun _ c => rdat m c) () (launch0.toP.to₀.cellOf_inj _) (0 : Fin 1) launch0.toP.to₀.win (Pipeline.OwnSemFacts.none spec0) launch0.toP.to₀.pre
    emb₁ defs₀ Variants.none m ρ main
    (fun _ => Pipeline.chain ([hostOps1].map StableHlo.seq)) (body_meets m h)
    launch0.block_pos launch0.arr_whole launch0.stage_whole (fun _ _ => rfl)
    (G := fun _ => iprop(emp))
    (u₀ := Rounds.initOf (Pipeline.cells (Pipeline.pin (fun q => (cfgs q).toPCfg (Val := Elt F)) (fun q => (cfgs q).toPCfg_adm)) (launch0.toP.to₀.cellOf_inj _)) (Pipeline.launchToks (Pipeline.pin (fun q => (cfgs q).toPCfg (Val := Elt F)) (fun q => (cfgs q).toPCfg_adm)) (launch0.toP.to₀.cellOf_inj _)))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (rdat m c).arrays_split_shared launch0.to₀.sharedIn launch0.arr_whole (fun w _ => (full_share c w).symm) (V m c) _ (fun _ => rfl))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop(∃ A, ⌜Allowed m c A⌝
      ∗ Pipeline.unscopedRestP (Ix := Unit) (Name := ℕ) (U := UR sig nD τ) (Lvl := ℕ) Pipeline.Prefetch.none spec0 c (fun b => finish m c A (Proc.devRef .tc b))))
    (hX := fun c => by
      iintro ⟨HU, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      iintro ⟨Hk, Hb, Ha, HZ⟩
      ihave Ha1 := (arrays_open m c) $$ Ha
      icases Ha1 with ⟨%A, %hA, Ha⟩
      have hB : (rdat m c).arrays A = Pipeline.arrBufs spec0 c (fun b => Pipeline.withArrays spec0 c (V0 m c) A (Proc.devRef .tc b)) :=
        ((rdat m c).arrBufs_eq_arrays launch0.to₀.sharedIn launch0.arr_whole (fun w _ => (full_share c w).symm) _ A fun w =>
          (Pipeline.withArrays_arr spec0 launch0.win.arr_inj c (V0 m c) A w).symm).symm
      iapply (Pipeline.tail_seqs_bufs_b (fun q => (cfgs q).toPCfg (Val := Elt F)) defs₀ Variants.none Pipeline.Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]
        · iapply (arrays_close m c A hA); iapply (Entails.of_eq hB.symm); iexact Ha2
        iexists A; isplitr
        · ipureintro; exact hA
        iexact Hu
      · isplitl [Hb]; · iexact Hb
        isplitl [Ha]
        · iapply (Entails.of_eq hB); iexact Ha
        iexact HZ)
    (QY := fun c s => ∃ A, Allowed m c A
      ∧ ∀ b ∈ Pipeline.restRefsP sig Pipeline.Prefetch.none spec0, s.mem ((c.tc : Thread nD τ).loc b) = finish m c A (Proc.devRef .tc b))
    (hY := fun c s' => by
      iintro ⟨-, ⟨%A, %hA, HZ⟩, HSI⟩
      unfold Pipeline.unscopedRestP
      ihave HR := (Idealize.ShloMosaic.pointsTo_read_all (Pipeline.restRefsP sig Pipeline.Prefetch.none spec0) (fun b => (c.tc : Thread nD τ).loc b)
        (fun b => finish m c A (Proc.devRef .tc b)) s') $$ [HZ HSI]
      · isplitl [HZ] <;> iassumption
      icases HR with ⟨%hZ, HSI⟩
      imodintro
      isplitr
      · ipureintro; exact ⟨A, hA, hZ⟩
      · iexact HSI)
    (hQ := fun s hs hz => ⟨fun c => by
      obtain ⟨A, hA, hb⟩ := (hs c).2.2
      exact ⟨A, hA, fun b hm => hb b (Finset.mem_sdiff.mpr ⟨hm, fun e => (Finset.mem_image.mp e).elim fun k _ => k.elim0⟩)⟩, hz⟩)

end Cert.Kernel.Hand
-- ==== Proof.Host.lean ====
/-
  The host's lines around the call: what the first window's array holds, and the block each grid point reads.
-/
module

public import proofs.«01_k».proof.Proof.Run
public import Idealize.ShloMosaic.Lib.StableHlo.Run
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.StableHlo
open Idealize.SL Idealize.SL.Sem

variable {F : FTy → Type} [BitOps F] [∀ e, Nonempty (Elt F e)]

variable (m : (ℓ : Loc nD τ sig) → Buf (Elt F) ℓ) (ρ : Dev nD → PrngReg)

/-- The logistic function of one number, as the host computes it. -/
def logistic1 (x : F .f32) : F .f32 :=
  Host.divf (F := F) (constant S_ .f32 0x3F800000#32) (addf (constant S_ .f32 0x3F800000#32) (Host.exp (Host.negf fun _ => x))) (Shape.Idx.first (s := S_) h_S_)

/-- The number the logits are padded with. -/
def padding : F .f32 := constant (F := F) S_ .f32 0xF149F2CA#32 (Shape.Idx.first (s := S_) h_S_)

/-- The padded logits, in rows of 128. -/
def padded (a : FVec F S64x5000x80 .f32) : FVec F S64x3136x128 .f32 :=
  pad S64x3136x128 ![0, 0, 0] ![0, 11, 0] ![0, 0, 0] (shapeCast S64x3125x128 a shapeCasts_S64x5000x80_S64x3125x128)
    (constant S_ .f32 0xF149F2CA#32) pads_S64x3125x128_S64x3136x128_000_0110_000 h_S_

theorem V_main_v7 (c : Dev nD) (j : S64x3136x128.Idx) :
    V m c main_v7 j = logistic1 (padded (m ((c : Thread nD τ).loc main_arg0)) j) := by
  have e : V m c main_v7 = Host.divf (broadcastInDim S64x3136x128 ![] bcast_S_S64x3136x128 (constant S_ .f32 0x3F800000#32))
      (addf (broadcastInDim S64x3136x128 ![] bcast_S_S64x3136x128 (constant S_ .f32 0x3F800000#32))
        (Host.exp (Host.negf (padded (m ((c : Thread nD τ).loc main_arg0)))))) := by
    simp only [V, V0, hostOps0, hostOps0_1, hostOps0_2, hostOps0_3, hostOps0_4, hostOps0_5, hostOps0_6, List.flatten_cons, List.flatten_nil,
      List.append_nil, List.cons_append, List.nil_append, TRef.binary, TRef.nullary, TRef.reshape, TRef.ternary, TRef.unary, TRef.toBuf, TRef.ofBuf, cast_eq]
    after_results_simp <;> (try dsimp only [Matrix.cons_val]) <;> (try after_results_simp) <;> rfl
  rw [e]
  rfl

/-! ## The block a point reads -/

theorem index0 : ∀ t : Fin cfg0.N, win0_0.index t = ![t.val, 0, 0] := (by decide +kernel : ∀ t : Fin grid0.N, win0_0.index t = ![t.val, 0, 0])
theorem index3 : ∀ t : Fin cfg0.N, win0_3.index t = ![t.val, 0, 0] := (by decide +kernel : ∀ t : Fin grid0.N, win0_3.index t = ![t.val, 0, 0])
theorem index4 : ∀ t : Fin cfg0.N, win0_4.index t = ![t.val, 0, 0] := (by decide +kernel : ∀ t : Fin grid0.N, win0_4.index t = ![t.val, 0, 0])

theorem points : cfg0.N = 64 := rfl

/-- The point's row of a batch, as a number below 64. -/
abbrev batch (t : Fin cfg0.N) : Fin 64 := t.cast points

/-- Place `j` of batch `b`, in the padded array. -/
def atBatch (b : Fin 64) (j : S3136x128.Idx) : S64x3136x128.Idx := fun a =>
  match a with
  | ⟨0, _⟩ => b
  | ⟨1, _⟩ => ⟨(j 0).val, (j 0).isLt⟩
  | ⟨2, _⟩ => ⟨(j 1).val, (j 1).isLt⟩

/-- Place `j`, in a block. -/
def atBlock (j : S3136x128.Idx) : S1x3136x128.Idx := fun a =>
  match a with
  | ⟨0, _⟩ => ⟨0, Nat.one_pos⟩
  | ⟨1, _⟩ => ⟨(j 0).val, (j 0).isLt⟩
  | ⟨2, _⟩ => ⟨(j 1).val, (j 1).isLt⟩

theorem probs_apply (c : Dev nD) (t : Fin cfg0.N) (j : S3136x128.Idx) :
    probs m c t (atBlock j) = V m c main_v7 (atBatch (batch t) j) := by
  have e : ((win0_0.blk t).view.emb (atBlock j) : S64x3136x128.Idx) = atBatch (batch t) j := by
    funext a
    apply Fin.ext
    match a with
    | ⟨0, _⟩ => blk_simp [index0]; simp [atBlock, atBatch]
    | ⟨1, _⟩ => blk_simp [index0]; simp [atBlock, atBatch]
    | ⟨2, _⟩ => blk_simp [index0]; simp [atBlock, atBatch]
  unfold probs
  blk_simp [iblk]
  rw [e]

/-- The word of one number. -/
def word1 (x : F .f32) : BitVec 32 := bitcastToInt (s := S_) (fun _ => x) (Shape.Idx.first (s := S_) h_S_)

theorem words_apply (x : Vec F S1x3136x128 .f32) (j : S3136x128.Idx) : words x j = word1 (x (atBlock j)) := by
  have e : shapeCast S3136x128 x shapeCasts_S1x3136x128_S3136x128 j = x (atBlock j) := by
    refine shapeCast_apply x _ j (atBlock j) ?_
    rw [Shape.rowMajor_val_three, Shape.rowMajor_val_two]
    simp [atBlock]
  rw [← e]
  rfl

/-- The logit of batch `b` with flat number `n`. -/
def logitAt (b : Fin 64) (n : ℕ) (h : n < 400000) : S64x5000x80.Idx := fun a =>
  match a with
  | ⟨0, _⟩ => b
  | ⟨1, _⟩ => ⟨n / 80, by show n / 80 < 5000; omega⟩
  | ⟨2, _⟩ => ⟨n % 80, by show n % 80 < 80; omega⟩

theorem padded_data (a : FVec F S64x5000x80 .f32) (b : Fin 64) (j : S3136x128.Idx) (h : num j < 400000) :
    padded a (atBatch b j) = a (logitAt b (num j) h) := by
  have h1 := lane_lt j
  have h0 := row_lt j
  have hb := b.isLt
  have hr : (j 0).val < 3125 := by unfold num at h; omega
  unfold padded pad
  rw [dif_pos (by
    intro a
    match a with
    | ⟨0, _⟩ => exact ⟨Nat.zero_le _, Nat.mod_one _, by show (b.val - 0) / 1 < 64; omega⟩
    | ⟨1, _⟩ => exact ⟨Nat.zero_le _, Nat.mod_one _, by show ((j 0).val - 0) / 1 < 3125; omega⟩
    | ⟨2, _⟩ => exact ⟨Nat.zero_le _, Nat.mod_one _, by show ((j 1).val - 0) / 1 < 128; omega⟩)]
  refine shapeCast_apply a _ _ (logitAt b (num j) h) ?_
  rw [Shape.rowMajor_val_three, Shape.rowMajor_val_three]
  show (b.val * 5000 + num j / 80) * 80 + num j % 80 = ((b.val - 0) / 1 * 3125 + ((j 0).val - 0) / 1) * 128 + ((j 1).val - 0) / 1
  unfold num
  omega

theorem padded_pad (a : FVec F S64x5000x80 .f32) (b : Fin 64) (j : S3136x128.Idx) (h : 400000 ≤ num j) :
    padded a (atBatch b j) = padding := by
  have h1 := lane_lt j
  unfold padded pad
  rw [dif_neg (by
    intro g
    have := (g 1).2.2
    change ((j 0).val - 0) / 1 < 3125 at this
    unfold num at h
    omega)]
  rfl

end Cert.Kernel.Hand

end
-- ==== Proof.Order.lean ====
/-
  The first 300 positions of a stable sort of 400000 words, greatest first, are the places the kernel picks.
-/
module

public import proofs.«01_k».proof.Proof.Back
public import Idealize.ShloMosaic.Lib.SortPrefix
public import Idealize.ShloMosaic.Lib.SortKey

@[expose] public section

noncomputable section

namespace Cert.Order

open Idealize.ShloMosaic Cert.Kernel Cert.Kernel.Hand

/-- A stable sort of an increasing list only ever asks whether a later element is before an earlier one. -/
theorem stableSort_ties {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- `σ` lists positions in order of falling value, of equal values the lower position first, and leaves none out: then
    it lists the first positions of the stable sort. -/
theorem sorted_prefix {n k : ℕ} (hk : k ≤ n) (s : Fin n → ℤ) (σ : Fin k → Fin n)
    (hord : ∀ i j : Fin k, i < j → s (σ j) < s (σ i) ∨ (s (σ i) = s (σ j) ∧ (σ i).val < (σ j).val))
    (hdom : ∀ (i : Fin k) (p : Fin n), s (σ i) < s p ∨ (s p = s (σ i) ∧ p.val < (σ i).val) → ∃ j, σ j = p)
    (R : Fin n → Fin n → Bool) (hR : ∀ a b, R a b = decide (s b < s a)) (i : Fin k) :
    sortedFrom R (i.castLE hk) = σ i := by
  have hB : StrictTotalBefore fun a b : Fin n => decide (s b < s a) || (decide (s a = s b) && decide (a < b)) :=
    StrictTotalBefore.of_key_then_position (fun x y : ℤ => decide (y < x)) s (by simp) (by simp; omega) (by simp; omega)
  have e : sortPositions n R = sortPositions n fun a b : Fin n => decide (s b < s a) || (decide (s a = s b) && decide (a < b)) := by
    refine stableSort_ties _ _ (fun a b hab => ?_) _ (List.pairwise_lt_finRange n)
    rw [hR]
    have : ¬ b < a := not_lt.2 hab.le
    simp [this]
  have e' : sortedFrom R = sortedFrom fun a b : Fin n => decide (s b < s a) || (decide (s a = s b) && decide (a < b)) := by
    funext q; exact List.get_of_eq e _
  rw [e']
  refine hB.sortedFrom_eq_of_prefix hk σ (fun a b hab => ?_) (fun a b hab => ?_) (fun a p hp => ?_) i
  · by_contra hne
    rcases lt_or_gt_of_ne hne with h | h
    · have := hord a b h; rw [hab] at this; omega
    · have := hord b a h; rw [hab] at this; omega
  · have := hord a b hab
    simp only [Bool.or_eq_false_iff, Bool.and_eq_false_iff, decide_eq_false_iff_not, Fin.lt_def]
    omega
  · have : ¬ (s (σ a) < s p ∨ (s p = s (σ a) ∧ p.val < (σ a).val)) := fun h => (hdom a p h).elim hp
    simp only [Bool.or_eq_false_iff, Bool.and_eq_false_iff, decide_eq_false_iff_not, Fin.lt_def]
    omega

section picks

variable (si : S3136x128.Idx → BitVec 32) (hs : ∀ j, 0 ≤ (si j).toInt) (tb istar : BitVec 32)
  (hc : 300 ≤ cnt (selected si tb istar))
  (hpad : ∀ a b, num a < 400000 → 400000 ≤ num b → (si b).toInt ≤ (si a).toInt)

/-- The place picked at step `j`. -/
abbrev picked (j : ℕ) : S3136x128.Idx := Cert.Select.pick num (start si tb istar) j

include hs hc in
theorem picked_all (j : ℕ) (hj : j < 300) (n : S3136x128.Idx)
    (hn : Cert.Select.Before num (fun j => (si j).toInt) n (picked si tb istar j)) : ∃ i < j, picked si tb istar i = n :=
  Cert.Select.pick_all num (fun j => (si j).toInt) hs (selected si tb istar) (fun a b hb hab => selected_up si tb istar a b hb hab) 300 hc j hj n hn

include hs hc hpad in
/-- The first 300 places picked are places of the data, not of the padding. -/
theorem picked_lt (j : ℕ) (hj : j < 300) : num (picked si tb istar j) < 400000 := by
  by_contra hge
  have hge := not_lt.1 hge
  have h : ∀ n : Fin 300, ∃ i : Fin j, picked si tb istar i = place n.val (by omega) := fun n => by
    have hn : num (place n.val (by omega)) < 400000 := by rw [num_place]; omega
    obtain ⟨i, hi, e⟩ := picked_all si hs tb istar hc j hj (place n.val (by omega)) (by
      have := hpad _ _ hn hge
      rcases lt_or_eq_of_le this with h | h
      · exact Or.inl h
      · exact Or.inr ⟨h.symm, by omega⟩)
    exact ⟨⟨i, hi⟩, e⟩
  choose f hf using h
  have hinj : Function.Injective f := fun a b hab => by
    have := (hf a).symm.trans ((congrArg (fun i : Fin j => picked si tb istar i) hab).trans (hf b))
    have := congrArg num this
    rw [num_place, num_place] at this
    exact Fin.ext this
  have := Fintype.card_le_of_injective f hinj
  simp only [Fintype.card_fin] at this
  omega

include hs hc hpad in
/-- The sort's first 300 positions are the numbers of the places picked. -/
theorem sorted_picked (R : Fin 400000 → Fin 400000 → Bool)
    (hR : ∀ a b, R a b = decide ((si (place b.val (by omega))).toInt < (si (place a.val (by omega))).toInt)) (j : Fin 300) :
    (sortedFrom R (j.castLE (by decide))).val = num (picked si tb istar j) := by
  have hp : ∀ i : Fin 300, place (num (picked si tb istar i)) (num_lt _) = picked si tb istar i := fun i => num_inj (num_place _ _)
  rw [sorted_prefix (by decide) (fun p : Fin 400000 => (si (place p.val (by omega))).toInt)
    (fun i : Fin 300 => ⟨num (picked si tb istar i), picked_lt si hs tb istar hc hpad i i.isLt⟩) (fun a b hab => ?_) (fun a p hpa => ?_) R hR j]
  · have := Cert.Select.pick_before num (fun j => (si j).toInt) hs (selected si tb istar) 300 hc
      num_inj a b hab b.isLt
    simp only [hp]
    exact this
  · simp only [hp] at hpa
    obtain ⟨i, hi, e⟩ := picked_all si hs tb istar hc a a.isLt (place p.val (by omega)) (by
      unfold Cert.Select.Before; rw [num_place]; exact hpa)
    refine ⟨⟨i, by omega⟩, Fin.ext ?_⟩
    show num (picked si tb istar i) = p.val
    rw [e, num_place]

end picks

/-! ## The host's top-k at an index -/

/-- Row `b`, column `k` of the 64 × 400000 array. -/
abbrev cell (b : Fin 64) (k : Fin 400000) : (⟨2, ![64, 400000]⟩ : Shape).Idx := fun a =>
  match a with
  | ⟨0, _⟩ => b
  | ⟨1, _⟩ => k

/-- The relation the host sorts row `b` by. -/
abbrev rel (x : (⟨2, ![64, 400000]⟩ : Shape).Idx → Bits .f32) (b : Fin 64) (k k' : Fin 400000) : Bool :=
  FloatOps.cmpfTotal (F := Bits) .gt (x (cell b k)) (x (cell b k')) == 1#1

theorem along_cell (j : (⟨2, ![64, 400000]⟩ : Shape).Idx) (k : Fin 400000) :
    Shape.Idx.along j (1 : Fin 2) k = cell (j 0) k := by
  funext a
  match a with
  | ⟨0, _⟩ => rfl
  | ⟨1, _⟩ => rfl

/-- The position sorted to `J`'s column, through the row of `J`. -/
abbrev source (x : (⟨2, ![64, 400000]⟩ : Shape).Idx → Bits .f32) (J : (⟨2, ![64, 400000]⟩ : Shape).Idx) : Fin 400000 :=
  sortedFrom (fun k k' => FloatOps.cmpfTotal (F := Bits) .gt (x (Shape.Idx.along J (1 : Fin 2) k)) (x (Shape.Idx.along J (1 : Fin 2) k')) == 1#1) (J 1)

theorem source_cell (x : (⟨2, ![64, 400000]⟩ : Shape).Idx → Bits .f32) (b : Fin 64) (q : Fin 400000) :
    source x (cell b q) = sortedFrom (rel x b) q := by
  unfold source
  simp only [along_cell]

/-- A result index's row and column. -/
def row (j : (⟨2, ![64, 300]⟩ : Shape).Idx) : Fin 64 := j 0
def col (j : (⟨2, ![64, 300]⟩ : Shape).Idx) : Fin 300 := j 1

/-- The result's index, as an index of the operand. -/
theorem slice_cell (j : (⟨2, ![64, 300]⟩ : Shape).Idx) (J : (⟨2, ![64, 400000]⟩ : Shape).Idx) (hJ : ∀ a, (J a).val = 0 + (j a).val) :
    J = cell (row j) ((col j).castLE (by decide)) := by
  funext a
  apply Fin.ext
  match a with
  | ⟨0, _⟩ => exact (hJ 0).trans (Nat.zero_add _)
  | ⟨1, _⟩ => exact (hJ 1).trans (Nat.zero_add _)

/-- The position of the result's entry `j` in its row of the operand. -/
def from' (x : (⟨2, ![64, 400000]⟩ : Shape).Idx → Bits .f32) (j : (⟨2, ![64, 300]⟩ : Shape).Idx) : Fin 400000 :=
  sortedFrom (rel x (row j)) ((col j).castLE (by decide))

theorem sorted_value (x : (⟨2, ![64, 400000]⟩ : Shape).Idx → Bits .f32) (J : (⟨2, ![64, 400000]⟩ : Shape).Idx) (b : Fin 64) (q : Fin 400000)
    (h : J = cell b q) : x (Shape.Idx.along J (1 : Fin 2) (source x J)) = x (cell b (sortedFrom (rel x b) q)) := by
  subst h
  rw [source_cell, along_cell]

theorem sorted_index (x : (⟨2, ![64, 400000]⟩ : Shape).Idx → Bits .f32) (J : (⟨2, ![64, 400000]⟩ : Shape).Idx) (b : Fin 64) (q : Fin 400000)
    (h : J = cell b q) : (Shape.Idx.along J (1 : Fin 2) (source x J) (1 : Fin 2)).val = (sortedFrom (rel x b) q).val := by
  subst h
  rw [source_cell, along_cell]

theorem topK_values (x : (⟨2, ![64, 400000]⟩ : Shape).Idx → Bits .f32) (h) (j : (⟨2, ![64, 300]⟩ : Shape).Idx) :
    (Host.topK ⟨2, ![64, 300]⟩ 1 (FloatOps.cmpfTotal (F := Bits) .gt) x h).1 j = x (cell (row j) (from' x j)) :=
  sorted_value x _ _ _ (slice_cell j _ fun a => rfl)

theorem topK_indices (x : (⟨2, ![64, 400000]⟩ : Shape).Idx → Bits .f32) (h) (j : (⟨2, ![64, 300]⟩ : Shape).Idx) :
    (Host.topK ⟨2, ![64, 300]⟩ 1 (FloatOps.cmpfTotal (F := Bits) .gt) x h).2 j = BitVec.ofNat 32 (from' x j).val :=
  congrArg (BitVec.ofNat 32) (sorted_index x _ _ _ (slice_cell j _ fun a => rfl))

/-- On words of nonnegative reading the host's order is the order of the readings. -/
theorem rel_eq (x : (⟨2, ![64, 400000]⟩ : Shape).Idx → Bits .f32) (b : Fin 64) (w : Fin 400000 → BitVec 32)
    (hw : ∀ k, x (cell b k) = w k) (h0 : ∀ k, 0 ≤ (w k).toInt) (k k' : Fin 400000) :
    rel x b k k' = decide ((w k').toInt < (w k).toInt) := by
  have hm : ∀ k, sortableKey (w k) = w k := fun k => sortableKey_of_msb_false _ (by
    have := h0 k
    rw [BitVec.msb_eq_toInt]; simp; omega)
  unfold rel
  rw [hw, hw, cmpfTotal_f32_eq_cmpi_sortableKey, hm, hm]
  show (IntOp.cmpi .sgt (w k) (w k') == 1#1) = _
  rw [Bool.eq_iff_iff, beq_iff_eq, Cert.Words.sgt_iff, decide_eq_true_eq]

end Cert.Order

end
-- ==== Proof.Labels.lean ====
/-
  The precondition at one logit, the class number the kernel and the reference compute of one flat number, and the
  reference's flat scores.
-/
module

public import proofs.«01_k».proof.Proof.Host
public import proofs.«01_k».proof.Proof.Order
public import proofs.«01_k».proof.Proof.Gen.Pre_ordered
public import proofs.«01_k».proof.Proof.Gen.Reference.Run

@[expose] public section

set_option maxRecDepth 16384

noncomputable section

namespace Cert.Kernel.Hand

open Cert.Kernel Cert.Kernel.Gen
open Idealize.ShloMosaic Idealize.ShloMosaic.TcCoe

/-! ## The class number of a flat number -/

/-- The sign of a word. -/
def sign1 (w : BitVec 32) : BitVec 32 := if w = 0 then 0 else if w.msb then -1 else 1

/-- The quotient by 80 as the reference computes it of one word. -/
def refQuot (w : BitVec 32) : BitVec 32 :=
  Scalar.select (IntOp.andi (IntOp.cmpi .ne (sign1 w) (sign1 80#32)) (IntOp.cmpi .ne (IntOp.remsi .host w 80#32) 0#32))
    (IntOp.subi (IntOp.divsi .host w 80#32) 1#32) (IntOp.divsi .host w 80#32)

/-- The class number as the reference computes it of one word. -/
def refLabel (w : BitVec 32) : BitVec 32 := IntOp.subi w (IntOp.muli (refQuot w) 80#32)

/-- The sign of a word, in one step or as two comparisons. -/
theorem sign_eq (w : BitVec 32) : sign1 w
    = (IntOp.cmpi .sgt w 0#32).setWidth 32 - (IntOp.cmpi .slt w 0#32).setWidth 32 := by
  unfold sign1
  rcases Cert.Words.sign_word w with ⟨h, e⟩ | ⟨h, e⟩ | ⟨h, e⟩ <;> rw [e]
  · have h0 : w ≠ 0 := by rintro rfl; exact absurd h (by decide)
    have h1 : w.msb = false := by rw [BitVec.msb_eq_toInt]; simp; omega
    rw [if_neg h0, h1]; rfl
  · have h0 : w = 0 := BitVec.eq_of_toInt_eq (by rw [h]; rfl)
    rw [if_pos h0]; rfl
  · have h0 : w ≠ 0 := by rintro rfl; exact absurd h (by decide)
    have h1 : w.msb = true := by rw [BitVec.msb_eq_toInt]; simp; omega
    rw [if_neg h0, h1]; rfl

/-- The place of a row of 512 at a place of its block. -/
def inRow (q : S1x1x512.Idx) : S1x512.Idx := fun a =>
  match a with
  | ⟨0, _⟩ => ⟨0, Nat.one_pos⟩
  | ⟨1, _⟩ => ⟨(q 2).val, (q 2).isLt⟩

theorem inRow_cast {α : Type} (x : S1x512.Idx → α) (q : S1x1x512.Idx) : shapeCast S1x1x512 x shapeCasts_S1x512_S1x1x512 q = x (inRow q) := by
  refine shapeCast_apply x _ q (inRow q) ?_
  have h0 : (q 0).val < 1 := (q 0).isLt
  have h1 : (q 1).val < 1 := (q 1).isLt
  rw [Shape.rowMajor_val_three, Shape.rowMajor_val_two]
  show 0 * 512 + (q 2).val = ((q 0).val * 1 + (q 1).val) * 512 + (q 2).val
  omega

theorem label_eq (fv : IVec S1x512 32) (q : S1x1x512.Idx) : labelRow fv q = refLabel (fv (inRow q)) := by
  unfold labelRow k0_pay32
  rw [inRow_cast]
  generalize hw : fv (inRow q) = w
  have e : k0_pay31 fv 80#32 (k0_pay30 fv) 0#32 (inRow q)
      = Scalar.select (IntOp.andi
        (IntOp.cmpi .ne ((IntOp.cmpi .sgt w 0#32).setWidth 32 - (IntOp.cmpi .slt w 0#32).setWidth 32)
          ((IntOp.cmpi .sgt (80#32 : BitVec 32) 0#32).setWidth 32 - (IntOp.cmpi .slt (80#32 : BitVec 32) 0#32).setWidth 32))
        (IntOp.cmpi .ne (IntOp.remsi .vector w 80#32) 0#32))
      (IntOp.divsi .vector w 80#32 - 1#32) (IntOp.divsi .vector w 80#32) := by
    rw [← hw]; rfl
  have d : k0_pay31 fv 80#32 (k0_pay30 fv) 0#32 (inRow q) = refQuot w := by
    unfold refQuot
    rw [e]
    apply BitVec.eq_of_toInt_eq
    rw [Cert.Words.floor_div .vector w 80#32 (by decide) _ (by decide), sign_eq w]
    exact (Cert.Words.floor_div .host w 80#32 (by decide) _ (by decide)).symm
  unfold refLabel
  rw [← d, ← hw]
  rfl

/-! ## The reference's scores -/

variable (a : FVec Bits S64x5000x80 .f32)

/-- The flat scores the reference sorts. -/
def flat : FVec Bits Cert.Reference.S64x400000 .f32 :=
  shapeCast Cert.Reference.S64x400000 (Host.divf (broadcastInDim Cert.Reference.S64x5000x80 ![] Cert.Reference.Gen.bcast_S_S64x5000x80 (constant Cert.Reference.S_ .f32 0x3F800000#32))
    (addf (broadcastInDim Cert.Reference.S64x5000x80 ![] Cert.Reference.Gen.bcast_S_S64x5000x80 (constant Cert.Reference.S_ .f32 0x3F800000#32)) (Host.exp (Host.negf a))))
    Cert.Reference.Gen.shapeCasts_S64x5000x80_S64x400000

theorem flat_cell (b : Fin 64) (k : Fin 400000) : flat a (Cert.Order.cell b k) = logistic1 (a (logitAt b k.val k.isLt)) := by
  have e : flat a (Cert.Order.cell b k) = _ := shapeCast_apply _ _ (Cert.Order.cell b k) (logitAt b k.val k.isLt) (by
    rw [Shape.rowMajor_val_three, Shape.rowMajor_val_two]
    show (b.val * 5000 + k.val / 80) * 80 + k.val % 80 = b.val * 400000 + k.val
    omega)
  rw [e]
  rfl

/-! ## The precondition -/

theorem ordered_at (a1 : FVec Bits S64x5000x4 .f32) (a2 : IVec S64x2 32) (a3 : IVec S_ 32) (h : Cert.Pre_ordered.fn (F := Bits) a a1 a2 a3 = fun _ => 1#1)
    (i : S64x5000x80.Idx) :
    0 ≤ (word1 (F := Bits) (logistic1 padding)).toInt ∧ (word1 (F := Bits) (logistic1 padding)).toInt ≤ (word1 (F := Bits) (logistic1 (a i))).toInt := by
  have e := congrFun h i
  have e1 : IntOp.andi (IntOp.cmpi .sge (word1 (F := Bits) (logistic1 padding)) 0#32)
      (IntOp.cmpi .sge (word1 (F := Bits) (logistic1 (a i))) (word1 (F := Bits) (logistic1 padding))) = 1#1 := e
  rw [Cert.Words.andi_iff, Cert.Words.sge_iff, Cert.Words.sge_iff] at e1
  exact e1

end Cert.Kernel.Hand

end
-- ==== Proof.Value.lean ====
/-
  What each row of the two output arrays holds, as the first 300 entries of the sort of the batch's scores.
-/
module

public import proofs.«01_k».proof.Proof.Labels
public import proofs.«01_k».proof.Defs

@[expose] public section

set_option maxRecDepth 16384

noncomputable section

namespace Cert.Kernel.Hand

open Cert.Kernel Cert.Kernel.Gen
open Idealize.ShloMosaic Idealize.ShloMosaic.TcCoe

variable (m : (ℓ : Loc nD τ sig) → Buf (Elt Bits) ℓ)

/-- The logits. -/
abbrev logits (c : Dev nD) : FVec Bits S64x5000x80 .f32 := m ((c : Thread nD τ).loc main_arg0)

theorem words_data (c : Dev nD) (t : Fin cfg0.N) (j : S3136x128.Idx) (h : num j < 400000) :
    words (probs m c t) j = word1 (F := Bits) (logistic1 (logits m c (logitAt (batch t) (num j) h))) := by
  rw [words_apply, probs_apply, V_main_v7, padded_data _ _ _ h]

theorem words_pad (c : Dev nD) (t : Fin cfg0.N) (j : S3136x128.Idx) (h : 400000 ≤ num j) :
    words (probs m c t) j = word1 (F := Bits) (logistic1 padding) := by
  rw [words_apply, probs_apply, V_main_v7, padded_pad _ _ _ h]

variable (hpre : Cert.Pre_Kernel m)

include hpre in
theorem ordered_logit (c : Dev nD) (i : S64x5000x80.Idx) :
    0 ≤ (word1 (F := Bits) (logistic1 padding)).toInt ∧ (word1 (F := Bits) (logistic1 padding)).toInt ≤ (word1 (F := Bits) (logistic1 (logits m c i))).toInt :=
  ordered_at _ _ _ _ (hpre c) i

include hpre in
theorem plain : Plain m := by
  intro c t j
  rcases Nat.lt_or_ge (num j) 400000 with h | h
  · rw [words_data m c t j h]
    have := ordered_logit m hpre c (logitAt (batch t) (num j) h)
    exact this.1.trans this.2
  · rw [words_pad m c t j h]
    exact (ordered_logit m hpre c (logitAt (batch t) 0 (by decide))).1

include hpre in
theorem pads_last (c : Dev nD) (t : Fin cfg0.N) (a b : S3136x128.Idx) (ha : num a < 400000) (hb : 400000 ≤ num b) :
    (words (probs m c t) b).toInt ≤ (words (probs m c t) a).toInt := by
  rw [words_data m c t a ha, words_pad m c t b hb]
  exact (ordered_logit m hpre c _).2

/-- The flat number of the `k`-th score of batch `b`. -/
def best (c : Dev nD) (b : Fin 64) (k : Fin 300) : Fin 400000 :=
  sortedFrom (Cert.Order.rel (flat (logits m c)) b) (k.castLE (by decide))

theorem logitAt_congr (b : Fin 64) (n n' : ℕ) (h : n < 400000) (h' : n' < 400000) (e : n = n') : logitAt b n h = logitAt b n' h' := by
  subst e; rfl

theorem flat_word (c : Dev nD) (t : Fin cfg0.N) (k : Fin 400000) :
    flat (logits m c) (Cert.Order.cell (batch t) k) = words (probs m c t) (place k.val (by omega)) := by
  have h : num (place k.val (by omega)) = k.val := num_place _ _
  rw [flat_cell, words_data m c t _ (by rw [h]; exact k.isLt), logitAt_congr (batch t) _ _ (by rw [h]; exact k.isLt) k.isLt h]
  rfl

include hpre in
theorem out_values (c : Dev nD) (t : Fin cfg0.N) (d4 : S1x8x512.Idx → Elt Bits .f32) (d5 : S1x8x512.Idx → Elt Bits .i32)
    (hO : Out (probs m c t) d4 d5) (q : S1x1x512.Idx) (k : Fin 300) (hk : (q 2).val = k.val) :
    d4 (row0 q) = flat (logits m c) (Cert.Order.cell (batch t) (best m c (batch t) k))
      ∧ d5 (row0 q) = refLabel (BitVec.ofNat 32 (best m c (batch t) k).val) := by
  obtain ⟨tb, istar, sv, fv, hcnt, hP, h4, h5⟩ := hO
  have hs := plain m hpre c t
  have hslot : slot (inRow q) = k.val := hk
  have hb : (best m c (batch t) k).val = num (Cert.Order.picked (words (probs m c t)) tb istar k) :=
    Cert.Order.sorted_picked (words (probs m c t)) hs tb istar hcnt (pads_last m hpre c t) _
      (fun a b => Cert.Order.rel_eq _ _ (fun k => words (probs m c t) (place k.val (by omega))) (flat_word m c t) (fun k => hs _) a b) k
  have hsel := (Cert.Select.pick_sel num _ hs (selected (words (probs m c t)) tb istar) 300 hcnt k.val k.isLt).2.1
  obtain ⟨p1, p2⟩ := hP (inRow q) (by rw [hslot]; exact k.isLt)
  rw [hslot] at p1 p2
  constructor
  · rw [h4, flat_word]
    have e : sv (inRow q) = words (probs m c t) (place (best m c (batch t) k).val (by omega)) := by
      apply BitVec.eq_of_toInt_eq
      rw [p1]
      refine hsel.trans ?_
      have : place (best m c (batch t) k).val (by omega) = Cert.Order.picked (words (probs m c t)) tb istar k := by
        apply num_inj; rw [num_place, hb]
      rw [this]
    rw [← e]
    unfold k0_pay29
    rw [inRow_cast]
    rfl
  · rw [h5, label_eq, p2, hb]

/-! ## The arrays -/

theorem covers3 : (cfg0.win 3).Covers := by decide +kernel
theorem covers4 : (cfg0.win 4).Covers := by decide +kernel

/-- A place of row 0 of batch `b` of an output array. -/
def top (b : Fin 64) (k : Fin 300) : S64x8x512.Idx := fun a =>
  match a with
  | ⟨0, _⟩ => b
  | ⟨1, _⟩ => ⟨0, Nat.succ_pos 7⟩
  | ⟨2, _⟩ => ⟨k.val, by show k.val < 512; omega⟩

/-- What the scores' array holds where it matters. -/
def ScoreAt (c : Dev nD) (i : S64x8x512.Idx) (v : Elt Bits .f32) : Prop :=
  ∀ (b : Fin 64) (k : Fin 300), i = top b k → v = flat (logits m c) (Cert.Order.cell b (best m c b k))

/-- What the labels' array holds where it matters. -/
def LabelAt (c : Dev nD) (i : S64x8x512.Idx) (v : Elt Bits .i32) : Prop :=
  ∀ (b : Fin 64) (k : Fin 300), i = top b k → v = refLabel (BitVec.ofNat 32 (best m c b k).val)

/-- The place of a block of 8 rows that goes to row 0. -/
theorem block_top (t : Fin cfg0.N) (y : S1x8x512.Idx) (i : S64x8x512.Idx) (hi : ∀ a, (i a).val = (![t.val, 0, 0] : Fin 3 → ℕ) a * S1x8x512.size a + (y a).val)
    (b : Fin 64) (k : Fin 300) (h : i = top b k) : batch t = b ∧ ∃ q : S1x1x512.Idx, (q 2).val = k.val ∧ y = row0 q := by
  subst h
  have h0 := hi 0
  have h1 := hi 1
  have h2 := hi 2
  have l0 : (y 0).val < 1 := (y 0).isLt
  change b.val = t.val * 1 + (y 0).val at h0
  change 0 = 0 * 8 + (y 1).val at h1
  change k.val = 0 * 512 + (y 2).val at h2
  refine ⟨Fin.ext (by show t.val = b.val; omega), fun a => match a with | ⟨0, _⟩ => ⟨0, Nat.one_pos⟩ | ⟨1, _⟩ => ⟨0, Nat.one_pos⟩ | ⟨2, _⟩ => ⟨(y 2).val, (y 2).isLt⟩, ?_, ?_⟩
  · show (y 2).val = k.val; omega
  · funext a
    apply Fin.ext
    match a with
    | ⟨0, _⟩ => show (y 0).val = 0; omega
    | ⟨1, _⟩ => show (y 1).val = 0; omega
    | ⟨2, _⟩ => rfl

theorem place3 (t : Fin cfg0.N) (y : S1x8x512.Idx) (a : Fin 3) :
    (((win0_3.blk t).view.emb y : S64x8x512.Idx) a).val = (![t.val, 0, 0] : Fin 3 → ℕ) a * S1x8x512.size a + (y a).val := by
  match a with
  | ⟨0, _⟩ => blk_simp [index3]
  | ⟨1, _⟩ => blk_simp [index3]
  | ⟨2, _⟩ => blk_simp [index3]

theorem place4 (t : Fin cfg0.N) (y : S1x8x512.Idx) (a : Fin 3) :
    (((win0_4.blk t).view.emb y : S64x8x512.Idx) a).val = (![t.val, 0, 0] : Fin 3 → ℕ) a * S1x8x512.size a + (y a).val := by
  match a with
  | ⟨0, _⟩ => blk_simp [index4]
  | ⟨1, _⟩ => blk_simp [index4]
  | ⟨2, _⟩ => blk_simp [index4]

include hpre in
theorem arrays_hold (c : Dev nD) (A : Arrays (F := Bits) c) (hA : Allowed m c A) :
    (∀ i : S64x8x512.Idx, ScoreAt m c i (A 3 i)) ∧ ∀ i : S64x8x512.Idx, LabelAt m c i (A 4 i) := by
  obtain ⟨after, hL, hE⟩ := Pipeline.RDat.ArrAt.exists_exact_all (rd := rdat m c) hA
  have leaves3 : ∀ t : Fin cfg0.N, (cfg0.win 3).flush t = true → ∃ d5, Out (probs m c t) (after 3 t) d5 := fun t hf => by
    obtain ⟨Y, -, h⟩ := hL 3 t t.isLt hf
    exact h
  have leaves4 : ∀ t : Fin cfg0.N, (cfg0.win 4).flush t = true → ∃ d4, Out (probs m c t) d4 (after 4 t) := fun t hf => by
    obtain ⟨Y, -, h⟩ := hL 4 t t.isLt hf
    exact h
  constructor
  · intro i
    rw [hE 3]
    refine ((rdat m c).withAfter after).arrAt_forall_of_covers 3 (fun i v => ScoreAt m c i v) covers3 (fun t hf y => ?_) i
    intro b k hi
    obtain ⟨d5, hO⟩ := leaves3 t hf
    obtain ⟨rfl, q, hq, rfl⟩ := block_top t y _ (place3 t y) b k hi
    exact (out_values m hpre c t _ _ hO q k hq).1
  · intro i
    rw [hE 4]
    refine ((rdat m c).withAfter after).arrAt_forall_of_covers 4 (fun i v => LabelAt m c i v) covers4 (fun t hf y => ?_) i
    intro b k hi
    obtain ⟨d4, hO⟩ := leaves4 t hf
    obtain ⟨rfl, q, hq, rfl⟩ := block_top t y _ (place4 t y) b k hi
    exact (out_values m hpre c t _ _ hO q k hq).2

end Cert.Kernel.Hand

end
-- ==== Proof.Finish.lean ====
/-
  The host's lines after the call: the labels and the scores off the output arrays, and the arguments.
-/
module

public import proofs.«01_k».proof.Proof.Value

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.StableHlo

variable (m : (ℓ : Loc nD τ sig) → Buf (Elt Bits) ℓ)

/-- A row of 300 of 64 cut off row 0 of every block of an array. -/
theorem cut_apply {α : Type} (x : S64x8x512.Idx → α) (j : S64x300.Idx) :
    shapeCast S64x300 (extractStridedSlice S64x1x300 ![0, 0, 0] x slices_S64x8x512_S64x1x300_0_0_0) shapeCasts_S64x1x300_S64x300 j
      = x (top (Cert.Order.row j) (Cert.Order.col j)) := by
  let y : S64x1x300.Idx := fun a => match a with | ⟨0, _⟩ => Cert.Order.row j | ⟨1, _⟩ => ⟨0, Nat.one_pos⟩ | ⟨2, _⟩ => Cert.Order.col j
  have e := shapeCast_apply (extractStridedSlice S64x1x300 ![0, 0, 0] x slices_S64x8x512_S64x1x300_0_0_0) shapeCasts_S64x1x300_S64x300 j y (by
    rw [Shape.rowMajor_val_three, Shape.rowMajor_val_two]
    show ((j 0).val * 1 + 0) * 300 + (j 1).val = (j 0).val * 300 + (j 1).val
    omega)
  rw [e]
  unfold extractStridedSlice
  congr 1
  funext a
  apply Fin.ext
  match a with
  | ⟨0, _⟩ => show 0 + (j 0).val = (j 0).val; omega
  | ⟨1, _⟩ => rfl
  | ⟨2, _⟩ => show 0 + (j 1).val = (j 1).val; omega

theorem finish_scores (c : Dev nD) (A : Arrays (F := Bits) c) :
    finish m c A (Proc.devRef .tc main_v16)
      = shapeCast S64x300 (extractStridedSlice S64x1x300 ![0, 0, 0] (A 3) slices_S64x8x512_S64x1x300_0_0_0) shapeCasts_S64x1x300_S64x300 := by
  have e := Pipeline.withArrays_arr spec0 launch0.win.arr_inj c (V0 m c) A 3
  rw [← e]
  unfold finish
  simp only [hostOps1, List.flatten_cons, List.flatten_nil, List.append_nil]
  after_results_simp <;> (try dsimp only [Matrix.cons_val]) <;> (try after_results_simp) <;> rfl

theorem finish_labels (c : Dev nD) (A : Arrays (F := Bits) c) :
    finish m c A (Proc.devRef .tc main_v18)
      = shapeCast S64x300 (extractStridedSlice S64x1x300 ![0, 0, 0] (A 4) slices_S64x8x512_S64x1x300_0_0_0) shapeCasts_S64x1x300_S64x300 := by
  have e := Pipeline.withArrays_arr spec0 launch0.win.arr_inj c (V0 m c) A 4
  rw [← e]
  unfold finish
  simp only [hostOps1, List.flatten_cons, List.flatten_nil, List.append_nil]
  after_results_simp <;> (try dsimp only [Matrix.cons_val]) <;> (try after_results_simp) <;> rfl

/-- A buffer no line after the call writes and no window stages keeps what the host put there. -/
theorem finish_keeps (c : Dev nD) (A : Arrays (F := Bits) c) (b : Ref sig .tc)
    (h : (List.flatten [hostOps1] : List (HloOp τ sig (Elt Bits))).Forall fun op => Proc.devRef .tc b ∉ op.writes)
    (hw : ∀ w, Pipeline.arrRef spec0 w ≠ b) : finish m c A (Proc.devRef .tc b) = V m c b := by
  unfold finish
  rw [StableHlo.after_of_forall_not_mem (b := Proc.devRef .tc b) _ _ (List.forall_iff_forall_mem.mp h), Pipeline.withArrays_of_ne _ c (V0 m c) _ b hw]

theorem finish_arg0 (c : Dev nD) (A : Arrays (F := Bits) c) : finish m c A (Proc.devRef .tc main_arg0) = m ((c : Thread nD τ).loc main_arg0) := by
  rw [finish_keeps m c A main_arg0 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg0 m c

theorem finish_arg1 (c : Dev nD) (A : Arrays (F := Bits) c) : finish m c A (Proc.devRef .tc main_arg1) = m ((c : Thread nD τ).loc main_arg1) := by
  rw [finish_keeps m c A main_arg1 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg1 m c

theorem finish_arg2 (c : Dev nD) (A : Arrays (F := Bits) c) : finish m c A (Proc.devRef .tc main_arg2) = m ((c : Thread nD τ).loc main_arg2) := by
  rw [finish_keeps m c A main_arg2 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg2 m c

theorem finish_arg3 (c : Dev nD) (A : Arrays (F := Bits) c) : finish m c A (Proc.devRef .tc main_arg3) = m ((c : Thread nD τ).loc main_arg3) := by
  rw [finish_keeps m c A main_arg3 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg3 m c

/-! ## The end of the run -/

/-- The scores and the labels of the first 300 of every batch. -/
def topScores (c : Dev nD) : S64x300.Idx → Elt Bits .f32 := fun j =>
  flat (logits m c) (Cert.Order.cell (Cert.Order.row j) (best m c (Cert.Order.row j) (Cert.Order.col j)))
def topLabels (c : Dev nD) : S64x300.Idx → Elt Bits .i32 := fun j =>
  refLabel (BitVec.ofNat 32 (best m c (Cert.Order.row j) (Cert.Order.col j)).val)

theorem ended_args (r) (h : Ended m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain ⟨A, -, hb⟩ := h c
  exact ⟨(hb _ (Pipeline.mem_restRefs_of main_arg0 (by decide) (by decide))).trans (finish_arg0 m c A),
    (hb _ (Pipeline.mem_restRefs_of main_arg1 (by decide) (by decide))).trans (finish_arg1 m c A),
    (hb _ (Pipeline.mem_restRefs_of main_arg2 (by decide) (by decide))).trans (finish_arg2 m c A),
    (hb _ (Pipeline.mem_restRefs_of main_arg3 (by decide) (by decide))).trans (finish_arg3 m c A)⟩

theorem ended_results (hpre : Cert.Pre_Kernel m) (r) (h : Ended m r) (c : Dev nD) :
    r.2.mem ((c.tc : Thread nD τ).loc main_v18) = topLabels m c ∧ r.2.mem ((c.tc : Thread nD τ).loc main_v16) = topScores m c := by
  obtain ⟨A, hA, hb⟩ := h c
  obtain ⟨h3, h4⟩ := arrays_hold m hpre c A hA
  constructor
  · rw [hb _ (Pipeline.mem_restRefs_of main_v18 (by decide) (by decide)), finish_labels]
    funext j
    rw [cut_apply]
    exact h4 _ _ _ rfl
  · rw [hb _ (Pipeline.mem_restRefs_of main_v16 (by decide) (by decide)), finish_scores]
    funext j
    rw [cut_apply]
    exact h3 _ _ _ rfl

/-! ## The reference's results -/

/-- The scores the reference keeps. -/
theorem ref_scores (c : Dev nD) (h) : (Host.topK Cert.Reference.S64x300 1 (FloatOps.cmpfTotal (F := Bits) .gt) (flat (logits m c)) h).1 = topScores m c := by
  funext j
  exact Cert.Order.topK_values _ _ j

theorem ref_index (c : Dev nD) (h) (j : S64x300.Idx) : (Host.topK Cert.Reference.S64x300 1 (FloatOps.cmpfTotal (F := Bits) .gt) (flat (logits m c)) h).2 j
    = BitVec.ofNat 32 (best m c (Cert.Order.row j) (Cert.Order.col j)).val :=
  Cert.Order.topK_indices _ _ j

end Cert.Kernel.Hand

end
-- ==== Proof.CodesFront.lean ====
/-
  The program over words: the first part of its body, and the passes of its loops. What the payloads compute is what
  the kernel's compute, so their facts are taken over from there.
-/
module

public import proofs.«01_k».proof.Proof.Gen.CodesIdeal.Frame
public import proofs.«01_k».proof.Proof.Gen.CodesIdeal.Skeleton
public import proofs.«01_k».proof.Proof.Gen.CodesIdeal.Loops
public import proofs.«01_k».proof.Proof.Step
public import proofs.«01_k».proof.Proof.Bisect
public import proofs.«01_k».proof.Proof.Front
public import Idealize.ShloMosaic.Lib.Tactic

@[expose] public section

set_option maxRecDepth 16384

noncomputable section

namespace Cert.CodesIdeal.Hand

open Cert.CodesIdeal Cert.CodesIdeal.Gen
open Cert.Kernel.Hand (cnt num midW thr high low halve halveTie threshold)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A store of a whole buffer leaves its payload. -/
theorem read_full {κ : Kind} {sp : Space} {s : Shape} {e : EltTy} (v : View sig κ sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  refine View.read_writes_cons_unit_of_mem v f inb w L y y rfl fun a => ?_
  have := inb a; omega

/-! ## The payloads -/

theorem pay12_count (lo hi : BitVec 32) (v : Vec F S3136x128 .i16) :
    extractAt ![0, 0] (k0_pay12 lo hi v) inpos_S1x1_p0_0
      = BitVec.ofNat 32 (cnt fun j => ((midW lo hi).setWidth 16).toInt < (v j : BitVec 16).toInt) :=
  Cert.Kernel.Hand.pay12_count (F := Bits) lo hi v

theorem pay13_count (t : BitVec 32) (v : Vec F S3136x128 .i16) :
    extractAt ![0, 0] (k0_pay13 t v) inpos_S1x1_p0_0 = BitVec.ofNat 32 (cnt fun j => (t.setWidth 16).toInt < (v j : BitVec 16).toInt) :=
  Cert.Kernel.Hand.pay13_count (F := Bits) t v

theorem pay18_count (lo hi : BitVec 32) (v : Vec F S3136x128 .i16) :
    extractAt ![0, 0] (k0_pay18 lo hi v) inpos_S1x1_p0_0
      = BitVec.ofNat 32 (cnt fun j => ((midW lo hi).setWidth 16).toInt < (v j : BitVec 16).toInt) :=
  Cert.Kernel.Hand.pay17_count (F := Bits) lo hi v

theorem pay19_count (a b : BitVec 32) (v : Vec F S3136x128 .i32) :
    extractAt ![0, 0, 0] (k0_pay19 a b v) inpos_S1x1x1_p0_0_0 = BitVec.ofNat 32 (cnt fun j => (thr a b).toInt < (v j : BitVec 32).toInt) :=
  Cert.Kernel.Hand.pay18_count (F := Bits) a b v

theorem pay22_count (a b lo hi : BitVec 32) (v : Vec F S3136x128 .i32) (hm : (midW lo hi).toInt ≤ 1000000) :
    extractAt ![0, 0, 0] (k0_pay22 a b lo hi v) inpos_S1x1x1_p0_0_0
      = BitVec.ofNat 32 (cnt fun j => (v j : BitVec 32) = thr a b ∧ (num j : ℤ) < (midW lo hi).toInt) :=
  Cert.Kernel.Hand.pay21_count (F := Bits) a b lo hi v hm

/-- The words of a block. -/
abbrev words (x : Vec F S1x3136x128 .i32) : S3136x128.Idx → BitVec 32 := k0_pay9 x

theorem pay10_eq (x : Vec F S1x3136x128 .i32) : k0_pay10 x = words x := by
  funext j
  show words x (Shape.reshapeEquiv _ j) = _
  rw [Shape.reshapeEquiv_self]

theorem pay11_eq (x : Vec F S1x3136x128 .i32) : k0_pay11 x = high (words x) := by
  funext j
  show high (words x) (Shape.reshapeEquiv _ j) = _
  rw [Shape.reshapeEquiv_self]

theorem pay17_eq (x : Vec F S1x3136x128 .i32) (t : BitVec 32) : k0_pay17 (k0_pay14 x t) (k0_pay15 x) k0_pay16 = low (words x) t := by
  funext j
  show low (words x) t (Shape.reshapeEquiv _ j) = _
  rw [Shape.reshapeEquiv_self]

/-! ## The passes of the loops -/

/-- One trip of the first loop. -/
theorem trip1 (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (X : BufTy.Contents (Elt F) arg8.view.ty) (k : Fin k0_t1_loop.trips) (acc : BitVec 32 × BitVec 32) :
    tripR_k0_t1 (F := F) Variants.none c none i arg1 harg1 arg2 harg2 arg3 harg3 arg4 harg4 arg5 harg5 arg6 harg6 arg7 harg7 arg8 harg8 arg9 harg9 arg10 harg10 X k acc = halve (arg8.view.read (Elt F) X) 300#32 acc := by
  have e : View.readAt (Elt F) arg8.view (Rect.unit (s := S3136x128) ![0, 0] S3136x128.size inb_S3136x128_S3136x128_0_0).toLoadRect X = arg8.view.read (Elt F) X :=
    View.readAt_full _ _ _
  unfold tripR_k0_t1 trip_k0_t1 halve
  dsimp only
  unfold trip_k0_t1.sl.v208 trip_k0_t1.sl.v209
  rw [← pay12_count (F := F), ← e]
  rfl

/-- One trip of the second loop. -/
theorem trip2 (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (v13_1 : BitVec 32) (v26 : BitVec 32) (v30 : IVec S3136x128 1) (v34 v35 : IVec S3136x128 32)
    (X : BufTy.Contents (Elt F) arg8.view.ty) (k : Fin k0_t2_loop.trips) (acc : BitVec 32 × BitVec 32) :
    tripR_k0_t2 (F := F) Variants.none c none i arg1 harg1 arg2 harg2 arg3 harg3 arg4 harg4 arg5 harg5 arg6 harg6 arg7 harg7 arg8 harg8 arg9 harg9 arg10 harg10 v13_1 v26 v30 v34 v35 X k acc
      = halve (arg8.view.read (Elt F) X) v26 acc := by
  have e : View.readAt (Elt F) arg8.view (Rect.unit (s := S3136x128) ![0, 0] S3136x128.size inb_S3136x128_S3136x128_0_0).toLoadRect X = arg8.view.read (Elt F) X :=
    View.readAt_full _ _ _
  unfold tripR_k0_t2 trip_k0_t2 halve
  dsimp only
  unfold trip_k0_t2.sl.v208 trip_k0_t2.sl.v209
  rw [← pay18_count (F := F), ← e]
  rfl

/-- One trip of the third loop, while its middle is in range. -/
theorem trip3 (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (v13_1 : BitVec 32) (v26 : BitVec 32) (v30 : IVec S3136x128 1) (v34 v35 : IVec S3136x128 32) (v42_1 v62 : BitVec 32)
    (X : BufTy.Contents (Elt F) arg7.view.ty) (k : Fin k0_t3_loop.trips) (acc : BitVec 32 × BitVec 32) (hm : (midW acc.1 acc.2).toInt ≤ 1000000) :
    tripR_k0_t3 (F := F) Variants.none c none i arg1 harg1 arg2 harg2 arg3 harg3 arg4 harg4 arg5 harg5 arg6 harg6 arg7 harg7 arg8 harg8 arg9 harg9 arg10 harg10 v13_1 v26 v30 v34 v35 v42_1 v62 X k acc
      = halveTie (fun j => arg7.view.read (Elt F) X j = thr v13_1 v42_1) v62 acc := by
  have e : View.readAt (Elt F) arg7.view (Rect.unit (s := S3136x128) ![0, 0] S3136x128.size inb_S3136x128_S3136x128_0_0).toLoadRect X = arg7.view.read (Elt F) X :=
    View.readAt_full _ _ _
  unfold tripR_k0_t3 trip_k0_t3 halveTie
  dsimp only
  unfold trip_k0_t3.sl.v210 trip_k0_t3.sl.v211
  rw [← pay22_count (F := F) v13_1 v42_1 acc.1 acc.2 _ hm, ← e]
  rfl

theorem trips1 : Scf.trips k0_t1_loop.lb k0_t1_loop.ub k0_t1_loop.st = 15 := by decide
theorem trips2 : Scf.trips k0_t2_loop.lb k0_t2_loop.ub k0_t2_loop.st = 17 := by decide
theorem trips3 : Scf.trips k0_t3_loop.lb k0_t3_loop.ub k0_t3_loop.st = 20 := by decide
theorem trips4 : Scf.trips k0_t4_loop.lb k0_t4_loop.ub k0_t4_loop.st = 300 := by decide

/-- The first part runs, keeps the probabilities, stores their words, and yields the first bisection's results. -/
theorem part2_run (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .i32)
    (K : (Σ' (v13_1 : BitVec 32) (v26 : BitVec 32) (v30 : IVec S3136x128 1) (v34 : IVec S3136x128 32), IVec S3136x128 32) → sProp 𝕄) :
    iprop(owns (c : Thread nD τ) arg1 fullShare x ∗ (∃ d, owns (c : Thread nD τ) arg7 fullShare d) ∗ (∃ d, owns (c : Thread nD τ) arg8 fullShare d)
        ∗ (∀ t v26 v30 v34, (⌜Cert.Kernel.Hand.First (words x) t v26 ∧ v30 = k0_pay14 x t ∧ v34 = k0_pay15 x⌝ ∗ owns (c : Thread nD τ) arg1 fullShare x ∗ owns (c : Thread nD τ) arg7 fullShare (words x)
            ∗ (∃ d, owns (c : Thread nD τ) arg8 fullShare d)) -∗ K ⟨t, v26, v30, v34, k0_pay16⟩))
      ⊢ wp frame (wpE (defs₀ (F := F)) Variants.none c none) Set.univ
          (k0_part2 i arg1 harg1 arg2 harg2 arg3 harg3 arg4 harg4 arg5 harg5 arg6 harg6 arg7 harg7 arg8 harg8 arg9 harg9 arg10 harg10) K := by
  simp only [k0_part2_eq_skeleton]; unfold k0_part2_skel
  unfold owns
  iintro ⟨⟨%f1, %h1, H1⟩, ⟨%d7, %f7, -, H7⟩, ⟨%d8, %f8, -, H8⟩, Hk⟩
  sl_exec
  sl_step
  have e1 : View.readAt (Elt F) arg1.view (Rect.unit (s := S1x3136x128) ![0, 0, 0] S1x3136x128.size inb_S1x3136x128_S1x3136x128_0_0_0).toLoadRect f1 = x :=
    (View.readAt_full _ _ _).trans h1
  have e7 : arg7.view.read (Elt F) (arg7.view.writes (Elt F) arg7.view.junk (part2_run.sl.H7_1 c arg1 f1)) = words x := by
    unfold part2_run.sl.H7_1
    rw [e1, read_full, pay10_eq]
  have e8 : arg8.view.read (Elt F) (arg8.view.writes (Elt F) arg8.view.junk (part2_run.sl.H8_1 c arg1 f1)) = high (words x) := by
    unfold part2_run.sl.H8_1
    rw [e1, read_full, pay11_eq]
  iapply Hk
  isplitr
  · ipureintro
    refine ⟨⟨fun n => st_k0_t1 (F := F) Variants.none c none i arg1 harg1 arg2 harg2 arg3 harg3 arg4 harg4 arg5 harg5 arg6 harg6 arg7 harg7 arg8 harg8 arg9 harg9 arg10 harg10 (arg8.view.writes (Elt F) arg8.view.junk (part2_run.sl.H8_1 c arg1 f1))
        (4294967295#32, 16256#32) n, rfl, fun k hk => ?_, ?_, ?_⟩, by rw [e1], by rw [e1]⟩
    · have h := st_k0_t1_succ (F := F) Variants.none c none i arg1 harg1 arg2 harg2 arg3 harg3 arg4 harg4 arg5 harg5 arg6 harg6 arg7 harg7 arg8 harg8 arg9 harg9 arg10 harg10 (arg8.view.writes (Elt F) arg8.view.junk (part2_run.sl.H8_1 c arg1 f1))
        (4294967295#32, 16256#32) ⟨k, hk⟩
      rw [trip1, e8] at h
      exact h
    · rfl
    · unfold part2_run.sl.v25 part2_run.sl.v24
      rw [pay13_count]
      have e : part2_run.sl.v13 c arg1 arg8 f1 = high (words x) :=
        (View.readAt_full _ _ _).trans e8
      rw [e]
      rfl
  isplitl [H1]
  · iexists f1; isplitr; swap; · iexact H1
    ipureintro; exact h1
  isplitl [H7]
  · iexists _; isplitr; swap; · iexact H7
    ipureintro; exact e7
  · iexists _, _; isplitr; swap; · iexact H8
    ipureintro; rfl

end Cert.CodesIdeal.Hand
-- ==== Proof.CodesMiddle.lean ====
/-
  The program over words: the second bisection and the choice among equal words.
-/
module

public import proofs.«01_k».proof.Proof.Gen.CodesIdeal.Frame
public import proofs.«01_k».proof.Proof.Gen.CodesIdeal.Skeleton
public import proofs.«01_k».proof.Proof.Gen.CodesIdeal.Loops
public import proofs.«01_k».proof.Proof.CodesFront
public import proofs.«01_k».proof.Proof.Step
public import Idealize.ShloMosaic.Lib.Tactic

@[expose] public section

set_option maxRecDepth 16384

noncomputable section

namespace Cert.CodesIdeal.Hand

open Cert.CodesIdeal Cert.CodesIdeal.Gen
open Cert.Kernel.Hand (First cnt num thr midW halve halveTie low selected wanted selected_all selected_tie threshold)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The second part runs: with the first bisection's results it yields a threshold and a number that select at least 300 words. -/
theorem part3_run (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .i32) (hx : ∀ j, 0 ≤ (words x j).toInt) (t v26 : BitVec 32) (h1 : First (words x) t v26)
    (K : (Σ' (v44 : BitVec 32) (v66 : IVec S3136x128 32) (v70 : BitVec 32), IVec S3136x128 1) → sProp 𝕄) :
    iprop(owns (c : Thread nD τ) arg7 fullShare (words x) ∗ (∃ d, owns (c : Thread nD τ) arg8 fullShare d)
        ∗ (∀ tb istar v73, (⌜300 ≤ cnt (selected (words x) tb istar) ∧ v73 = cmpi .sgt (words x) (fun _ => tb)⌝
            ∗ owns (c : Thread nD τ) arg7 fullShare (words x)
            ∗ (∃ d, owns (c : Thread nD τ) arg8 fullShare d)) -∗ K ⟨tb, k0_pay21, istar, v73⟩))
      ⊢ wp frame (wpE (defs₀ (F := F)) Variants.none c none) Set.univ
          (k0_part3 i arg1 harg1 arg2 harg2 arg3 harg3 arg4 harg4 arg5 harg5 arg6 harg6 arg7 harg7 arg8 harg8 arg9 harg9 arg10 harg10 t v26 (k0_pay14 x t) (k0_pay15 x) k0_pay16) K := by
  simp only [k0_part3_eq_skeleton]; unfold k0_part3_skel
  unfold owns
  iintro ⟨⟨%f7, %h7, H7⟩, ⟨%d8, %f8, -, H8⟩, Hk⟩
  sl_exec
  have e7 : View.readAt (Elt F) arg7.view (Rect.unit (s := S3136x128) ![0, 0] S3136x128.size inb_S3136x128_S3136x128_0_0).toLoadRect f7 = words x :=
    (View.readAt_full _ _ _).trans h7
  have e8 : arg8.view.read (Elt F) (arg8.view.writes (Elt F) arg8.view.junk (part3_run.sl.H8_1 x t)) = low (words x) t := by
    unfold part3_run.sl.H8_1
    rw [read_full, pay17_eq]
  have e45 : part3_run.sl.v44 c i arg1 harg1 arg2 harg2 arg3 harg3 arg4 harg4 arg5 harg5 arg6 harg6 arg7 harg7 arg8 harg8 arg9 harg9 arg10 harg10 x t v26 = thr t (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 := rfl
  have hb : k0_pay23 (F := F) t (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 (words x)
      = cmpi .sgt (words x) (fun _ => part3_run.sl.v44 c i arg1 harg1 arg2 harg2 arg3 harg3 arg4 harg4 arg5 harg5 arg6 harg6 arg7 harg7 arg8 harg8 arg9 harg9 arg10 harg10 x t v26) := rfl
  have ht : 300 ≤ cnt fun j => (part3_run.sl.v44 c i arg1 harg1 arg2 harg2 arg3 harg3 arg4 harg4 arg5 harg5 arg6 harg6 arg7 harg7 arg8 harg8 arg9 harg9 arg10 harg10 x t v26).toInt ≤ (words x j).toInt := by
    obtain ⟨st1, h10, h1s, et, hK⟩ := h1
    rw [et] at hK
    have g := threshold (words x) hx st1 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32)) v26 h1s h10 hK (fun k hk => ?_) rfl
    · rw [← et] at g; exact g
    rw [← et]
    have h := st_k0_t2_succ (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) ⟨k, hk⟩
    rw [trip2, e8] at h
    exact h
  rcases Classical.em (part3_run.sl.v69 c i arg1 harg1 arg2 harg2 arg3 harg3 arg4 harg4 arg5 harg5 arg6 harg6 arg7 harg7 arg8 harg8 arg9 harg9 arg10 harg10 x t v26 f7 = 1#1) with hv | hv
  · simp only [if_pos hv]
    sl_exec
    sl_step
    iapply Hk
    isplitr
    · ipureintro
      refine ⟨?_, hb⟩
      exact selected_all (words x) _ ht
    isplitl [H7]
    · iexists f7; isplitr; swap; · iexact H7
      ipureintro; exact h7
    · iexists _, _; isplitr; swap; · iexact H8
      ipureintro; rfl
  · simp only [if_neg hv]
    sl_exec
    sl_step
    have e62 : part3_run.sl.v61 c i arg1 harg1 arg2 harg2 arg3 harg3 arg4 harg4 arg5 harg5 arg6 harg6 arg7 harg7 arg8 harg8 arg9 harg9 arg10 harg10 x t v26 f7 = wanted (words x) (part3_run.sl.v44 c i arg1 harg1 arg2 harg2 arg3 harg3 arg4 harg4 arg5 harg5 arg6 harg6 arg7 harg7 arg8 harg8 arg9 harg9 arg10 harg10 x t v26) := by
      unfold part3_run.sl.v61 part3_run.sl.v52
      rw [e7, pay19_count]
      rfl
    iapply Hk
    isplitr
    · ipureintro
      refine ⟨?_, hb⟩
      refine selected_tie (words x) _ ht (st_k0_t3 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 (part3_run.sl.v61 c i arg1 harg1 arg2 harg2 arg3 harg3 arg4 harg4 arg5 harg5 arg6 harg6 arg7 harg7 arg8 harg8 arg9 harg9 arg10 harg10 x t v26 f7) f7 (4294967295#32, 401408#32)) (fun k hk hm => ?_) rfl
      have h := st_k0_t3_succ (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 (part3_run.sl.v61 c i arg1 harg1 arg2 harg2 arg3 harg3 arg4 harg4 arg5 harg5 arg6 harg6 arg7 harg7 arg8 harg8 arg9 harg9 arg10 harg10 x t v26 f7) f7 (4294967295#32, 401408#32) ⟨k, hk⟩
      have hh := trip3 (F := F) c i arg1 harg1 arg2 harg2 arg3 harg3 arg4 harg4 arg5 harg5 arg6 harg6 arg7 harg7 arg8 harg8 arg9 harg9 arg10 harg10 t v26 (k0_pay14 x t) (k0_pay15 x) k0_pay16 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 (part3_run.sl.v61 c i arg1 harg1 arg2 harg2 arg3 harg3 arg4 harg4 arg5 harg5 arg6 harg6 arg7 harg7 arg8 harg8 arg9 harg9 arg10 harg10 x t v26 f7) f7 ⟨k, hk⟩ (st_k0_t3 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (st_k0_t2 (F := F) Variants.none c none i arg1 harg1 arg2 harg2 arg3 harg3 arg4 harg4 arg5 harg5 arg6 harg6 arg7 harg7 arg8 harg8 arg9 harg9 arg10 harg10 t v26 (k0_pay14 x t) (k0_pay15 x) k0_pay16 (arg8.view.writes (Elt F) arg8.view.junk (part3_run.sl.H8_1 x t)) (4294934527#32, 32767#32) 17).2 (part3_run.sl.v61 c i arg1 harg1 arg2 harg2 arg3 harg3 arg4 harg4 arg5 harg5 arg6 harg6 arg7 harg7 arg8 harg8 arg9 harg9 arg10 harg10 x t v26 f7) f7 (4294967295#32, 401408#32) k) hm
      rw [h7, e62] at hh
      rw [e62]
      rw [e62] at h
      exact h.trans hh
    isplitl [H7]
    · iexists f7; isplitr; swap; · iexact H7
      ipureintro; exact h7
    · iexists _, _; isplitr; swap; · iexact H8
      ipureintro; rfl

end Cert.CodesIdeal.Hand
-- ==== Proof.CodesBack.lean ====
/-
  The program over words: the masked words, the 300 extraction steps and the stored scores.
-/
module

public import proofs.«01_k».proof.Proof.Gen.CodesIdeal.Frame
public import proofs.«01_k».proof.Proof.Gen.CodesIdeal.Skeleton
public import proofs.«01_k».proof.Proof.Gen.CodesIdeal.Loops
public import proofs.«01_k».proof.Proof.CodesMiddle
public import proofs.«01_k».proof.Proof.Back
public import Idealize.ShloMosaic.Lib.Tactic

@[expose] public section

set_option maxRecDepth 16384

noncomputable section

namespace Cert.CodesIdeal.Hand

open Cert.CodesIdeal Cert.CodesIdeal.Gen
open Cert.Kernel.Hand (cnt num selected selected_all start Picked row0 slot slots loc inBlock IsBlock Replaced ExtInv off_row blkW select_one select_ne)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The masked words: the selected ones, and -1 elsewhere. -/
theorem pay24_toInt (si : S3136x128.Idx → BitVec 32) (tb istar : BitVec 32) (j : S3136x128.Idx) :
    (k0_pay24 (F := F) tb k0_pay21 istar (cmpi .sgt si (fun _ => tb)) si si j : BitVec 32).toInt = start si tb istar j :=
  Cert.Kernel.Hand.pay23_toInt (F := Bits) si tb istar j

/-- A block is read at its rows. -/
theorem read_block (v : View sig .tc .vmem S3136x128 .i32) (f : v.ty.Contents (Elt F)) (w : BitVec 32) (hc : k0_chk1 w) (L : ℕ) (hw : w = BitVec.ofNat 32 L) :
    IsBlock (v.read (Elt F) f) L (v.readAt (Elt F) (Rect.unit (s := S3136x128) (k0_off1 w) S32x128.size (k0_off1_inb w hc)).toLoadRect f) := by
  intro hL b
  subst hw
  rw [View.readAt_apply]
  congr 1
  funext a
  have h0 := (b 0).isLt
  have h1 := (b 1).isLt
  apply Fin.ext
  match a with
  | ⟨0, _⟩ =>
    show (Scalar.indexCast (Scalar.muli (BitVec.ofNat 32 L) 32#32)).toNat + 1 * (b 0).val = (4096 * L + (128 * (b 0).val + (b 1).val)) / 128
    rw [off_row L hL]
    change (b 1).val < 128 at h1
    omega
  | ⟨1, _⟩ =>
    show 0 + 1 * (b 1).val = (4096 * L + (128 * (b 0).val + (b 1).val)) % 128
    change (b 1).val < 128 at h1
    omega

/-- A block is written at its rows, and the others stay. -/
theorem write_block (v : View sig .tc .vmem S3136x128 .i32) (f : v.ty.Contents (Elt F)) (w : BitVec 32) (hc : k0_chk1 w) (L : ℕ) (hL : L < 98)
    (hw : w = BitVec.ofNat 32 L) (blk : IVec S32x128 32) :
    Replaced (v.read (Elt F) f) L blk
      (v.read (Elt F) (v.writes (Elt F) f [(⟨Rect.unit (s := S3136x128) (k0_off1 w) S32x128.size (k0_off1_inb w hc), k0_pay28 blk⟩ : View.Piece (Elt F) S3136x128 .i32)])) := by
  subst hw
  have hoff : k0_off1 (BitVec.ofNat 32 L) = ![32 * L, 0] := by
    unfold k0_off1
    dsimp only
    rw [off_row L hL]
  refine ⟨fun hL b => ?_, fun j hj => ?_⟩
  · have h0 := (b 0).isLt
    have h1 := (b 1).isLt
    change (b 1).val < 128 at h1
    refine (View.read_writes_cons_rows_of_mem (d := S3136x128.size) (size := S32x128.size) v f _ _ _ (inBlock L hL b) b hoff ?_ ?_).trans ?_
    rotate_left 2
    · show blk (Shape.reshapeEquiv _ b) = _
      rw [Shape.reshapeEquiv_self]
    · show (4096 * L + (128 * (b 0).val + (b 1).val)) / 128 = 32 * L + (b 0).val
      omega
    · show (4096 * L + (128 * (b 0).val + (b 1).val)) % 128 = (b 1).val
      omega
  · rw [View.read_writes_cons_rows_of_not_mem v f _ _ _ _ hoff (rfl : S32x128.size 0 = 32)]
    · rfl
    · have h1 := (j 1).isLt
      change (j 1).val < 128 at h1
      change (128 * (j 0).val + (j 1).val) / 4096 ≠ L at hj
      show (j 0).val < 32 * L ∨ 32 * L + 32 ≤ (j 0).val
      omega

/-- A store of row 0 leaves its payload there. -/
theorem read_row0 {e : EltTy} (v : View sig .tc .vmem S1x8x512 e) (f : v.ty.Contents (Elt F)) (w : S1x1x512.Idx → Elt F e) (L : List (View.Piece (Elt F) S1x8x512 e))
    (q : S1x1x512.Idx) :
    v.read (Elt F) (v.writes (Elt F) f ((⟨Rect.unit (s := S1x8x512) ![0, 0, 0] S1x1x512.size inb_S1x8x512_S1x1x512_0_0_0, w⟩ : View.Piece (Elt F) S1x8x512 e) :: L)) (row0 q) = w q := by
  refine View.read_writes_cons_unit_of_mem v f _ w L (row0 q) q rfl fun a => ?_
  match a with
  | ⟨0, _⟩ =>
    have := (q 0).isLt
    change (q 0).val < 1 at this
    exact (show 0 = 0 + (q 0).val by omega)
  | ⟨1, _⟩ =>
    have := (q 1).isLt
    change (q 1).val < 1 at this
    exact (show 0 = 0 + (q 1).val by omega)
  | ⟨2, _⟩ => exact (Nat.zero_add _).symm

/-- The third part runs: the words and numbers of the 300 picks, the words stored as scores in row 0. -/
theorem part4_run (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (si : S3136x128.Idx → BitVec 32) (hsi : ∀ j, 0 ≤ (si j).toInt) (tb istar : BitVec 32)
    (K : (Σ' (v102_1 : IVec S1x512 32) (c80_i32 : BitVec 32) (v107 : IVec S1x512 32), IVec S1x512 1) → sProp 𝕄) :
    iprop(owns (c : Thread nD τ) arg7 fullShare si ∗ (∃ d, owns (c : Thread nD τ) arg9 fullShare d) ∗ (∃ d, owns (c : Thread nD τ) arg4 fullShare d)
        ∗ (∀ fv, (∃ sv, ⌜Picked si tb istar sv fv⌝ ∗ owns (c : Thread nD τ) arg7 fullShare si ∗ (∃ d, owns (c : Thread nD τ) arg9 fullShare d)
            ∗ (∃ d, ⌜∀ q, d (row0 q) = k0_pay30 sv q⌝ ∗ owns (c : Thread nD τ) arg4 fullShare d)) -∗ K ⟨fv, 80#32, k0_pay31 fv, k0_pay32 fv⟩))
      ⊢ wp frame (wpE (defs₀ (F := F)) Variants.none c none) Set.univ
          (k0_part4 i arg1 harg1 arg2 harg2 arg3 harg3 arg4 harg4 arg5 harg5 arg6 harg6 arg7 harg7 arg8 harg8 arg9 harg9 arg10 harg10 tb k0_pay21 istar (cmpi .sgt si (fun _ => tb))) K := by
  simp only [k0_part4_eq_skeleton]; unfold k0_part4_skel
  unfold owns
  iintro ⟨⟨%f7, %h7, H7⟩, ⟨%d9, %f9, -, H9⟩, ⟨%d4, %f4, -, H4⟩, Hk⟩
  have hf : ∀ j, -1 ≤ start si tb istar j := fun j => by
    unfold start Cert.Select.shown
    split
    · exact le_trans (by decide) (hsi j)
    · exact le_refl _
  have e7 : View.readAt (Elt F) arg7.view (Rect.unit (s := S3136x128) ![0, 0] S3136x128.size inb_S3136x128_S3136x128_0_0).toLoadRect f7 = si :=
    (View.readAt_full _ _ _).trans h7
  sl_exec
  sl_for (fun k acc => iprop(∃ f, (arg9.view.loc (c : Thread nD τ) ↦[arg9.view.set]{fullShare} f) ∗ ⌜ExtInv (start si tb istar) k (arg9.view.read (Elt F) f) acc.1 acc.2.1 acc.2.2⌝)) $$ [H9]
  · intro k acc
    iintro ⟨%f, H9, %hI⟩
    obtain ⟨a12, a13, a14⟩ := acc
    have hc : k0_chk1 (extractAt ![0, 0, 0] (k0_pay3 (iota .tc S1x128 32 [1] iota_S1x128_d1_w32) a14) inpos_S1x1x1_p0_0_0) := hI.chk hf
    sl_exec
    sl_step
    iexists _; isplitl [H9]; · iexact H9
    ipureintro
    have E188 : part4_run.sl.v186 a14 = blkW a14 := rfl
    have E207 : part4_run.sl.v205 k a12 a14 = k0_pay6 slots 0#32 1#32 k a12 a14 := rfl
    have E219 : part4_run.sl.v217 c arg9 f a14 hc = k0_pay8 (F := F) k0_pay26 a14 (arg9.view.readAt (Elt F) (Rect.unit (s := S3136x128) (k0_off1 (part4_run.sl.v186 a14)) S32x128.size (k0_off1_inb (part4_run.sl.v186 a14) hc)).toLoadRect f) := rfl
    have E215 : part4_run.sl.v213 c arg9 k f a13 a14 hc = k0_pay7 (F := F) (iota .tc S1x128 32 [1] iota_S1x128_d1_w32) slots k0_pay26 0#32 1#32 k a13 a14 (arg9.view.readAt (Elt F) (Rect.unit (s := S3136x128) (k0_off1 (part4_run.sl.v186 a14)) S32x128.size (k0_off1_inb (part4_run.sl.v186 a14) hc)).toLoadRect f) := rfl
    have h := Cert.Kernel.Hand.ExtInv.step (F := Bits) hf k (lt_of_lt_of_le k.isLt (by decide)) (h := hI) (blk := (arg9.view.readAt (Elt F) (Rect.unit (s := S3136x128) (k0_off1 (part4_run.sl.v186 a14)) S32x128.size (k0_off1_inb (part4_run.sl.v186 a14) hc)).toLoadRect f))
      fun L hL hw => ⟨read_block arg9.view f (part4_run.sl.v186 a14) hc L (E188.trans hw), write_block arg9.view f (part4_run.sl.v186 a14) hc L hL (E188.trans hw) _⟩
    rw [E207, E215, E219]
    dsimp only at h ⊢
    rw [← E188] at h
    exact h
  · iexists _; isplitl [H9]; · iexact H9
    ipureintro
    have e9 : arg9.view.read (Elt F) (arg9.view.writes (Elt F) arg9.view.junk (part4_run.sl.H9_1 si tb istar)) = k0_pay24 (F := F) tb k0_pay21 istar (cmpi .sgt si (fun _ => tb)) si si := by
      unfold part4_run.sl.H9_1
      rw [read_full]
    have e88 : part4_run.sl.v87 c arg9 si tb istar = k0_pay24 (F := F) tb k0_pay21 istar (cmpi .sgt si (fun _ => tb)) si si := (View.readAt_full _ _ _).trans e9
    rw [e9, e88]
    exact Cert.Kernel.Hand.ExtInv.zero (F := Bits) _ _ (pay24_toInt si tb istar)
  iintro %acc ⟨%f, H9, %hI⟩
  obtain ⟨a12, a13, a14⟩ := acc
  sl_exec
  sl_step
  iapply Hk
  iexists a12
  isplitr
  · ipureintro
    intro q hq
    exact hI.below q (lt_of_lt_of_eq hq trips4.symm)
  isplitl [H7]
  · iexists f7; isplitr; swap; · iexact H7
    ipureintro; exact h7
  isplitl [H9]
  · iexists _, _; isplitr; swap; · iexact H9
    ipureintro; rfl
  · iexists _; isplitr; swap
    · iexists _; isplitr; swap; · iexact H4
      ipureintro; rfl
    · ipureintro
      intro q
      exact read_row0 arg4.view f4 _ _ q

end Cert.CodesIdeal.Hand
-- ==== Proof.CodesWhole.lean ====
/-
  The program over words: the whole body, and what one grid point leaves in its three output windows.
-/
module

public import proofs.«01_k».proof.Proof.Gen.CodesIdeal.Frame
public import proofs.«01_k».proof.Proof.Gen.CodesIdeal.Skeleton
public import proofs.«01_k».proof.Proof.Gen.CodesIdeal.Loops
public import proofs.«01_k».proof.Proof.CodesBack
public import proofs.«01_k».proof.Proof.Whole
public import Idealize.ShloMosaic.Lib.Tactic

@[expose] public section

set_option maxRecDepth 16384

noncomputable section

namespace Cert.CodesIdeal.Hand

open Cert.CodesIdeal Cert.CodesIdeal.Gen
open Cert.Kernel.Hand (cnt selected Picked row0)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The numbers divided by 80. -/
abbrev quotients (fv : IVec S1x512 32) : IVec S1x512 32 := k0_pay33 fv 80#32 (k0_pay31 fv) (k0_pay32 fv)

/-- The labels stored in row 0. -/
abbrev labelRow (fv : IVec S1x512 32) : IVec S1x1x512 32 := k0_pay34 fv 80#32 (k0_pay31 fv) (k0_pay32 fv)

/-- The first two rows' leading entries of the window of sizes. -/
abbrev size0 (x3 : Vec F S1x8x128 .f32) : Vec F S1x1x1 .f32 := fun i =>
  x3 ((Rect.unit (s := S1x8x128) ![0, 0, 0] S1x1x1.size inb_S1x8x128_S1x1x1_0_0_0).toLoadRect.idx i)

abbrev size1 (x3 : Vec F S1x8x128 .f32) : Vec F S1x1x1 .f32 := fun i =>
  x3 ((Rect.unit (s := S1x8x128) ![0, 1, 0] S1x1x1.size inb_S1x8x128_S1x1x1_0_1_0).toLoadRect.idx i)

/-- The boxes stored, from the window of boxes, the window of sizes and the numbers picked. -/
def boxRows (x2 : Vec F S1x8x5000 .f32) (x3 : Vec F S1x8x128 .f32) (fv : IVec S1x512 32) : FVec F S1x8x512 .f32 :=
  k0_pay1 (quotients fv) (k0_pay36 (size0 x3)) (k0_pay37 (size1 x3)) (k0_pay38 x2) (k0_pay39 x2) (k0_pay40 x2) (k0_pay41 x2) (k0_pay42 x2) (k0_pay43 (size0 x3))

/-- What a grid point leaves in its output windows: row 0 of the first two holds the picked words and the labels of the
    picked numbers, the third the boxes of the picked numbers, for some selection of at least 300 of the words. -/
def Out (x : Vec F S1x3136x128 .i32) (x2 : Vec F S1x8x5000 .f32) (x3 : Vec F S1x8x128 .f32) (d4 d5 : S1x8x512.Idx → BitVec 32)
    (d6 : S1x8x512.Idx → Elt F .f32) : Prop :=
  ∃ (tb istar : BitVec 32) (sv fv : IVec S1x512 32), 300 ≤ cnt (selected (words x) tb istar) ∧ Picked (words x) tb istar sv fv
    ∧ (∀ q, d4 (row0 q) = k0_pay30 sv q) ∧ (∀ q, d5 (row0 q) = labelRow fv q) ∧ d6 = boxRows x2 x3 fv

/-- The fourth part runs and stores the labels in row 0. -/
theorem part5_run (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x2 : Vec F S1x8x5000 .f32) (x3 : Vec F S1x8x128 .f32) (fv : IVec S1x512 32)
    (K : (Σ' (v129 : IVec S1x512 32) (v139 : F .f32) (v141 : F .f32) (v142 : FVec F S1x5000 .f32) (v143 : FVec F S1x5000 .f32) (v144 : FVec F S1x5000 .f32) (v145 : FVec F S1x5000 .f32) (v148 : FVec F S1x5000 .f32), FVec F S1x5000 .f32) → sProp 𝕄) :
    iprop(owns (c : Thread nD τ) arg2 fullShare x2 ∗ owns (c : Thread nD τ) arg3 fullShare x3 ∗ (∃ d, owns (c : Thread nD τ) arg5 fullShare d)
        ∗ ((owns (c : Thread nD τ) arg2 fullShare x2 ∗ owns (c : Thread nD τ) arg3 fullShare x3
            ∗ (∃ d, ⌜∀ q, d (row0 q) = labelRow fv q⌝ ∗ owns (c : Thread nD τ) arg5 fullShare d))
            -∗ K ⟨quotients fv, k0_pay36 (size0 x3), k0_pay37 (size1 x3), k0_pay38 x2, k0_pay39 x2, k0_pay40 x2, k0_pay41 x2, k0_pay42 x2, k0_pay43 (size0 x3)⟩))
      ⊢ wp frame (wpE (defs₀ (F := F)) Variants.none c none) Set.univ
          (k0_part5 i arg1 harg1 arg2 harg2 arg3 harg3 arg4 harg4 arg5 harg5 arg6 harg6 arg7 harg7 arg8 harg8 arg9 harg9 arg10 harg10 fv 80#32 (k0_pay31 fv) (k0_pay32 fv)) K := by
  simp only [k0_part5_eq_skeleton]; unfold k0_part5_skel
  unfold owns
  iintro ⟨⟨%f2, %h2, H2⟩, ⟨%f3, %h3, H3⟩, ⟨%d5, %f5, -, H5⟩, Hk⟩
  sl_exec
  sl_step
  subst h2
  subst h3
  have e2 : View.readAt (Elt F) arg2.view (Rect.unit (s := S1x8x5000) ![0, 0, 0] S1x8x5000.size inb_S1x8x5000_S1x8x5000_0_0_0).toLoadRect f2 = arg2.view.read (Elt F) f2 :=
    View.readAt_full _ _ _
  have e3 : size0 (arg3.view.read (Elt F) f3)
      = View.readAt (Elt F) arg3.view (Rect.unit (s := S1x8x128) ![0, 0, 0] S1x1x1.size inb_S1x8x128_S1x1x1_0_0_0).toLoadRect f3 := rfl
  have e4 : size1 (arg3.view.read (Elt F) f3)
      = View.readAt (Elt F) arg3.view (Rect.unit (s := S1x8x128) ![0, 1, 0] S1x1x1.size inb_S1x8x128_S1x1x1_0_1_0).toLoadRect f3 := rfl
  rw [← e2, e3, e4]
  iapply Hk
  isplitl [H2]
  · iexists f2; isplitr; swap; · iexact H2
    ipureintro; exact e2.symm
  isplitl [H3]
  · iexists f3; isplitr; swap; · iexact H3
    ipureintro; rfl
  iexists _; isplitr; swap
  · iexists _; isplitr; swap; · iexact H5
    ipureintro; rfl
  · ipureintro
    intro q
    exact read_row0 arg5.view f5 _ _ q

/-- A store of the whole window leaves its payload. -/
theorem read_whole {e : EltTy} (v : View sig .tc .vmem S1x8x512 e) (f : v.ty.Contents (Elt F)) (w : S1x8x512.Idx → Elt F e) (L : List (View.Piece (Elt F) S1x8x512 e)) :
    v.read (Elt F) (v.writes (Elt F) f ((⟨Rect.unit (s := S1x8x512) ![0, 0, 0] S1x8x512.size inb_S1x8x512_S1x8x512_0_0_0, w⟩ : View.Piece (Elt F) S1x8x512 e) :: L)) = w := by
  funext q
  refine View.read_writes_cons_unit_of_mem v f _ w L q q rfl fun a => ?_
  match a with
  | ⟨0, _⟩ => exact (Nat.zero_add _).symm
  | ⟨1, _⟩ => exact (Nat.zero_add _).symm
  | ⟨2, _⟩ => exact (Nat.zero_add _).symm

/-- The body runs. -/
theorem body_run (c : Dev nD) (i : grid0.Coords) (arg1 : Memref sig .tc .vmem S1x3136x128 .i32) (harg1 : arg1.IsWhole) (arg2 : Memref sig .tc .vmem S1x8x5000 .f32) (harg2 : arg2.IsWhole) (arg3 : Memref sig .tc .vmem S1x8x128 .f32) (harg3 : arg3.IsWhole) (arg4 : Memref sig .tc .vmem S1x8x512 .i32) (harg4 : arg4.IsWhole) (arg5 : Memref sig .tc .vmem S1x8x512 .i32) (harg5 : arg5.IsWhole) (arg6 : Memref sig .tc .vmem S1x8x512 .f32) (harg6 : arg6.IsWhole) (arg7 : Memref sig .tc .vmem S3136x128 .i32) (harg7 : arg7.IsWhole) (arg8 : Memref sig .tc .vmem S3136x128 .i16) (harg8 : arg8.IsWhole) (arg9 : Memref sig .tc .vmem S3136x128 .i32) (harg9 : arg9.IsWhole) (arg10 : Memref sig .tc .vmem S8x128 .i32) (harg10 : arg10.IsWhole)
    (x : Vec F S1x3136x128 .i32) (hx : ∀ j, 0 ≤ (words x j).toInt) (x2 : Vec F S1x8x5000 .f32) (x3 : Vec F S1x8x128 .f32)
    (K : PUnit → sProp 𝕄) :
    iprop(owns (c : Thread nD τ) arg1 fullShare x ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (∀ d4 d5 d6, (⌜Out x x2 x3 d4 d5 d6⌝ ∗ owns (c : Thread nD τ) arg1 fullShare x ∗ owns (c : Thread nD τ) arg2 fullShare x2 ∗ owns (c : Thread nD τ) arg3 fullShare x3
            ∗ owns (c : Thread nD τ) arg4 fullShare d4 ∗ owns (c : Thread nD τ) arg5 fullShare d5 ∗ owns (c : Thread nD τ) arg6 fullShare d6
            ∗ (∃ d, owns (c : Thread nD τ) arg7 fullShare d) ∗ (∃ d, owns (c : Thread nD τ) arg8 fullShare d) ∗ (∃ d, owns (c : Thread nD τ) arg9 fullShare d)) -∗ K PUnit.unit))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  iintro ⟨H1, H2, H3, H4, H5, H6, H7, H8, H9, Hk⟩
  rw [wp_bind]
  iapply (part2_run c i arg1 harg1 arg2 harg2 arg3 harg3 arg4 harg4 arg5 harg5 arg6 harg6 arg7 harg7 arg8 harg8 arg9 harg9 arg10 harg10 x _)
  isplitl [H1]; · iexact H1
  isplitl [H7]; · iexact H7
  isplitl [H8]; · iexact H8
  iintro %t %v26 %v30 %v34 ⟨%hp, H1, H7, H8⟩
  obtain ⟨hF, rfl, rfl⟩ := hp
  rw [wp_bind]
  iapply (part3_run c i arg1 harg1 arg2 harg2 arg3 harg3 arg4 harg4 arg5 harg5 arg6 harg6 arg7 harg7 arg8 harg8 arg9 harg9 arg10 harg10 x hx t v26 hF _)
  isplitl [H7]; · iexact H7
  isplitl [H8]; · iexact H8
  iintro %tb %istar %v73 ⟨%hp, H7, H8⟩
  obtain ⟨hS, rfl⟩ := hp
  rw [wp_bind]
  iapply (part4_run c i arg1 harg1 arg2 harg2 arg3 harg3 arg4 harg4 arg5 harg5 arg6 harg6 arg7 harg7 arg8 harg8 arg9 harg9 arg10 harg10 (words x) hx tb istar _)
  isplitl [H7]; · iexact H7
  isplitl [H9]; · iexact H9
  isplitl [H4]; · iexact H4
  iintro %fv ⟨%sv, %hP, H7, H9, ⟨%d4, %h4, H4⟩⟩
  rw [wp_bind]
  iapply (part5_run c i arg1 harg1 arg2 harg2 arg3 harg3 arg4 harg4 arg5 harg5 arg6 harg6 arg7 harg7 arg8 harg8 arg9 harg9 arg10 harg10 x2 x3 fv _)
  isplitl [H2]; · iexact H2
  isplitl [H3]; · iexact H3
  isplitl [H5]; · iexact H5
  iintro ⟨H2, H3, ⟨%d5, %h5, H5⟩⟩
  unfold owns
  icases H6 with ⟨%d6, %f6, -, H6⟩
  sl_exec
  sl_step
  iapply Hk
  isplitr
  · ipureintro; exact ⟨tb, istar, sv, fv, hS, hP, h4, h5, rfl⟩
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    rw [read_whole]
    rfl
  isplitl [H7]; · iexists _; iexact H7
  isplitl [H8]; · iexact H8
  iexact H9

end Cert.CodesIdeal.Hand
-- ==== Proof.CodesRun.lean ====
/-
  The program over words: its runs, from the body's run at every point.
-/
module

public import proofs.«01_k».proof.Proof.Gen.CodesIdeal.Frame
public import proofs.«01_k».proof.Proof.Gen.CodesIdeal.Skeleton
public import proofs.«01_k».proof.Proof.Gen.CodesIdeal.Loops
public import proofs.«01_k».proof.Proof.CodesWhole
public import Idealize.ShloMosaic.Lib.Tactic
public import Idealize.ShloMosaic.Lib.Pipeline.ArrRel
public import Idealize.ShloMosaic.Lib.Pipeline.FrameSuffix
public import Idealize.ShloMosaic.Lib.Pipeline.Quiescent

@[expose] public section

set_option maxRecDepth 16384

noncomputable section

namespace Cert.CodesIdeal.Hand

open Cert.CodesIdeal Cert.CodesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The data of the run -/

/-- The blocks of words, of boxes and of sizes that grid point `t` works on. -/
abbrev scores (c : Dev nD) (t : Fin cfg0.N) : Vec F S1x3136x128 .i32 := iblk m c 0 t
abbrev centers (c : Dev nD) (t : Fin cfg0.N) : Vec F S1x8x5000 .f32 := iblk m c 1 t
abbrev sizes (c : Dev nD) (t : Fin cfg0.N) : Vec F S1x8x128 .f32 := iblk m c 2 t

/-- What the body leaves in the three output windows at a point. -/
abbrev OutAt (c : Dev nD) (t : Fin cfg0.N) := Out (scores m c t) (centers m c t) (sizes m c t)

/-- What the body leaves in a window: in the output windows what `Out` says of the point's blocks, in the others anything. -/
def leaves (c : Dev nD) : (w : Fin 6) → (t : Fin cfg0.N) → ((cfg0.win w).block.Idx → Elt F (cfg0.win w).elt) → Prop
  | 3, t, X => ∃ d5 d6, OutAt m c t X d5 d6
  | 4, t, X => ∃ d4 d6, OutAt m c t d4 X d6
  | 5, t, X => ∃ d4 d5, OutAt m c t d4 d5 X
  | _, _, _ => True

/-- The relational data of the one launch: the arrays as the host left them, `leaves` for the body, nothing owed. -/
def rdat (c : Dev nD) : Pipeline.RDat τ (Elt F) Unit ℕ (UR sig nD τ) ℕ cfg0 c where
  A w := V m c (Pipeline.arrRef spec0 w)
  after w t _ X := leaves m c w t X
  Φ _ := Pipeline.ΦA spec0 c
  q _ := fullShare
  owed _ := 0

/-- Every word of every block is nonnegative. -/
def Plain : Prop := ∀ (c : Dev nD) (t : Fin cfg0.N) (j : S3136x128.Idx), 0 ≤ (words (scores m c t) j).toInt

/-- The row of the body table at a point is the body as the pipeline calls it there. -/
theorem defs₀_row (t : Fin cfg0.N) : defs₀ (F := F) .tc cfg0.body (cfg0.bodyArgs t (cfg0.slots t)) = bodyAt0 t := by
  unfold defs₀; rw [Defs.onTc_tc]

/-- The input windows' buffers hold the point's blocks when the body runs. -/
theorem finds_scores (c : Dev nD) (t : Fin cfg0.N) (X : (cfg0.win 0).block.Idx → Elt F (cfg0.win 0).elt)
    (h : (rdat m c).Finds 0 t X) : X = scores m c t := by
  unfold Pipeline.RDat.Finds at h
  rw [if_pos (fetch0_0 t)] at h
  obtain ⟨d, rfl⟩ := h
  rfl

theorem finds_centers (c : Dev nD) (t : Fin cfg0.N) (X : (cfg0.win 1).block.Idx → Elt F (cfg0.win 1).elt)
    (h : (rdat m c).Finds 1 t X) : X = centers m c t := by
  unfold Pipeline.RDat.Finds at h
  rw [if_pos (fetch0_1 t)] at h
  obtain ⟨d, rfl⟩ := h
  rfl

theorem finds_sizes (c : Dev nD) (t : Fin cfg0.N) (X : (cfg0.win 2).block.Idx → Elt F (cfg0.win 2).elt)
    (h : (rdat m c).Finds 2 t X) : X = sizes m c t := by
  unfold Pipeline.RDat.Finds at h
  rw [if_pos (fetch0_2 t)] at h
  obtain ⟨d, rfl⟩ := h
  rfl

/-- What one point starts from, the buffers' contents named. -/
def pointPre (c : Dev nD) (t : Fin cfg0.N) (Y : (w : Fin 6) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5))

/-- What one point ends with. -/
def pointPost (c : Dev nD) (t : Fin cfg0.N) : sProp 𝕄 :=
  iprop((rdat m c).Φ t.succ ∗ (rdat m c).owesAt () t.succ
    ∗ (∃ X, ⌜leaves m c 0 t X⌝ ∗ owns (c : Thread nD τ) (st0_0 t) fullShare X)
    ∗ (∃ X, ⌜leaves m c 1 t X⌝ ∗ owns (c : Thread nD τ) (st0_1 t) fullShare X)
    ∗ (∃ X, ⌜leaves m c 2 t X⌝ ∗ owns (c : Thread nD τ) (st0_2 t) fullShare X)
    ∗ (∃ X, ⌜leaves m c 3 t X⌝ ∗ owns (c : Thread nD τ) (st0_3 t) fullShare X)
    ∗ (∃ X, ⌜leaves m c 4 t X⌝ ∗ owns (c : Thread nD τ) (st0_4 t) fullShare X)
    ∗ (∃ X, ⌜leaves m c 5 t X⌝ ∗ owns (c : Thread nD τ) (st0_5 t) fullShare X))

theorem point_run (h : Plain m) (c : Dev nD) (t : Fin cfg0.N)
    (Y : (w : Fin 6) → (cfg0.win w).block.Idx → Elt F (cfg0.win w).elt) (hY : Y 0 = scores m c t) (hY1 : Y 1 = centers m c t) (hY2 : Y 2 = sizes m c t) :
    pointPre m c t Y ⊢ wp frame (wpE (defs₀ (F := F)) Variants.none c none) Set.univ (bodyAt0 t) (fun _ => pointPost m c t) := by
  unfold pointPre pointPost bodyAt0
  rw [show (rdat m c).Φ t.succ = Pipeline.ΦA spec0 c from rfl,
    show (rdat m c).owesAt () t.succ = (rdat m c).owesAt () t.castSucc from rfl,
    show (rdat m c).Φ t.castSucc = Pipeline.ΦA spec0 c from rfl, hY, hY1, hY2]
  unfold Pipeline.ΦA
  rw [scopedRest0_eq]
  simp only [← owns_whole]
  iintro ⟨⟨⟨HA, HB, HC, HD⟩, Hg⟩, HO, H0, H1, H2, H3, H4, H5⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (scores m c t) (h c t) (centers m c t) (sizes m c t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HA]; · iexact HA
  isplitl [HB]; · iexact HB
  isplitl [HC]; · iexact HC
  iintro %d4 %d5 %d6 ⟨%hO, H0, H1, H2, H3, H4, H5, HA, HB, HC⟩
  isplitl [HA HB HC HD Hg]
  · isplitr [Hg]
    · isplitl [HA]; · iexact HA
      isplitl [HB]; · iexact HB
      isplitl [HC]; · iexact HC
      iexact HD
    · iexact Hg
  isplitl [HO]; · iexact HO
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; exact ⟨d5, d6, hO⟩
  isplitl [H4]
  · iexists _; isplitr; swap; · iexact H4
    ipureintro; exact ⟨d4, d6, hO⟩
  iexists _; isplitr; swap; · iexact H5
  ipureintro; exact ⟨d4, d5, hO⟩

/-- The body meets the data at every point. -/
theorem body_meets (h : Plain m) (c : Dev nD) : (rdat m c).BodyObligation (defs₀ (F := F)) Variants.none () Set.univ := fun t Y hY => by
  rw [bigSep_W0, bigSep_W0, defs₀_row]
  exact triple_restated (point_run m h c t Y (finds_scores m c t (Y 0) (hY 0)) (finds_centers m c t (Y 1) (hY 1)) (finds_sizes m c t (Y 2) (hY 2))) rfl .rfl fun _ => .rfl

/-! ## The launch -/

/-- Contents of the windowed arrays after every write-back, as the data allow them. -/
abbrev Arrays (c : Dev nD) := (w : Fin cfg0.W) → Buf (Elt F) ((cfg0.win w).arr.view.loc (c.tc : Thread nD τ))

def Allowed (c : Dev nD) (A : Arrays (F := F) c) : Prop := ∀ w, (rdat m c).ArrAt w cfg0.N (A w)

/-- What the buffers hold at the end, from the arrays' contents: the host lines after the call run on them. -/
abbrev finish (c : Dev nD) (A : Arrays (F := F) c) : Valuation τ sig (Elt F) :=
  StableHlo.after (List.flatten [hostOps1]) (Pipeline.withArrays spec0 c (V0 m c) A)

/-- The arrays after every write-back, opened to some allowed contents. -/
theorem arrays_open (c : Dev nD) : ((rdat m c).arraysAt cfg0.N : sProp 𝕄) ⊢ iprop(∃ A, ⌜Allowed m c A⌝ ∗ (rdat m c).arrays A) := by
  unfold Pipeline.RDat.arraysAt
  iintro Ha
  ihave Ha1 := (BI.bigSep_exists_pi Finset.univ (fun w G => iprop(⌜(rdat m c).ArrAt w cfg0.N G⌝
      ∗ (cfg0.win w).arr.view.loc (c.tc : Thread nD τ) ↦[(cfg0.win w).arr.view.set]{(rdat m c).share w} G))) $$ Ha
  icases Ha1 with ⟨%A, Ha⟩
  ihave Ha2 := (BI.bigSep_pure_sep Finset.univ (fun w => (rdat m c).ArrAt w cfg0.N (A w))
      (fun w => (cfg0.win w).arr.view.loc (c.tc : Thread nD τ) ↦[(cfg0.win w).arr.view.set]{(rdat m c).share w} A w)) $$ Ha
  icases Ha2 with ⟨%hA, Ha⟩
  iexists A; isplitr
  · ipureintro; exact fun w => hA w (Finset.mem_univ w)
  unfold Pipeline.RDat.arrays
  iexact Ha

/-- And closed again. -/
theorem arrays_close (c : Dev nD) (A : Arrays (F := F) c) (hA : Allowed m c A) :
    ((rdat m c).arrays A : sProp 𝕄) ⊢ (rdat m c).arraysAt cfg0.N := by
  unfold Pipeline.RDat.arraysAt Pipeline.RDat.arrays
  refine BI.bigSep_mono fun w _ => ?_
  show ((cfg0.win w).arr.view.loc (c.tc : Thread nD τ) ↦[(cfg0.win w).arr.view.set]{(rdat m c).share w} A w : sProp 𝕄)
    ⊢ iprop(∃ G, ⌜(rdat m c).ArrAt w cfg0.N G⌝ ∗ (cfg0.win w).arr.view.loc (c.tc : Thread nD τ) ↦[(cfg0.win w).arr.view.set]{(rdat m c).share w} G)
  iintro H; iexists (A w); isplitr
  · ipureintro; exact hA w
  iexact H

/-- The state the run ends in: on each core the buffers outside the arrays hold what the host lines make of some allowed
    contents of the arrays. -/
def Ended (r : PUnit × MemSt nD τ sig (Elt F)) : Prop :=
  ∀ c : Dev nD, ∃ A, Allowed m c A
    ∧ ∀ b ∈ Pipeline.restRefs sig spec0, r.2.mem ((c.tc : Thread nD τ).loc b) = finish m c A (Proc.devRef .tc b)

theorem full_share (c : Dev nD) (w : Fin cfg0.W) : Pipeline.shareOf cfg0.spec w = fullShare :=
  Pipeline.shareOf_eq_fullShare_of_injective _ launch0.win.arr_inj w

theorem run_ended (h : Plain m) :
    θ_run defs (onTc (τ := τ) (main (F := F))) (s₀ m ρ) (fun r => Ended m r ∧ r.2.sem = fun _ => 0) := by
  classical
  exact Pipeline.RDat.θ_run_region_pf_tail_quiescent (fun q => (cfgs q).toPCfg (Val := Elt F)) (fun q => (cfgs q).toPCfg_adm)
    (fun _ c => rdat m c) () (launch0.toP.to₀.cellOf_inj _) (0 : Fin 1) launch0.toP.to₀.win (Pipeline.OwnSemFacts.none spec0) launch0.toP.to₀.pre
    emb₁ defs₀ Variants.none m ρ main
    (fun _ => Pipeline.chain ([hostOps1].map StableHlo.seq)) (body_meets m h)
    launch0.block_pos launch0.arr_whole launch0.stage_whole (fun _ _ => rfl)
    (G := fun _ => iprop(emp))
    (u₀ := Rounds.initOf (Pipeline.cells (Pipeline.pin (fun q => (cfgs q).toPCfg (Val := Elt F)) (fun q => (cfgs q).toPCfg_adm)) (launch0.toP.to₀.cellOf_inj _)) (Pipeline.launchToks (Pipeline.pin (fun q => (cfgs q).toPCfg (Val := Elt F)) (fun q => (cfgs q).toPCfg_adm)) (launch0.toP.to₀.cellOf_inj _)))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (rdat m c).arrays_split_shared launch0.to₀.sharedIn launch0.arr_whole (fun w _ => (full_share c w).symm) (V m c) _ (fun _ => rfl))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop(∃ A, ⌜Allowed m c A⌝
      ∗ Pipeline.unscopedRestP (Ix := Unit) (Name := ℕ) (U := UR sig nD τ) (Lvl := ℕ) Pipeline.Prefetch.none spec0 c (fun b => finish m c A (Proc.devRef .tc b))))
    (hX := fun c => by
      iintro ⟨HU, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      iintro ⟨Hk, Hb, Ha, HZ⟩
      ihave Ha1 := (arrays_open m c) $$ Ha
      icases Ha1 with ⟨%A, %hA, Ha⟩
      have hB : (rdat m c).arrays A = Pipeline.arrBufs spec0 c (fun b => Pipeline.withArrays spec0 c (V0 m c) A (Proc.devRef .tc b)) :=
        ((rdat m c).arrBufs_eq_arrays launch0.to₀.sharedIn launch0.arr_whole (fun w _ => (full_share c w).symm) _ A fun w =>
          (Pipeline.withArrays_arr spec0 launch0.win.arr_inj c (V0 m c) A w).symm).symm
      iapply (Pipeline.tail_seqs_bufs_b (fun q => (cfgs q).toPCfg (Val := Elt F)) defs₀ Variants.none Pipeline.Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]
        · iapply (arrays_close m c A hA); iapply (Entails.of_eq hB.symm); iexact Ha2
        iexists A; isplitr
        · ipureintro; exact hA
        iexact Hu
      · isplitl [Hb]; · iexact Hb
        isplitl [Ha]
        · iapply (Entails.of_eq hB); iexact Ha
        iexact HZ)
    (QY := fun c s => ∃ A, Allowed m c A
      ∧ ∀ b ∈ Pipeline.restRefsP sig Pipeline.Prefetch.none spec0, s.mem ((c.tc : Thread nD τ).loc b) = finish m c A (Proc.devRef .tc b))
    (hY := fun c s' => by
      iintro ⟨-, ⟨%A, %hA, HZ⟩, HSI⟩
      unfold Pipeline.unscopedRestP
      ihave HR := (Idealize.ShloMosaic.pointsTo_read_all (Pipeline.restRefsP sig Pipeline.Prefetch.none spec0) (fun b => (c.tc : Thread nD τ).loc b)
        (fun b => finish m c A (Proc.devRef .tc b)) s') $$ [HZ HSI]
      · isplitl [HZ] <;> iassumption
      icases HR with ⟨%hZ, HSI⟩
      imodintro
      isplitr
      · ipureintro; exact ⟨A, hA, hZ⟩
      · iexact HSI)
    (hQ := fun s hs hz => ⟨fun c => by
      obtain ⟨A, hA, hb⟩ := (hs c).2.2
      exact ⟨A, hA, fun b hm => hb b (Finset.mem_sdiff.mpr ⟨hm, fun e => (Finset.mem_image.mp e).elim fun k _ => k.elim0⟩)⟩, hz⟩)

end Cert.CodesIdeal.Hand
-- ==== Proof.CodesHost.lean ====
/-
  The program over words: what the host's lines around the call leave, and the blocks each grid point reads.
-/
module

public import proofs.«01_k».proof.Proof.CodesRun
public import proofs.«01_k».proof.Proof.Value
public import proofs.«01_k».proof.Proof.Gen.Pre_nonnegative
public import Idealize.ShloMosaic.Lib.Pointwise

@[expose] public section

set_option maxRecDepth 16384

noncomputable section

namespace Cert.CodesIdeal.Hand

open Cert.CodesIdeal Cert.CodesIdeal.Gen
open Cert.Kernel.Hand (num atBatch atBlock logitAt row_lt lane_lt)
open Idealize.ShloMosaic Idealize.ShloMosaic.TcCoe Idealize.ShloMosaic.Tactic Idealize.ShloMosaic.StableHlo
open Idealize.SL Idealize.SL.Sem

variable {F : FTy → Type} [FloatOps F] [∀ e, Nonempty (Elt F e)]

variable (m : (ℓ : Loc nD τ sig) → Buf (Elt F) ℓ)

/-- The words, the boxes and the sizes given. -/
abbrev given (c : Dev nD) : IVec S64x5000x80 32 := m ((c : Thread nD τ).loc main_arg0)
abbrev boxes (c : Dev nD) : FVec F S64x5000x4 .f32 := m ((c : Thread nD τ).loc main_arg1)
abbrev extents (c : Dev nD) : IVec S64x2 32 := m ((c : Thread nD τ).loc main_arg2)

/-- The padded words, in rows of 128. -/
def padded (a : IVec S64x5000x80 32) : IVec S64x3136x128 32 :=
  pad S64x3136x128 ![0, 0, 0] ![0, 11, 0] ![0, 0, 0] (shapeCast S64x3125x128 a shapeCasts_S64x5000x80_S64x3125x128)
    (constantI S_ 32 0#32) pads_S64x3125x128_S64x3136x128_000_0110_000 h_S_

/-- The boxes, a row of 5000 for each of the 4 coordinates, and 4 rows more. -/
def rows8 (a : FVec F S64x5000x4 .f32) : FVec F S64x8x5000 .f32 :=
  pad S64x8x5000 ![0, 0, 0] ![0, 4, 0] ![0, 0, 0] (transpose S64x4x5000 [0, 2, 1] a transposes_S64x5000x4_S64x4x5000_0_2_1)
    (sitofp .f32 (constantI S_ 32 0#32)) pads_S64x4x5000_S64x8x5000_000_040_000 h_S_

/-- The sizes, each over 128 lanes. -/
def lanes (a : IVec S64x2 32) : FVec F S64x8x128 .f32 :=
  broadcastInDim S64x8x128 ![0, 1, 2] bcast_S64x8x1_S64x8x128_0_1_2 (broadcastInDim S64x8x1 ![0, 1] bcast_S64x8_S64x8x1_0_1
    (pad S64x8 ![0, 0] ![0, 6] ![0, 0] (sitofp .f32 a) (sitofp .f32 (constantI S_ 32 0#32)) pads_S64x2_S64x8_000_060 h_S_))

theorem V_words (c : Dev nD) : V m c main_v1 = padded (given m c) := by
  simp only [V, V0, hostOps0, hostOps0_1, hostOps0_2, hostOps0_3, hostOps0_4, hostOps0_5, hostOps0_6, List.flatten_cons, List.flatten_nil,
    List.append_nil, List.cons_append, List.nil_append, TRef.binary, TRef.nullary, TRef.reshape, TRef.ternary, TRef.unary, TRef.toBuf, TRef.ofBuf, cast_eq]
  after_results_simp <;> (try dsimp only [Matrix.cons_val]) <;> (try after_results_simp) <;> rfl

theorem V_rows (c : Dev nD) : V m c main_v3 = rows8 (boxes m c) := by
  simp only [V, V0, hostOps0, hostOps0_1, hostOps0_2, hostOps0_3, hostOps0_4, hostOps0_5, hostOps0_6, List.flatten_cons, List.flatten_nil,
    List.append_nil, List.cons_append, List.nil_append, TRef.binary, TRef.nullary, TRef.reshape, TRef.ternary, TRef.unary, TRef.toBuf, TRef.ofBuf, cast_eq]
  after_results_simp <;> (try dsimp only [Matrix.cons_val]) <;> (try after_results_simp) <;> rfl

theorem V_lanes (c : Dev nD) : V m c main_v7 = lanes (F := F) (extents m c) := by
  simp only [V, V0, hostOps0, hostOps0_1, hostOps0_2, hostOps0_3, hostOps0_4, hostOps0_5, hostOps0_6, List.flatten_cons, List.flatten_nil,
    List.append_nil, List.cons_append, List.nil_append, TRef.binary, TRef.nullary, TRef.reshape, TRef.ternary, TRef.unary, TRef.toBuf, TRef.ofBuf, cast_eq]
  after_results_simp <;> (try dsimp only [Matrix.cons_val]) <;> (try after_results_simp) <;> rfl

/-! ## The blocks a point reads -/

theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])
theorem index3 : ∀ t : Fin cfg0.N, win0_3.index t = ![t.val, 0, 0] := (by decide +kernel : ∀ t : Fin grid0.N, win0_3.index t = ![t.val, 0, 0])
theorem index4 : ∀ t : Fin cfg0.N, win0_4.index t = ![t.val, 0, 0] := (by decide +kernel : ∀ t : Fin grid0.N, win0_4.index t = ![t.val, 0, 0])
theorem index5 : ∀ t : Fin cfg0.N, win0_5.index t = ![t.val, 0, 0] := (by decide +kernel : ∀ t : Fin grid0.N, win0_5.index t = ![t.val, 0, 0])

theorem points : cfg0.N = 64 := rfl

/-- The point's row of a batch, as a number below 64. -/
abbrev batch (t : Fin cfg0.N) : Fin 64 := t.cast points

theorem scores_apply (c : Dev nD) (t : Fin cfg0.N) (j : S3136x128.Idx) :
    scores m c t (atBlock j) = padded (given m c) (atBatch (batch t) j) := by
  have e : ((win0_0.blk t).view.emb (atBlock j) : S64x3136x128.Idx) = atBatch (batch t) j := by
    funext a
    apply Fin.ext
    match a with
    | ⟨0, _⟩ => blk_simp [index0]; simp [atBlock, atBatch]
    | ⟨1, _⟩ => blk_simp [index0]; simp [atBlock, atBatch]
    | ⟨2, _⟩ => blk_simp [index0]; simp [atBlock, atBatch]
  rw [← V_words]
  unfold scores
  blk_simp [iblk]
  rw [e]

/-- Coordinate `r` of box `q` of batch `b`, among the rows of 5000, and in a block of 8 of them. -/
abbrev coord (b : Fin 64) (r : Fin 8) (q : Fin 5000) : S64x8x5000.Idx := ix3 b r q
abbrev coord1 (r : Fin 8) (q : Fin 5000) : S1x8x5000.Idx := ix3 0 r q

theorem centers_apply (c : Dev nD) (t : Fin cfg0.N) (r : Fin 8) (q : Fin 5000) :
    centers m c t (coord1 r q) = rows8 (boxes m c) (coord (batch t) r q) := by
  have e : ((win0_1.blk t).view.emb (coord1 r q) : S64x8x5000.Idx) = coord (batch t) r q := by
    funext a
    apply Fin.ext
    match a with
    | ⟨0, _⟩ => blk_simp [index1]; simp [coord, coord1, ix3]
    | ⟨1, _⟩ => blk_simp [index1]; simp [coord, coord1, ix3]
    | ⟨2, _⟩ => blk_simp [index1]; simp [coord, coord1, ix3]
  rw [← V_rows]
  unfold centers
  blk_simp [iblk]
  rw [e]

theorem sizes_apply (c : Dev nD) (t : Fin cfg0.N) (r : Fin 8) (l : Fin 128) :
    sizes m c t (ix3 0 r l : S1x8x128.Idx) = lanes (F := F) (extents m c) (ix3 (batch t) r l : S64x8x128.Idx) := by
  have e : ((win0_2.blk t).view.emb (ix3 0 r l : S1x8x128.Idx) : S64x8x128.Idx) = (ix3 (batch t) r l : S64x8x128.Idx) := by
    funext a
    apply Fin.ext
    match a with
    | ⟨0, _⟩ => blk_simp [index2]; simp [ix3]
    | ⟨1, _⟩ => blk_simp [index2]
    | ⟨2, _⟩ => blk_simp [index2]
  rw [← V_lanes]
  unfold sizes
  blk_simp [iblk]
  rw [e]

theorem words_apply (x : Vec F S1x3136x128 .i32) (j : S3136x128.Idx) : words x j = x (atBlock j) := by
  have e : shapeCast S3136x128 x shapeCasts_S1x3136x128_S3136x128 j = x (atBlock j) := by
    refine shapeCast_apply x _ j (atBlock j) ?_
    rw [Shape.rowMajor_val_three, Shape.rowMajor_val_two]
    simp [atBlock]
  rw [← e]
  rfl

theorem padded_data (a : IVec S64x5000x80 32) (b : Fin 64) (j : S3136x128.Idx) (h : num j < 400000) :
    padded a (atBatch b j) = a (logitAt b (num j) h) := by
  have h1 := lane_lt j
  have h0 := row_lt j
  have hb := b.isLt
  have hr : (j 0).val < 3125 := by unfold num at h; omega
  unfold padded pad
  rw [dif_pos (by
    intro a
    match a with
    | ⟨0, _⟩ => exact ⟨Nat.zero_le _, Nat.mod_one _, by show (b.val - 0) / 1 < 64; omega⟩
    | ⟨1, _⟩ => exact ⟨Nat.zero_le _, Nat.mod_one _, by show ((j 0).val - 0) / 1 < 3125; omega⟩
    | ⟨2, _⟩ => exact ⟨Nat.zero_le _, Nat.mod_one _, by show ((j 1).val - 0) / 1 < 128; omega⟩)]
  refine shapeCast_apply a _ _ (logitAt b (num j) h) ?_
  rw [Shape.rowMajor_val_three, Shape.rowMajor_val_three]
  show (b.val * 5000 + num j / 80) * 80 + num j % 80 = ((b.val - 0) / 1 * 3125 + ((j 0).val - 0) / 1) * 128 + ((j 1).val - 0) / 1
  unfold num
  omega

theorem padded_pad (a : IVec S64x5000x80 32) (b : Fin 64) (j : S3136x128.Idx) (h : 400000 ≤ num j) :
    padded a (atBatch b j) = 0#32 := by
  have h1 := lane_lt j
  unfold padded pad
  rw [dif_neg (by
    intro g
    have := (g 1).2.2
    change ((j 0).val - 0) / 1 < 3125 at this
    unfold num at h
    omega)]
  rfl

theorem words_data (c : Dev nD) (t : Fin cfg0.N) (j : S3136x128.Idx) (h : num j < 400000) :
    words (scores m c t) j = given m c (logitAt (batch t) (num j) h) := by
  rw [words_apply, scores_apply, padded_data _ _ _ h]

theorem words_pad (c : Dev nD) (t : Fin cfg0.N) (j : S3136x128.Idx) (h : 400000 ≤ num j) :
    words (scores m c t) j = 0#32 := by
  rw [words_apply, scores_apply, padded_pad _ _ _ h]

/-- Every word given is nonnegative. -/
def Nonnegative : Prop := ∀ (c : Dev nD) (i : S64x5000x80.Idx), 0 ≤ (given m c i).toInt

theorem nonnegative_of (h : ∀ c : Dev nD, Cert.Pre_nonnegative.fn (F := F) (given m c) (boxes m c) (extents m c) (m ((c : Thread nD τ).loc main_arg3)) = fun _ => 1#1) :
    Nonnegative m := fun c i => by
  have e1 : IntOp.cmpi .sge (given m c i) 0#32 = 1#1 := congrFun (h c) i
  rw [Cert.Words.sge_iff] at e1
  exact e1

variable (hpre : Nonnegative m)

include hpre in
theorem plain : Plain m := by
  intro c t j
  rcases Nat.lt_or_ge (num j) 400000 with h | h
  · rw [words_data m c t j h]; exact hpre c _
  · rw [words_pad m c t j h]; decide

include hpre in
theorem pads_last (c : Dev nD) (t : Fin cfg0.N) (a b : S3136x128.Idx) (ha : num a < 400000) (hb : 400000 ≤ num b) :
    (words (scores m c t) b).toInt ≤ (words (scores m c t) a).toInt := by
  rw [words_data m c t a ha, words_pad m c t b hb]
  exact hpre c _

end Cert.CodesIdeal.Hand

end
-- ==== Proof.CodesBoxes.lean ====
/-
  The boxes a grid point stores, at an entry: a product with a one-hot matrix picks a column.
-/
module

public import proofs.«01_k».proof.Proof.CodesHost
public import Idealize.ShloMosaic.Lib.KernelVsHost

@[expose] public section

set_option maxRecDepth 16384

noncomputable section

namespace Cert.CodesIdeal.Hand

open Cert.CodesIdeal Cert.CodesIdeal.Gen
open Idealize.ShloMosaic Idealize.ShloMosaic.TcCoe Idealize.ShloMosaic.Tactic

/-- A corner coordinate of a box of center `(cx, cy)`, width `bw` and height `bh` (parts of 1), in an image `w` wide and `h` high. -/
def corner (r : Fin 4) (cx cy bw bh w h : Ideal .f32) : Ideal .f32 :=
  match r with
  | 0 => (cx - Ideal.ofBits .f32 0x3F000000#32 * bw) * w
  | 1 => (cy - Ideal.ofBits .f32 0x3F000000#32 * bh) * h
  | 2 => (cx + Ideal.ofBits .f32 0x3F000000#32 * bw) * w
  | 3 => (cy + Ideal.ofBits .f32 0x3F000000#32 * bh) * h

theorem product_apply (lhs : FVec Ideal S8x5000 .f32) (rhs : FVec Ideal S5000x512 .f32) (r : Fin 8) (s : Fin 512) :
    matmul dot_S8x5000_S5000x512_S8x512_1_0_0_1_n_n none lhs rhs (constant S8x512 .f32 0x00000000#32) (ix2 r s)
      = ∑ k : Fin 5000, lhs (ix2 r k) * rhs (ix2 k s) := by
  pointwise

/-- The one-hot matrix of a row of numbers. -/
abbrev oneHot (q : IVec S1x512 32) : FVec Ideal S5000x512 .f32 :=
  sitofp .f32 (extui 32 (cmpi .eq (iota .tc S5000x512 32 [0] iota_S5000x512_d0_w32) (broadcastTo S5000x512 q broadcasts_S1x512_S5000x512)) natLt_1_32)

theorem oneHot_apply (q : IVec S1x512 32) (s : Fin 512) (n : Fin 5000) (hq : q (ix2 0 s) = BitVec.ofNat 32 n.val) (k : Fin 5000) :
    oneHot q (ix2 k s) = if k = n then 1 else 0 := by
  have e : oneHot q (ix2 k s) = ((((IntOp.cmpi .eq (BitVec.ofNat 32 k.val) (q (ix2 0 s))).setWidth 32).toInt : ℝ) : EReal) := by
    pointwise
    rfl
  rw [e, hq]
  by_cases h : k = n
  · subst h
    have : IntOp.cmpi .eq (BitVec.ofNat 32 k.val) (BitVec.ofNat 32 k.val) = 1#1 := by simp [IntOp.cmpi]
    rw [this, if_pos rfl]
    simp
  · have hne : BitVec.ofNat 32 k.val ≠ BitVec.ofNat 32 n.val := fun h' => h (Fin.ext (by
      have := congrArg BitVec.toNat h'
      simp only [BitVec.toNat_ofNat] at this
      have := k.isLt; have := n.isLt
      omega))
    have : IntOp.cmpi .eq (BitVec.ofNat 32 k.val) (BitVec.ofNat 32 n.val) = 0#1 := by
      unfold IntOp.cmpi
      show BitVec.ofBool (BitVec.ofNat 32 k.val == BitVec.ofNat 32 n.val) = 0#1
      rw [beq_eq_false_iff_ne.mpr hne]
      rfl
    rw [this, if_neg h]
    simp

theorem picked_column (lhs : FVec Ideal S8x5000 .f32) (q : IVec S1x512 32) (r : Fin 8) (s : Fin 512) (n : Fin 5000) (hq : q (ix2 0 s) = BitVec.ofNat 32 n.val) :
    matmul dot_S8x5000_S5000x512_S8x512_1_0_0_1_n_n none lhs (oneHot q) (constant S8x512 .f32 0x00000000#32) (ix2 r s) = lhs (ix2 r n) := by
  rw [product_apply]
  simp only [oneHot_apply q s n hq]
  rw [Finset.sum_eq_single n (fun k _ hk => by rw [if_neg hk, mul_zero]) (fun h => absurd (Finset.mem_univ n) h), if_pos rfl, mul_one]

/-- Four rows and four more, one under the other. -/
theorem stacked_apply (v0 v1 v2 v3 : FVec Ideal S1x5000 .f32) (z : FVec Ideal S4x5000 .f32) (r : Fin 4) (n : Fin 5000) :
    concatenate S8x5000 0 [⟨S1x5000, v0⟩, ⟨S1x5000, v1⟩, ⟨S1x5000, v2⟩, ⟨S1x5000, v3⟩, ⟨S4x5000, z⟩]
      concatenates_S1x5000_S1x5000_S1x5000_S1x5000_S4x5000_S8x5000_d0 (ix2 (r.castLE (by decide) : Fin 8) n)
      = (match r with | 0 => v0 | 1 => v1 | 2 => v2 | 3 => v3 : FVec Ideal S1x5000 .f32) (ix2 0 n) := by
  match r with
  | 0 =>
    show concatenate S8x5000 0 [⟨S1x5000, v0⟩, ⟨S1x5000, v1⟩, ⟨S1x5000, v2⟩, ⟨S1x5000, v3⟩, ⟨S4x5000, z⟩] concatenates_S1x5000_S1x5000_S1x5000_S1x5000_S4x5000_S8x5000_d0 (ix2 (0 : Fin 8) n) = v0 (ix2 0 n)
    pointwise
  | 1 =>
    show concatenate S8x5000 0 [⟨S1x5000, v0⟩, ⟨S1x5000, v1⟩, ⟨S1x5000, v2⟩, ⟨S1x5000, v3⟩, ⟨S4x5000, z⟩] concatenates_S1x5000_S1x5000_S1x5000_S1x5000_S4x5000_S8x5000_d0 (ix2 (1 : Fin 8) n) = v1 (ix2 0 n)
    pointwise
  | 2 =>
    show concatenate S8x5000 0 [⟨S1x5000, v0⟩, ⟨S1x5000, v1⟩, ⟨S1x5000, v2⟩, ⟨S1x5000, v3⟩, ⟨S4x5000, z⟩] concatenates_S1x5000_S1x5000_S1x5000_S1x5000_S4x5000_S8x5000_d0 (ix2 (2 : Fin 8) n) = v2 (ix2 0 n)
    pointwise
  | 3 =>
    show concatenate S8x5000 0 [⟨S1x5000, v0⟩, ⟨S1x5000, v1⟩, ⟨S1x5000, v2⟩, ⟨S1x5000, v3⟩, ⟨S4x5000, z⟩] concatenates_S1x5000_S1x5000_S1x5000_S1x5000_S4x5000_S8x5000_d0 (ix2 (3 : Fin 8) n) = v3 (ix2 0 n)
    pointwise

/-- A row of coordinates at a box. -/
theorem row_apply (x2 : Vec Ideal S1x8x5000 .f32) (n : Fin 5000) :
    k0_pay38 x2 (ix2 0 n) = x2 (coord1 0 n) ∧ k0_pay39 x2 (ix2 0 n) = x2 (coord1 1 n)
      ∧ k0_pay40 x2 (ix2 0 n) = x2 (coord1 2 n) ∧ k0_pay41 x2 (ix2 0 n) = x2 (coord1 3 n) := by
  unfold k0_pay38 k0_pay39 k0_pay40 k0_pay41 k0_pay35
  refine ⟨?_, ?_, ?_, ?_⟩ <;> pointwise

/-- The rows of corners of all the boxes. -/
abbrev cornerRows (x2 : Vec Ideal S1x8x5000 .f32) (w h : Ideal .f32) : FVec Ideal S8x5000 .f32 :=
  concatenate S8x5000 0 [
    ⟨S1x5000, mulf (subf (k0_pay38 x2) (mulf (broadcast S1x5000 (Scalar.ofBits .f32 0x3F000000#32)) (k0_pay40 x2))) (broadcast S1x5000 w)⟩,
    ⟨S1x5000, mulf (subf (k0_pay39 x2) (mulf (broadcast S1x5000 (Scalar.ofBits .f32 0x3F000000#32)) (k0_pay41 x2))) (broadcast S1x5000 h)⟩,
    ⟨S1x5000, mulf (addf (k0_pay38 x2) (mulf (broadcast S1x5000 (Scalar.ofBits .f32 0x3F000000#32)) (k0_pay40 x2))) (broadcast S1x5000 w)⟩,
    ⟨S1x5000, mulf (addf (k0_pay39 x2) (mulf (broadcast S1x5000 (Scalar.ofBits .f32 0x3F000000#32)) (k0_pay41 x2))) (broadcast S1x5000 h)⟩,
    ⟨S4x5000, broadcast S4x5000 (Scalar.ofBits .f32 0x00000000#32)⟩] concatenates_S1x5000_S1x5000_S1x5000_S1x5000_S4x5000_S8x5000_d0

theorem cornerRows_apply (x2 : Vec Ideal S1x8x5000 .f32) (w h : Ideal .f32) (r : Fin 4) (n : Fin 5000) :
    cornerRows x2 w h (ix2 (r.castLE (by decide) : Fin 8) n) = corner r (x2 (coord1 0 n)) (x2 (coord1 1 n)) (x2 (coord1 2 n)) (x2 (coord1 3 n)) w h := by
  obtain ⟨e0, e1, e2, e3⟩ := row_apply x2 n
  rw [← e0, ← e1, ← e2, ← e3]
  unfold cornerRows
  rw [stacked_apply]
  match r with
  | 0 => rfl
  | 1 => rfl
  | 2 => rfl
  | 3 => rfl

theorem size0_first (x3 : Vec Ideal S1x8x128 .f32) : k0_pay36 (size0 x3) = x3 (ix3 0 0 0 : S1x8x128.Idx) := by
  unfold k0_pay36 size0 extractAt
  dsimp only
  congr 1
  funext a
  apply Fin.ext
  match a with
  | ⟨0, _⟩ => rfl
  | ⟨1, _⟩ => rfl
  | ⟨2, _⟩ => rfl

theorem size1_first (x3 : Vec Ideal S1x8x128 .f32) : k0_pay37 (size1 x3) = x3 (ix3 0 1 0 : S1x8x128.Idx) := by
  unfold k0_pay37 size1 extractAt
  dsimp only
  congr 1
  funext a
  apply Fin.ext
  match a with
  | ⟨0, _⟩ => rfl
  | ⟨1, _⟩ => rfl
  | ⟨2, _⟩ => rfl

theorem boxRows_apply (x2 : Vec Ideal S1x8x5000 .f32) (x3 : Vec Ideal S1x8x128 .f32) (fv : IVec S1x512 32) (r : Fin 4) (s : Fin 512) (n : Fin 5000)
    (hq : quotients fv (ix2 0 s) = BitVec.ofNat 32 n.val) :
    boxRows x2 x3 fv (ix3 0 (r.castLE (by decide) : Fin 8) s : S1x8x512.Idx)
      = corner r (x2 (coord1 0 n)) (x2 (coord1 1 n)) (x2 (coord1 2 n)) (x2 (coord1 3 n)) (x3 (ix3 0 0 0 : S1x8x128.Idx)) (x3 (ix3 0 1 0 : S1x8x128.Idx)) := by
  have e : boxRows x2 x3 fv = shapeCast S1x8x512 (matmul dot_S8x5000_S5000x512_S8x512_1_0_0_1_n_n none
      (cornerRows x2 (k0_pay36 (size0 x3)) (k0_pay37 (size1 x3))) (oneHot (quotients fv)) (constant S8x512 .f32 0x00000000#32)) shapeCasts_S8x512_S1x8x512 := by
    unfold boxRows k0_pay1 k0_pay42 k0_pay43
    rfl
  rw [e, ← cornerRows_apply, ← size0_first x3, ← size1_first x3]
  refine (shapeCast_apply _ _ _ (ix2 (r.castLE (by decide) : Fin 8) s) ?_).trans (picked_column _ _ _ s n hq)
  rw [Shape.rowMajor_val_three, Shape.rowMajor_val_two]
  simp

/-! ## The blocks' entries, by the arguments -/

theorem rows8_apply (a : FVec Ideal S64x5000x4 .f32) (b : Fin 64) (r : Fin 4) (n : Fin 5000) :
    rows8 a (coord b (r.castLE (by decide) : Fin 8) n) = a (ix3 b n r : S64x5000x4.Idx) := by
  unfold rows8
  rw [pad_apply_of_inside _ _ _ _ _ _ _ _ (ix3 b r n : S64x4x5000.Idx) (fun g => by
    match g with
    | ⟨0, _⟩ => simp
    | ⟨1, _⟩ => simp
    | ⟨2, _⟩ => simp)]
  pointwise

theorem lanes_apply (a : IVec S64x2 32) (b : Fin 64) (r : Fin 2) :
    lanes (F := Ideal) a (ix3 b (r.castLE (by decide) : Fin 8) 0 : S64x8x128.Idx) = (((a (ix2 b r : S64x2.Idx)).toInt : ℝ) : EReal) := by
  unfold lanes
  have e : (broadcastInDim S64x8x128 ![0, 1, 2] bcast_S64x8x1_S64x8x128_0_1_2 (broadcastInDim S64x8x1 ![0, 1] bcast_S64x8_S64x8x1_0_1
    (pad S64x8 ![0, 0] ![0, 6] ![0, 0] (sitofp (F := Ideal) .f32 a) (sitofp .f32 (constantI S_ 32 0#32)) pads_S64x2_S64x8_000_060 h_S_)))
      (ix3 b (r.castLE (by decide) : Fin 8) 0 : S64x8x128.Idx)
      = pad S64x8 ![0, 0] ![0, 6] ![0, 0] (sitofp (F := Ideal) .f32 a) (sitofp .f32 (constantI S_ 32 0#32)) pads_S64x2_S64x8_000_060 h_S_ (ix2 b (r.castLE (by decide) : Fin 8)) := by
    generalize pad S64x8 ![0, 0] ![0, 6] ![0, 0] (sitofp (F := Ideal) .f32 a) (sitofp .f32 (constantI S_ 32 0#32)) pads_S64x2_S64x8_000_060 h_S_ = y
    pointwise
  rw [e, pad_apply_of_inside _ _ _ _ _ _ _ _ (ix2 b r : S64x2.Idx) (fun g => by
    match g with
    | ⟨0, _⟩ => simp
    | ⟨1, _⟩ => simp)]
  rfl

/-- Corner `r` of box `n` of batch `b`. -/
def cornerOf (a1 : FVec Ideal S64x5000x4 .f32) (a2 : IVec S64x2 32) (b : Fin 64) (r : Fin 4) (n : Fin 5000) : Ideal .f32 :=
  corner r (a1 (ix3 b n 0 : S64x5000x4.Idx)) (a1 (ix3 b n 1 : S64x5000x4.Idx)) (a1 (ix3 b n 2 : S64x5000x4.Idx)) (a1 (ix3 b n 3 : S64x5000x4.Idx))
    (((a2 (ix2 b 0 : S64x2.Idx)).toInt : ℝ) : EReal) (((a2 (ix2 b 1 : S64x2.Idx)).toInt : ℝ) : EReal)

variable (m : (ℓ : Loc nD τ sig) → Buf (Elt Ideal) ℓ)

theorem stored_corner (c : Dev nD) (t : Fin cfg0.N) (fv : IVec S1x512 32) (r : Fin 4) (s : Fin 512) (n : Fin 5000)
    (hq : quotients fv (ix2 0 s) = BitVec.ofNat 32 n.val) :
    boxRows (centers m c t) (sizes m c t) fv (ix3 0 (r.castLE (by decide) : Fin 8) s : S1x8x512.Idx)
      = cornerOf (boxes m c) (extents m c) (batch t) r n := by
  rw [boxRows_apply _ _ _ _ _ n hq]
  simp only [centers_apply, sizes_apply]
  unfold cornerOf
  congr 1
  · exact rows8_apply _ _ 0 n
  · exact rows8_apply _ _ 1 n
  · exact rows8_apply _ _ 2 n
  · exact rows8_apply _ _ 3 n
  · exact lanes_apply _ _ 0
  · exact lanes_apply _ _ 1

end Cert.CodesIdeal.Hand

end
-- ==== Proof.CodesOrder.lean ====
/-
  The host's top-k of an array of words at an index, and the quotient by 80 of a small number.
-/
module

public import proofs.«01_k».proof.Proof.Labels

@[expose] public section

set_option maxRecDepth 16384

noncomputable section

namespace Cert.Order

open Idealize.ShloMosaic

variable {α : Type} (gt : α → α → BitVec 1)

/-- The relation the host sorts row `b` by. -/
abbrev relBy (x : (⟨2, ![64, 400000]⟩ : Shape).Idx → α) (b : Fin 64) (k k' : Fin 400000) : Bool :=
  gt (x (cell b k)) (x (cell b k')) == 1#1

/-- The position sorted to `J`'s column, through the row of `J`. -/
abbrev sourceBy (x : (⟨2, ![64, 400000]⟩ : Shape).Idx → α) (J : (⟨2, ![64, 400000]⟩ : Shape).Idx) : Fin 400000 :=
  sortedFrom (fun k k' => gt (x (Shape.Idx.along J (1 : Fin 2) k)) (x (Shape.Idx.along J (1 : Fin 2) k')) == 1#1) (J 1)

theorem sourceBy_cell (x : (⟨2, ![64, 400000]⟩ : Shape).Idx → α) (b : Fin 64) (q : Fin 400000) :
    sourceBy gt x (cell b q) = sortedFrom (relBy gt x b) q := by
  unfold sourceBy
  simp only [along_cell]

/-- The position of the result's entry `j` in its row of the operand. -/
def fromBy (x : (⟨2, ![64, 400000]⟩ : Shape).Idx → α) (j : (⟨2, ![64, 300]⟩ : Shape).Idx) : Fin 400000 :=
  sortedFrom (relBy gt x (row j)) ((col j).castLE (by decide))

theorem sortedBy_value (x : (⟨2, ![64, 400000]⟩ : Shape).Idx → α) (J : (⟨2, ![64, 400000]⟩ : Shape).Idx) (b : Fin 64) (q : Fin 400000)
    (h : J = cell b q) : x (Shape.Idx.along J (1 : Fin 2) (sourceBy gt x J)) = x (cell b (sortedFrom (relBy gt x b) q)) := by
  subst h
  rw [sourceBy_cell, along_cell]

theorem sortedBy_index (x : (⟨2, ![64, 400000]⟩ : Shape).Idx → α) (J : (⟨2, ![64, 400000]⟩ : Shape).Idx) (b : Fin 64) (q : Fin 400000)
    (h : J = cell b q) : (Shape.Idx.along J (1 : Fin 2) (sourceBy gt x J) (1 : Fin 2)).val = (sortedFrom (relBy gt x b) q).val := by
  subst h
  rw [sourceBy_cell, along_cell]

theorem topBy_values (x : (⟨2, ![64, 400000]⟩ : Shape).Idx → α) (h) (j : (⟨2, ![64, 300]⟩ : Shape).Idx) :
    (Host.topK ⟨2, ![64, 300]⟩ 1 gt x h).1 j = x (cell (row j) (fromBy gt x j)) :=
  sortedBy_value gt x _ _ _ (slice_cell j _ fun a => rfl)

theorem topBy_indices (x : (⟨2, ![64, 400000]⟩ : Shape).Idx → α) (h) (j : (⟨2, ![64, 300]⟩ : Shape).Idx) :
    (Host.topK ⟨2, ![64, 300]⟩ 1 gt x h).2 j = BitVec.ofNat 32 (fromBy gt x j).val :=
  congrArg (BitVec.ofNat 32) (sortedBy_index gt x _ _ _ (slice_cell j _ fun a => rfl))

/-- On words the host's order is the order of the readings. -/
theorem relBy_eq (x : (⟨2, ![64, 400000]⟩ : Shape).Idx → BitVec 32) (b : Fin 64) (w : Fin 400000 → BitVec 32)
    (hw : ∀ k, x (cell b k) = w k) (k k' : Fin 400000) :
    relBy (IntOp.cmpi .sgt) x b k k' = decide ((w k').toInt < (w k).toInt) := by
  unfold relBy
  rw [hw, hw, Bool.eq_iff_iff, beq_iff_eq, Cert.Words.sgt_iff, decide_eq_true_eq]

end Cert.Order

namespace Cert.Kernel.Hand

open Idealize.ShloMosaic

theorem toInt_small (n : ℕ) (h : n < 400000) : (BitVec.ofNat 32 n).toInt = (n : ℤ) := by
  rw [BitVec.toInt_ofNat']
  rw [Int.bmod_def]
  split <;> omega

/-- The quotient by 80 of the word of a flat number. -/
theorem refQuot_small (n : ℕ) (h : n < 400000) : refQuot (BitVec.ofNat 32 n) = BitVec.ofNat 32 (n / 80) := by
  unfold refQuot
  apply BitVec.eq_of_toInt_eq
  rw [sign_eq (BitVec.ofNat 32 n)]
  refine (Cert.Words.floor_div .host (BitVec.ofNat 32 n) 80#32 (by decide) (sign1 80#32) (by decide)).trans ?_
  rw [toInt_small n h, toInt_small (n / 80) (by omega)]
  rfl

end Cert.Kernel.Hand

end
-- ==== Proof.CodesValue.lean ====
/-
  The program over words: what its three output arrays hold, as the first 300 entries of the sort of each batch's words.
-/
module

public import proofs.«01_k».proof.Proof.CodesBoxes
public import proofs.«01_k».proof.Proof.CodesOrder
public import proofs.«01_k».proof.Proof.Gen.CodesReferenceIdeal.Run

@[expose] public section

set_option maxRecDepth 16384

noncomputable section

namespace Cert.CodesIdeal.Hand

open Cert.CodesIdeal Cert.CodesIdeal.Gen
open Cert.Kernel.Hand (cnt selected Picked row0 num place num_place num_inj num_lt slot inRow inRow_cast refLabel refQuot sign1 sign_eq refQuot_small logitAt)
open Idealize.ShloMosaic Idealize.ShloMosaic.TcCoe Idealize.ShloMosaic.Tactic

theorem quotients_eq (fv : IVec S1x512 32) (j : S1x512.Idx) : quotients fv j = refQuot (fv j) := by
  generalize hw : fv j = w
  have e : quotients fv j
      = Scalar.select (IntOp.andi
        (IntOp.cmpi .ne ((IntOp.cmpi .sgt w 0#32).setWidth 32 - (IntOp.cmpi .slt w 0#32).setWidth 32)
          ((IntOp.cmpi .sgt (80#32 : BitVec 32) 0#32).setWidth 32 - (IntOp.cmpi .slt (80#32 : BitVec 32) 0#32).setWidth 32))
        (IntOp.cmpi .ne (IntOp.remsi .vector w 80#32) 0#32))
      (IntOp.divsi .vector w 80#32 - 1#32) (IntOp.divsi .vector w 80#32) := by
    rw [← hw]; rfl
  unfold refQuot
  rw [e]
  apply BitVec.eq_of_toInt_eq
  rw [Cert.Words.floor_div .vector w 80#32 (by decide) _ (by decide), sign_eq w]
  exact (Cert.Words.floor_div .host w 80#32 (by decide) _ (by decide)).symm

variable (m : (ℓ : Loc nD τ sig) → Buf (Elt Ideal) ℓ)

/-- The words of each batch in a row. -/
abbrev flatWords (c : Dev nD) : IVec Cert.CodesReferenceIdeal.S64x400000 32 :=
  shapeCast Cert.CodesReferenceIdeal.S64x400000 (given m c) Cert.CodesReferenceIdeal.Gen.shapeCasts_S64x5000x80_S64x400000

theorem flatWords_cell (c : Dev nD) (b : Fin 64) (k : Fin 400000) : flatWords m c (Cert.Order.cell b k) = given m c (logitAt b k.val k.isLt) :=
  shapeCast_apply _ _ (Cert.Order.cell b k) (logitAt b k.val k.isLt) (by
    rw [Shape.rowMajor_val_three, Shape.rowMajor_val_two]
    show (b.val * 5000 + k.val / 80) * 80 + k.val % 80 = b.val * 400000 + k.val
    omega)

/-- The flat number of the `k`-th word of batch `b`. -/
def best (c : Dev nD) (b : Fin 64) (k : Fin 300) : Fin 400000 :=
  sortedFrom (Cert.Order.relBy (IntOp.cmpi .sgt) (flatWords m c) b) (k.castLE (by decide))

/-- The box of that word. -/
def bestBox (c : Dev nD) (b : Fin 64) (k : Fin 300) : Fin 5000 := ⟨(best m c b k).val / 80, by have := (best m c b k).isLt; omega⟩

theorem flat_word (c : Dev nD) (t : Fin cfg0.N) (k : Fin 400000) :
    flatWords m c (Cert.Order.cell (batch t) k) = words (scores m c t) (place k.val (by omega)) := by
  have h : num (place k.val (by omega)) = k.val := num_place _ _
  rw [flatWords_cell, words_data m c t _ (by rw [h]; exact k.isLt), Cert.Kernel.Hand.logitAt_congr (batch t) _ _ (by rw [h]; exact k.isLt) k.isLt h]

/-- A place of a row of a block. -/
abbrev lane (k : Fin 300) : S1x1x512.Idx := ix3 0 0 (k.castLE (by decide))

theorem lane_row0 (k : Fin 300) : row0 (lane k) = (ix3 0 0 (k.castLE (by decide)) : S1x8x512.Idx) := by
  funext a
  match a with
  | ⟨0, _⟩ => rfl
  | ⟨1, _⟩ => rfl
  | ⟨2, _⟩ => rfl

theorem lane_inRow (k : Fin 300) : inRow (lane k) = (ix2 0 (k.castLE (by decide)) : S1x512.Idx) := by
  funext a
  match a with
  | ⟨0, _⟩ => rfl
  | ⟨1, _⟩ => rfl

variable (hpre : Nonnegative m)

include hpre in
theorem out_values (c : Dev nD) (t : Fin cfg0.N) (d4 d5 : S1x8x512.Idx → BitVec 32) (d6 : S1x8x512.Idx → Elt Ideal .f32)
    (hO : OutAt m c t d4 d5 d6) (k : Fin 300) :
    d4 (row0 (lane k)) = flatWords m c (Cert.Order.cell (batch t) (best m c (batch t) k))
      ∧ d5 (row0 (lane k)) = refLabel (BitVec.ofNat 32 (best m c (batch t) k).val)
      ∧ ∀ r : Fin 4, d6 (ix3 0 (r.castLE (by decide) : Fin 8) (k.castLE (by decide) : Fin 512) : S1x8x512.Idx)
          = cornerOf (boxes m c) (extents m c) (batch t) r (bestBox m c (batch t) k) := by
  obtain ⟨tb, istar, sv, fv, hcnt, hP, h4, h5, h6⟩ := hO
  have hs := plain m hpre c t
  have hslot : slot (inRow (lane k)) = k.val := rfl
  have hb : (best m c (batch t) k).val = num (Cert.Order.picked (words (scores m c t)) tb istar k) :=
    Cert.Order.sorted_picked (words (scores m c t)) hs tb istar hcnt (pads_last m hpre c t) _
      (fun a b => Cert.Order.relBy_eq _ _ (fun k => words (scores m c t) (place k.val (by omega))) (flat_word m c t) a b) k
  have hsel := (Cert.Select.pick_sel num _ hs (selected (words (scores m c t)) tb istar) 300 hcnt k.val k.isLt).2.1
  obtain ⟨p1, p2⟩ := hP (inRow (lane k)) (by rw [hslot]; exact k.isLt)
  rw [hslot] at p1 p2
  refine ⟨?_, ?_, fun r => ?_⟩
  · rw [h4, flat_word]
    have e : sv (inRow (lane k)) = words (scores m c t) (place (best m c (batch t) k).val (by omega)) := by
      apply BitVec.eq_of_toInt_eq
      rw [p1]
      refine hsel.trans ?_
      have : place (best m c (batch t) k).val (by omega) = Cert.Order.picked (words (scores m c t)) tb istar k := by
        apply num_inj; rw [num_place, hb]
      rw [this]
    rw [← e]
    unfold k0_pay30
    exact inRow_cast _ _
  · rw [h5, hb, ← p2]
    exact Cert.Kernel.Hand.label_eq fv (lane k)
  · rw [h6]
    refine stored_corner m c t fv r _ (bestBox m c (batch t) k) ?_
    rw [quotients_eq, ← lane_inRow, p2]
    refine (refQuot_small _ ?_).trans ?_
    · rw [← hb]; exact (best m c (batch t) k).isLt
    · show _ = BitVec.ofNat 32 ((best m c (batch t) k).val / 80)
      rw [hb]

/-! ## The arrays -/

theorem covers3 : (cfg0.win 3).Covers := by decide +kernel
theorem covers4 : (cfg0.win 4).Covers := by decide +kernel
theorem covers5 : (cfg0.win 5).Covers := by decide +kernel

/-- Row `r`, column `k` of batch `b` of an output array. -/
abbrev spot (b : Fin 64) (r : Fin 8) (k : Fin 300) : S64x8x512.Idx := ix3 b r (k.castLE (by decide))

/-- What the three output arrays hold where it matters. -/
def ScoreAt (c : Dev nD) (i : S64x8x512.Idx) (v : Elt Ideal .i32) : Prop :=
  ∀ (b : Fin 64) (k : Fin 300), i = spot b 0 k → v = flatWords m c (Cert.Order.cell b (best m c b k))
def LabelAt (c : Dev nD) (i : S64x8x512.Idx) (v : Elt Ideal .i32) : Prop :=
  ∀ (b : Fin 64) (k : Fin 300), i = spot b 0 k → v = refLabel (BitVec.ofNat 32 (best m c b k).val)
def BoxAt (c : Dev nD) (i : S64x8x512.Idx) (v : Elt Ideal .f32) : Prop :=
  ∀ (b : Fin 64) (r : Fin 4) (k : Fin 300), i = spot b (r.castLE (by decide)) k → v = cornerOf (boxes m c) (extents m c) b r (bestBox m c b k)

/-- The place of a block of 8 rows that goes to a spot. -/
theorem block_spot (t : Fin cfg0.N) (y : S1x8x512.Idx) (i : S64x8x512.Idx) (hi : ∀ a, (i a).val = (![t.val, 0, 0] : Fin 3 → ℕ) a * S1x8x512.size a + (y a).val)
    (b : Fin 64) (r : Fin 8) (k : Fin 300) (h : i = spot b r k) : batch t = b ∧ y = ix3 0 r (k.castLE (by decide)) := by
  subst h
  have h0 := hi 0
  have h1 := hi 1
  have h2 := hi 2
  have l0 : (y 0).val < 1 := (y 0).isLt
  change b.val = t.val * 1 + (y 0).val at h0
  change r.val = 0 * 8 + (y 1).val at h1
  change k.val = 0 * 512 + (y 2).val at h2
  refine ⟨Fin.ext (by show t.val = b.val; omega), ?_⟩
  funext a
  apply Fin.ext
  match a with
  | ⟨0, _⟩ => show (y 0).val = 0; omega
  | ⟨1, _⟩ => show (y 1).val = r.val; omega
  | ⟨2, _⟩ => show (y 2).val = k.val; omega

theorem place3 (t : Fin cfg0.N) (y : S1x8x512.Idx) (a : Fin 3) :
    (((win0_3.blk t).view.emb y : S64x8x512.Idx) a).val = (![t.val, 0, 0] : Fin 3 → ℕ) a * S1x8x512.size a + (y a).val := by
  match a with
  | ⟨0, _⟩ => blk_simp [index3]
  | ⟨1, _⟩ => blk_simp [index3]
  | ⟨2, _⟩ => blk_simp [index3]

theorem place4 (t : Fin cfg0.N) (y : S1x8x512.Idx) (a : Fin 3) :
    (((win0_4.blk t).view.emb y : S64x8x512.Idx) a).val = (![t.val, 0, 0] : Fin 3 → ℕ) a * S1x8x512.size a + (y a).val := by
  match a with
  | ⟨0, _⟩ => blk_simp [index4]
  | ⟨1, _⟩ => blk_simp [index4]
  | ⟨2, _⟩ => blk_simp [index4]

theorem place5 (t : Fin cfg0.N) (y : S1x8x512.Idx) (a : Fin 3) :
    (((win0_5.blk t).view.emb y : S64x8x512.Idx) a).val = (![t.val, 0, 0] : Fin 3 → ℕ) a * S1x8x512.size a + (y a).val := by
  match a with
  | ⟨0, _⟩ => blk_simp [index5]
  | ⟨1, _⟩ => blk_simp [index5]
  | ⟨2, _⟩ => blk_simp [index5]

include hpre in
theorem arrays_hold (c : Dev nD) (A : Arrays (F := Ideal) c) (hA : Allowed m c A) :
    (∀ i : S64x8x512.Idx, ScoreAt m c i (A 3 i)) ∧ (∀ i : S64x8x512.Idx, LabelAt m c i (A 4 i)) ∧ ∀ i : S64x8x512.Idx, BoxAt m c i (A 5 i) := by
  obtain ⟨after, hL, hE⟩ := Pipeline.RDat.ArrAt.exists_exact_all (rd := rdat m c) hA
  have leaves3 : ∀ t : Fin cfg0.N, (cfg0.win 3).flush t = true → ∃ d5 d6, OutAt m c t (after 3 t) d5 d6 := fun t hf => by
    obtain ⟨Y, -, h⟩ := hL 3 t t.isLt hf
    exact h
  have leaves4 : ∀ t : Fin cfg0.N, (cfg0.win 4).flush t = true → ∃ d4 d6, OutAt m c t d4 (after 4 t) d6 := fun t hf => by
    obtain ⟨Y, -, h⟩ := hL 4 t t.isLt hf
    exact h
  have leaves5 : ∀ t : Fin cfg0.N, (cfg0.win 5).flush t = true → ∃ d4 d5, OutAt m c t d4 d5 (after 5 t) := fun t hf => by
    obtain ⟨Y, -, h⟩ := hL 5 t t.isLt hf
    exact h
  refine ⟨fun i => ?_, fun i => ?_, fun i => ?_⟩
  · rw [hE 3]
    refine ((rdat m c).withAfter after).arrAt_forall_of_covers 3 (fun i v => ScoreAt m c i v) covers3 (fun t hf y => ?_) i
    intro b k hi
    obtain ⟨d5, d6, hO⟩ := leaves3 t hf
    obtain ⟨rfl, rfl⟩ := block_spot t y _ (place3 t y) b 0 k hi
    exact (congrArg (after 3 t) (lane_row0 k).symm).trans (out_values m hpre c t _ _ _ hO k).1
  · rw [hE 4]
    refine ((rdat m c).withAfter after).arrAt_forall_of_covers 4 (fun i v => LabelAt m c i v) covers4 (fun t hf y => ?_) i
    intro b k hi
    obtain ⟨d4, d6, hO⟩ := leaves4 t hf
    obtain ⟨rfl, rfl⟩ := block_spot t y _ (place4 t y) b 0 k hi
    exact (congrArg (after 4 t) (lane_row0 k).symm).trans (out_values m hpre c t _ _ _ hO k).2.1
  · rw [hE 5]
    refine ((rdat m c).withAfter after).arrAt_forall_of_covers 5 (fun i v => BoxAt m c i v) covers5 (fun t hf y => ?_) i
    intro b r k hi
    obtain ⟨d4, d5, hO⟩ := leaves5 t hf
    obtain ⟨rfl, rfl⟩ := block_spot t y _ (place5 t y) b (r.castLE (by decide)) k hi
    exact (out_values m hpre c t _ _ _ hO k).2.2 r

end Cert.CodesIdeal.Hand

end
-- ==== Proof.CodesFinish.lean ====
/-
  The program over words: the host's lines after the call, at the end of a run.
-/
module

public import proofs.«01_k».proof.Proof.CodesValue
public import proofs.«01_k».proof.Proof.Finish

@[expose] public section

set_option maxRecDepth 16384

noncomputable section

namespace Cert.CodesIdeal.Hand

open Cert.CodesIdeal Cert.CodesIdeal.Gen
open Cert.Kernel.Hand (refLabel cut_apply top)
open Idealize.ShloMosaic Idealize.ShloMosaic.TcCoe Idealize.ShloMosaic.Tactic Idealize.ShloMosaic.StableHlo

section args

variable {F : FTy → Type} [FloatOps F] [∀ e, Nonempty (Elt F e)]

variable (m : (ℓ : Loc nD τ sig) → Buf (Elt F) ℓ)

/-- A buffer no line after the call writes and no window stages keeps what the host put there. -/
theorem finish_keeps (c : Dev nD) (A : Arrays (F := F) c) (b : Ref sig .tc)
    (h : (List.flatten [hostOps1] : List (HloOp τ sig (Elt F))).Forall fun op => Proc.devRef .tc b ∉ op.writes)
    (hw : ∀ w, Pipeline.arrRef spec0 w ≠ b) : finish m c A (Proc.devRef .tc b) = V m c b := by
  unfold finish
  rw [StableHlo.after_of_forall_not_mem (b := Proc.devRef .tc b) _ _ (List.forall_iff_forall_mem.mp h), Pipeline.withArrays_of_ne _ c (V0 m c) _ b hw]

theorem finish_arg0 (c : Dev nD) (A : Arrays (F := F) c) : finish m c A (Proc.devRef .tc main_arg0) = m ((c : Thread nD τ).loc main_arg0) := by
  rw [finish_keeps m c A main_arg0 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg0 m c

theorem finish_arg1 (c : Dev nD) (A : Arrays (F := F) c) : finish m c A (Proc.devRef .tc main_arg1) = m ((c : Thread nD τ).loc main_arg1) := by
  rw [finish_keeps m c A main_arg1 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg1 m c

theorem finish_arg2 (c : Dev nD) (A : Arrays (F := F) c) : finish m c A (Proc.devRef .tc main_arg2) = m ((c : Thread nD τ).loc main_arg2) := by
  rw [finish_keeps m c A main_arg2 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg2 m c

theorem finish_arg3 (c : Dev nD) (A : Arrays (F := F) c) : finish m c A (Proc.devRef .tc main_arg3) = m ((c : Thread nD τ).loc main_arg3) := by
  rw [finish_keeps m c A main_arg3 (by
    simp only [hostOps1, List.flatten_cons, List.flatten_nil, List.append_nil, List.Forall, StableHlo.unary_writes, StableHlo.reshape_writes, Finset.mem_singleton]
    repeat' apply And.intro
    all_goals exact StableHlo.devRef_ne_of_ne (by decide)) (by decide)]
  exact V_main_arg3 m c

theorem ended_args (r) (h : Ended m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain ⟨A, -, hb⟩ := h c
  exact ⟨(hb _ (Pipeline.mem_restRefs_of main_arg0 (by decide) (by decide))).trans (finish_arg0 m c A),
    (hb _ (Pipeline.mem_restRefs_of main_arg1 (by decide) (by decide))).trans (finish_arg1 m c A),
    (hb _ (Pipeline.mem_restRefs_of main_arg2 (by decide) (by decide))).trans (finish_arg2 m c A),
    (hb _ (Pipeline.mem_restRefs_of main_arg3 (by decide) (by decide))).trans (finish_arg3 m c A)⟩

theorem finish_scores (c : Dev nD) (A : Arrays (F := F) c) :
    finish m c A (Proc.devRef .tc main_v10)
      = shapeCast S64x300 (extractStridedSlice S64x1x300 ![0, 0, 0] (A 3) slices_S64x8x512_S64x1x300_0_0_0) shapeCasts_S64x1x300_S64x300 := by
  have e := Pipeline.withArrays_arr spec0 launch0.win.arr_inj c (V0 m c) A 3
  rw [← e]
  unfold finish
  simp only [hostOps1, List.flatten_cons, List.flatten_nil, List.append_nil]
  after_results_simp <;> (try dsimp only [Matrix.cons_val]) <;> (try after_results_simp) <;> rfl

theorem finish_labels (c : Dev nD) (A : Arrays (F := F) c) :
    finish m c A (Proc.devRef .tc main_v12)
      = shapeCast S64x300 (extractStridedSlice S64x1x300 ![0, 0, 0] (A 4) slices_S64x8x512_S64x1x300_0_0_0) shapeCasts_S64x1x300_S64x300 := by
  have e := Pipeline.withArrays_arr spec0 launch0.win.arr_inj c (V0 m c) A 4
  rw [← e]
  unfold finish
  simp only [hostOps1, List.flatten_cons, List.flatten_nil, List.append_nil]
  after_results_simp <;> (try dsimp only [Matrix.cons_val]) <;> (try after_results_simp) <;> rfl

theorem finish_boxes (c : Dev nD) (A : Arrays (F := F) c) :
    finish m c A (Proc.devRef .tc main_v14)
      = transpose S64x300x4 [0, 2, 1] (extractStridedSlice S64x4x300 ![0, 0, 0] (A 5) slices_S64x8x512_S64x4x300_0_0_0) transposes_S64x4x300_S64x300x4_0_2_1 := by
  have e := Pipeline.withArrays_arr spec0 launch0.win.arr_inj c (V0 m c) A 5
  rw [← e]
  unfold finish
  simp only [hostOps1, List.flatten_cons, List.flatten_nil, List.append_nil]
  after_results_simp <;> (try dsimp only [Matrix.cons_val]) <;> (try after_results_simp) <;> rfl

end args

/-- Row 0 of the blocks of an array, cut to 300 columns. -/
theorem cut_row {α : Type} (x : S64x8x512.Idx → α) (j : S64x300.Idx) :
    shapeCast S64x300 (extractStridedSlice S64x1x300 ![0, 0, 0] x slices_S64x8x512_S64x1x300_0_0_0) shapeCasts_S64x1x300_S64x300 j
      = x (spot (Cert.Order.row j) 0 (Cert.Order.col j)) := by
  refine (cut_apply x j).trans (congrArg x ?_)
  funext a
  match a with
  | ⟨0, _⟩ => rfl
  | ⟨1, _⟩ => rfl
  | ⟨2, _⟩ => rfl

/-- The first 4 rows of the blocks of an array, cut to 300 columns and turned. -/
theorem cut_turned {α : Type} (x : S64x8x512.Idx → α) (b : Fin 64) (k : Fin 300) (r : Fin 4) :
    transpose S64x300x4 [0, 2, 1] (extractStridedSlice S64x4x300 ![0, 0, 0] x slices_S64x8x512_S64x4x300_0_0_0) transposes_S64x4x300_S64x300x4_0_2_1 (ix3 b k r : S64x300x4.Idx)
      = x (spot b (r.castLE (by decide)) k) := by
  pointwise
  rfl

variable (m : (ℓ : Loc nD τ sig) → Buf (Elt Ideal) ℓ)

/-- The scores' words, the labels and the boxes of the first 300 of every batch. -/
def topScores (c : Dev nD) : S64x300.Idx → Elt Ideal .i32 := fun j =>
  flatWords m c (Cert.Order.cell (Cert.Order.row j) (best m c (Cert.Order.row j) (Cert.Order.col j)))
def topLabels (c : Dev nD) : S64x300.Idx → Elt Ideal .i32 := fun j =>
  refLabel (BitVec.ofNat 32 (best m c (Cert.Order.row j) (Cert.Order.col j)).val)
def topBoxes (c : Dev nD) : S64x300x4.Idx → Elt Ideal .f32 := fun j =>
  cornerOf (boxes m c) (extents m c) (j 0) (j 2) (bestBox m c (j 0) (j 1))

theorem ended_results (hpre : Nonnegative m) (r) (h : Ended m r) (c : Dev nD) :
    r.2.mem ((c.tc : Thread nD τ).loc main_v12) = topLabels m c ∧ r.2.mem ((c.tc : Thread nD τ).loc main_v14) = topBoxes m c
      ∧ r.2.mem ((c.tc : Thread nD τ).loc main_v10) = topScores m c := by
  obtain ⟨A, hA, hb⟩ := h c
  obtain ⟨h3, h4, h5⟩ := arrays_hold m hpre c A hA
  refine ⟨?_, ?_, ?_⟩
  · rw [hb _ (Pipeline.mem_restRefs_of main_v12 (by decide) (by decide)), finish_labels]
    funext j
    rw [cut_row]
    exact h4 _ _ _ rfl
  · rw [hb _ (Pipeline.mem_restRefs_of main_v14 (by decide) (by decide)), finish_boxes]
    funext j
    have ej : j = (ix3 (j 0) (j 1) (j 2) : S64x300x4.Idx) := (ix3_eta j).symm
    exact (congrArg _ ej).trans ((cut_turned (A 5) (j 0) (j 1) (j 2)).trans (h5 _ _ _ _ rfl))
  · rw [hb _ (Pipeline.mem_restRefs_of main_v10 (by decide) (by decide)), finish_scores]
    funext j
    rw [cut_row]
    exact h3 _ _ _ rfl

end Cert.CodesIdeal.Hand

end
-- ==== Proof.CodesReference.lean ====
/-
  The reference over words: its boxes at an entry.
-/
module

public import proofs.«01_k».proof.Proof.CodesBoxes
public import proofs.«01_k».proof.Proof.CodesOrder
public import proofs.«01_k».proof.Proof.Gen.CodesReferenceIdeal.Run
public import Idealize.ShloMosaic.Lib.ReduceAll

@[expose] public section

set_option maxRecDepth 16384

noncomputable section

namespace Cert.CodesReferenceIdeal.Hand

open Cert.CodesReferenceIdeal Cert.CodesReferenceIdeal.Gen
open Cert.Kernel.Hand (refQuot refQuot_small toInt_small)
open Cert.CodesIdeal.Hand (corner cornerOf)
open Idealize.ShloMosaic Idealize.ShloMosaic.TcCoe Idealize.ShloMosaic.Tactic

/-- The quotients by 80 of an array of words. -/
def quots (x : IVec S64x300 32) : IVec S64x300 32 :=
  select (andi (cmpi .ne (signi x) (broadcastInDim S64x300 ![] bcast_S_S64x300 (signi (id (constantI S_ 32 80#32))))) (cmpi .ne (Host.remsi x (broadcastInDim S64x300 ![] bcast_S_S64x300 (id (constantI S_ 32 80#32)))) (broadcastInDim S64x300 ![] bcast_S_S64x300 (constantI S_ 32 0#32)))) (subi (Host.divsi x (broadcastInDim S64x300 ![] bcast_S_S64x300 (id (constantI S_ 32 80#32)))) (broadcastInDim S64x300 ![] bcast_S_S64x300 (constantI S_ 32 1#32))) (Host.divsi x (broadcastInDim S64x300 ![] bcast_S_S64x300 (id (constantI S_ 32 80#32))))

theorem quots_apply (x : IVec S64x300 32) (j : S64x300.Idx) : quots x j = refQuot (x j) := rfl

/-- The box numbers wanted, one for each corner coordinate, those below 0 counted from the end. -/
def starts (q : IVec S64x300 32) : IVec S64x300x4x1 32 :=
  shapeCast S64x300x4x1 (select (cmpi .slt (broadcastInDim S64x300x4 ![0, 1, 2] bcast_S64x300x1_S64x300x4_0_1_2 (broadcastInDim S64x300x1 ![0, 1] bcast_S64x300_S64x300x1_0_1 q)) (broadcastInDim S64x300x4 ![] bcast_S_S64x300x4 (constantI S_ 32 0#32))) (addi (broadcastInDim S64x300x4 ![0, 1, 2] bcast_S64x300x1_S64x300x4_0_1_2 (broadcastInDim S64x300x1 ![0, 1] bcast_S64x300_S64x300x1_0_1 q)) (broadcastInDim S64x300x4 ![] bcast_S_S64x300x4 (constantI S_ 32 5000#32))) (broadcastInDim S64x300x4 ![0, 1, 2] bcast_S64x300x1_S64x300x4_0_1_2 (broadcastInDim S64x300x1 ![0, 1] bcast_S64x300_S64x300x1_0_1 q))) shapeCasts_S64x300x4_S64x300x4x1

theorem starts_apply (q : IVec S64x300 32) (i : S64x300x4x1.Idx) (n : ℕ) (hn : n < 5000)
    (hq : q (ix2 (i 0 : Fin 64) (i 1 : Fin 300)) = BitVec.ofNat 32 n) : starts q i = BitVec.ofNat 32 n := by
  have e : starts q i = Scalar.select (IntOp.cmpi .slt (q (ix2 (i 0 : Fin 64) (i 1 : Fin 300))) 0#32) (q (ix2 (i 0 : Fin 64) (i 1 : Fin 300)) + 5000#32) (q (ix2 (i 0 : Fin 64) (i 1 : Fin 300))) := by
    refine (shapeCast_apply _ _ i (ix3 (i 0 : Fin 64) (i 1 : Fin 300) (i 2 : Fin 4) : S64x300x4.Idx) ?_).trans ?_
    · rw [Shape.rowMajor_val_three, Shape.rowMajor_val_four]
      have h3 : (i 3).val < 1 := (i 3).isLt
      show ((i 0).val * 300 + (i 1).val) * 4 + (i 2).val = (((i 0).val * 300 + (i 1).val) * 4 + (i 2).val) * 1 + (i 3).val
      omega
    · pointwise
      rfl
  have h0 : IntOp.cmpi .slt (BitVec.ofNat 32 n) 0#32 = 0#1 := by
    have h := toInt_small n (by omega)
    show BitVec.ofBool ((BitVec.ofNat 32 n).slt 0#32) = 0#1
    rw [BitVec.slt_eq_decide, h, decide_eq_false (by simp)]
    rfl
  rw [e, hq, h0]
  rfl

/-- Whether the box numbers wanted lie in the table. -/
def inside (q : IVec S64x300 32) : IVec S64x300x4 1 :=
  Host.reduce IntOp.andi (andi (cmpi .sge (starts q) (broadcastInDim S64x300x4x1 ![] bcast_S_S64x300x4x1 (constantI S_ 32 0#32))) (cmpi .sle (starts q) (broadcastInDim S64x300x4x1 ![0, 1, 2, 3] bcast_S1x1x1x1_S64x300x4x1_0_1_2_3 (broadcastInDim S1x1x1x1 ![3] bcast_S1_S1x1x1x1_3 (constantI S1 32 4999#32))))) (constantI S_ 1 1#1) reducesTo_S64x300x4x1_S64x300x4_d3 h_S_

theorem inside_apply (q : IVec S64x300 32) (n : Fin 64 → Fin 300 → Fin 5000) (hq : ∀ b k, q (ix2 b k) = BitVec.ofNat 32 (n b k).val) (j : S64x300x4.Idx) :
    inside q j = 1#1 := by
  refine Host.reduce_andi_one _ _ _ _ j rfl fun i => ?_
  have e := starts_apply q i _ (n (i 0) (i 1)).isLt (hq (i 0) (i 1))
  have h := toInt_small (n (i 0) (i 1)).val (by have := (n (i 0) (i 1)).isLt; omega)
  have hlt := (n (i 0) (i 1)).isLt
  show IntOp.andi (IntOp.cmpi .sge (starts q i) 0#32) (IntOp.cmpi .sle (starts q i) 4999#32) = 1#1
  rw [e, Cert.Words.andi_iff, Cert.Words.sge_iff, h]
  refine ⟨by simp, ?_⟩
  show BitVec.ofBool ((BitVec.ofNat 32 (n (i 0) (i 1)).val).sle 4999#32) = 1#1
  rw [BitVec.sle_eq_decide, h, decide_eq_true (by
    show _ ≤ (4999 : ℤ)
    omega)]
  rfl

/-- The table read at the box wanted. -/
theorem gather_apply (x : FVec Ideal S64x5000x4 .f32) (idx : IVec S64x300x4x1 32) (b : Fin 64) (k : Fin 300) (r : Fin 4) (n : Fin 5000)
    (h : idx (ix4 b k r 0 : S64x300x4x1.Idx) = BitVec.ofNat 32 n.val) :
    Host.gather gather_S64x5000x4_S64x300x4x1_S64x300x4_n_1_02_02_1_3_111 x idx (ix3 b k r : S64x300x4.Idx) = x (ix3 b n r) := by
  unfold Host.gather
  congr 1
  funext a
  refine Fin.ext ?_
  show (gather_S64x5000x4_S64x300x4x1_S64x300x4_n_1_02_02_1_3_111).start (ix3 b k r) idx a
      + (gather_S64x5000x4_S64x300x4x1_S64x300x4_n_1_02_02_1_3_111).batchCoord (ix3 b k r) a
      + (gather_S64x5000x4_S64x300x4x1_S64x300x4_n_1_02_02_1_3_111).offCoord (ix3 b k r) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hbd : (gather_S64x5000x4_S64x300x4x1_S64x300x4_n_1_02_02_1_3_111).operandBatchingDims = [0, 2] := rfl
  have hcd : (gather_S64x5000x4_S64x300x4x1_S64x300x4_n_1_02_02_1_3_111).collapsedSliceDims = [1] := rfl
  rcases h012 with rfl | rfl | rfl
  · rw [GatherDims.start_batching _ _ _ _ (by rw [hbd]; decide),
      GatherDims.offCoord_eq_zero _ _ _ (fun h => ((GatherDims.mem_sKept _ _).mp h).2 (by rw [hbd]; decide))]
    simp only [Nat.zero_add, Nat.add_zero]
    unfold GatherDims.batchCoord
    rw [dif_pos (by rw [hbd]; decide)]
    rfl
  · rw [GatherDims.batchCoord_eq_zero _ _ _ (by rw [hbd]; decide),
      GatherDims.offCoord_eq_zero _ _ _ (fun h => ((GatherDims.mem_sKept _ _).mp h).1 (by rw [hcd]; decide))]
    simp only [Nat.add_zero]
    unfold GatherDims.start
    have hm : (1 : Fin S64x5000x4.rank) ∈ (gather_S64x5000x4_S64x300x4x1_S64x300x4_n_1_02_02_1_3_111).startIndexMap := List.mem_singleton.mpr rfl
    rw [dif_pos hm]
    have hsi : (gather_S64x5000x4_S64x300x4x1_S64x300x4_n_1_02_02_1_3_111).siIdx (ix3 b k r) ⟨List.idxOf (1 : Fin S64x5000x4.rank)
        (gather_S64x5000x4_S64x300x4x1_S64x300x4_n_1_02_02_1_3_111).startIndexMap, List.idxOf_lt_length_iff.2 hm⟩ = ix4 b k r 0 := by
      funext g; refine Fin.ext ?_
      match g with
      | ⟨0, _⟩ => rfl
      | ⟨1, _⟩ => rfl
      | ⟨2, _⟩ => rfl
      | ⟨3, _⟩ => rfl
    rw [hsi, h, toInt_small n.val (by have := n.isLt; omega)]
    show min n.val 4999 = n.val
    have := n.isLt
    omega
  · rw [GatherDims.start_batching _ _ _ _ (by rw [hbd]; decide),
      GatherDims.offCoord_eq_zero _ _ _ (fun h => ((GatherDims.mem_sKept _ _).mp h).2 (by rw [hbd]; decide))]
    simp only [Nat.zero_add, Nat.add_zero]
    unfold GatherDims.batchCoord
    rw [dif_pos (by rw [hbd]; decide)]
    rfl

/-! ## The table of corners -/

variable (a1 : FVec Ideal S64x5000x4 .f32) (a2 : IVec S64x2 32)

/-- Every box with its coordinates one next to the other. -/
theorem beside_apply (v0 v1 v2 v3 : FVec Ideal S64x5000x1 .f32) (b : Fin 64) (n : Fin 5000) (r : Fin 4) :
    concatenate S64x5000x4 2 [⟨S64x5000x1, v0⟩, ⟨S64x5000x1, v1⟩, ⟨S64x5000x1, v2⟩, ⟨S64x5000x1, v3⟩] concatenates_S64x5000x1_S64x5000x1_S64x5000x1_S64x5000x1_S64x5000x4_d2 (ix3 b n r : S64x5000x4.Idx)
      = (match r with | 0 => v0 | 1 => v1 | 2 => v2 | 3 => v3 : FVec Ideal S64x5000x1 .f32) (ix3 b n 0) := by
  match r with
  | 0 =>
    show concatenate S64x5000x4 2 [⟨S64x5000x1, v0⟩, ⟨S64x5000x1, v1⟩, ⟨S64x5000x1, v2⟩, ⟨S64x5000x1, v3⟩] concatenates_S64x5000x1_S64x5000x1_S64x5000x1_S64x5000x1_S64x5000x4_d2 (ix3 b n (0 : Fin 4)) = v0 (ix3 b n 0)
    pointwise
  | 1 =>
    show concatenate S64x5000x4 2 [⟨S64x5000x1, v0⟩, ⟨S64x5000x1, v1⟩, ⟨S64x5000x1, v2⟩, ⟨S64x5000x1, v3⟩] concatenates_S64x5000x1_S64x5000x1_S64x5000x1_S64x5000x1_S64x5000x4_d2 (ix3 b n (1 : Fin 4)) = v1 (ix3 b n 0)
    pointwise
  | 2 =>
    show concatenate S64x5000x4 2 [⟨S64x5000x1, v0⟩, ⟨S64x5000x1, v1⟩, ⟨S64x5000x1, v2⟩, ⟨S64x5000x1, v3⟩] concatenates_S64x5000x1_S64x5000x1_S64x5000x1_S64x5000x1_S64x5000x4_d2 (ix3 b n (2 : Fin 4)) = v2 (ix3 b n 0)
    pointwise
  | 3 =>
    show concatenate S64x5000x4 2 [⟨S64x5000x1, v0⟩, ⟨S64x5000x1, v1⟩, ⟨S64x5000x1, v2⟩, ⟨S64x5000x1, v3⟩] concatenates_S64x5000x1_S64x5000x1_S64x5000x1_S64x5000x1_S64x5000x4_d2 (ix3 b n (3 : Fin 4)) = v3 (ix3 b n 0)
    pointwise

/-- The corners of every box, before the sizes are counted in. -/
def cornersRaw : FVec Ideal S64x5000x4 .f32 :=
  concatenate S64x5000x4 2 [⟨S64x5000x1, broadcastInDim S64x5000x1 ![0, 1] bcast_S64x5000_S64x5000x1_0_1 (subf (shapeCast S64x5000 (extractStridedSlice S64x5000x1 ![0, 0, 0] a1 slices_S64x5000x4_S64x5000x1_0_0_0) shapeCasts_S64x5000x1_S64x5000) (mulf (broadcastInDim S64x5000 ![] bcast_S_S64x5000 (constant S_ .f32 0x3F000000#32)) (shapeCast S64x5000 (extractStridedSlice S64x5000x1 ![0, 0, 2] a1 slices_S64x5000x4_S64x5000x1_0_0_2) shapeCasts_S64x5000x1_S64x5000)))⟩, ⟨S64x5000x1, broadcastInDim S64x5000x1 ![0, 1] bcast_S64x5000_S64x5000x1_0_1 (subf (shapeCast S64x5000 (extractStridedSlice S64x5000x1 ![0, 0, 1] a1 slices_S64x5000x4_S64x5000x1_0_0_1) shapeCasts_S64x5000x1_S64x5000) (mulf (broadcastInDim S64x5000 ![] bcast_S_S64x5000 (constant S_ .f32 0x3F000000#32)) (shapeCast S64x5000 (extractStridedSlice S64x5000x1 ![0, 0, 3] a1 slices_S64x5000x4_S64x5000x1_0_0_3) shapeCasts_S64x5000x1_S64x5000)))⟩, ⟨S64x5000x1, broadcastInDim S64x5000x1 ![0, 1] bcast_S64x5000_S64x5000x1_0_1 (addf (shapeCast S64x5000 (extractStridedSlice S64x5000x1 ![0, 0, 0] a1 slices_S64x5000x4_S64x5000x1_0_0_0) shapeCasts_S64x5000x1_S64x5000) (mulf (broadcastInDim S64x5000 ![] bcast_S_S64x5000 (constant S_ .f32 0x3F000000#32)) (shapeCast S64x5000 (extractStridedSlice S64x5000x1 ![0, 0, 2] a1 slices_S64x5000x4_S64x5000x1_0_0_2) shapeCasts_S64x5000x1_S64x5000)))⟩, ⟨S64x5000x1, broadcastInDim S64x5000x1 ![0, 1] bcast_S64x5000_S64x5000x1_0_1 (addf (shapeCast S64x5000 (extractStridedSlice S64x5000x1 ![0, 0, 1] a1 slices_S64x5000x4_S64x5000x1_0_0_1) shapeCasts_S64x5000x1_S64x5000) (mulf (broadcastInDim S64x5000 ![] bcast_S_S64x5000 (constant S_ .f32 0x3F000000#32)) (shapeCast S64x5000 (extractStridedSlice S64x5000x1 ![0, 0, 3] a1 slices_S64x5000x4_S64x5000x1_0_0_3) shapeCasts_S64x5000x1_S64x5000)))⟩] concatenates_S64x5000x1_S64x5000x1_S64x5000x1_S64x5000x1_S64x5000x4_d2

/-- The width and the height, each twice. -/
def sizes : FVec Ideal S64x5000x4 .f32 :=
  broadcastInDim S64x5000x4 ![0, 1, 2] bcast_S64x1x4_S64x5000x4_0_1_2 (broadcastInDim S64x1x4 ![0, 2] bcast_S64x4_S64x1x4_0_2 (shapeCast S64x4 (broadcastInDim S1x64x2x2 ![0, 1, 2, 3] bcast_S1x64x1x2_S1x64x2x2_0_1_2_3 (shapeCast S1x64x1x2 (sitofp .f32 a2) shapeCasts_S64x2_S1x64x1x2)) shapeCasts_S1x64x2x2_S64x4))

theorem columns_apply (b : Fin 64) (n : Fin 5000) :
    (shapeCast S64x5000 (extractStridedSlice S64x5000x1 ![0, 0, 0] a1 slices_S64x5000x4_S64x5000x1_0_0_0) shapeCasts_S64x5000x1_S64x5000) (ix2 b n : S64x5000.Idx) = a1 (ix3 b n 0 : S64x5000x4.Idx)
    ∧ (shapeCast S64x5000 (extractStridedSlice S64x5000x1 ![0, 0, 1] a1 slices_S64x5000x4_S64x5000x1_0_0_1) shapeCasts_S64x5000x1_S64x5000) (ix2 b n : S64x5000.Idx) = a1 (ix3 b n 1 : S64x5000x4.Idx)
    ∧ (shapeCast S64x5000 (extractStridedSlice S64x5000x1 ![0, 0, 2] a1 slices_S64x5000x4_S64x5000x1_0_0_2) shapeCasts_S64x5000x1_S64x5000) (ix2 b n : S64x5000.Idx) = a1 (ix3 b n 2 : S64x5000x4.Idx)
    ∧ (shapeCast S64x5000 (extractStridedSlice S64x5000x1 ![0, 0, 3] a1 slices_S64x5000x4_S64x5000x1_0_0_3) shapeCasts_S64x5000x1_S64x5000) (ix2 b n : S64x5000.Idx) = a1 (ix3 b n 3 : S64x5000x4.Idx) := by
  refine ⟨?_, ?_, ?_, ?_⟩ <;> pointwise

theorem laid_apply (x : FVec Ideal S64x5000 .f32) (b : Fin 64) (n : Fin 5000) :
    broadcastInDim S64x5000x1 ![0, 1] bcast_S64x5000_S64x5000x1_0_1 x (ix3 b n 0 : S64x5000x1.Idx) = x (ix2 b n) := by
  pointwise

theorem sizes_apply (b : Fin 64) (n : Fin 5000) (r : Fin 4) :
    sizes a2 (ix3 b n r : S64x5000x4.Idx)
      = (((a2 (ix2 b (⟨r.val % 2, by omega⟩ : Fin 2) : S64x2.Idx)).toInt : ℝ) : EReal) := by
  unfold sizes
  have hlaid : ∀ y : FVec Ideal S64x4 .f32, broadcastInDim S64x5000x4 ![0, 1, 2] bcast_S64x1x4_S64x5000x4_0_1_2 (broadcastInDim S64x1x4 ![0, 2] bcast_S64x4_S64x1x4_0_2 y) (ix3 b n r : S64x5000x4.Idx) = y (ix2 b r) := fun y => by
    pointwise
  rw [hlaid]
  refine (shapeCast_apply _ _ _ (ix4 (0 : Fin 1) b (⟨r.val / 2, by omega⟩ : Fin 2) (⟨r.val % 2, by omega⟩ : Fin 2) : S1x64x2x2.Idx) ?_).trans ?_
  · rw [Shape.rowMajor_val_four, Shape.rowMajor_val_two]
    show ((0 * 64 + b.val) * 2 + r.val / 2) * 2 + r.val % 2 = b.val * 4 + r.val
    omega
  · have hmid : ∀ y : FVec Ideal S1x64x1x2 .f32, broadcastInDim S1x64x2x2 ![0, 1, 2, 3] bcast_S1x64x1x2_S1x64x2x2_0_1_2_3 y (ix4 (0 : Fin 1) b (⟨r.val / 2, by omega⟩ : Fin 2) (⟨r.val % 2, by omega⟩ : Fin 2) : S1x64x2x2.Idx) = y (ix4 (0 : Fin 1) b (0 : Fin 1) (⟨r.val % 2, by omega⟩ : Fin 2)) := fun y => by
      pointwise
    rw [hmid]
    refine (shapeCast_apply _ _ _ (ix2 b (⟨r.val % 2, by omega⟩ : Fin 2) : S64x2.Idx) ?_).trans rfl
    rw [Shape.rowMajor_val_four, Shape.rowMajor_val_two]
    show b.val * 2 + r.val % 2 = ((0 * 64 + b.val) * 1 + 0) * 2 + r.val % 2
    omega

theorem corners_apply (b : Fin 64) (n : Fin 5000) (r : Fin 4) :
    mulf (cornersRaw a1) (sizes a2) (ix3 b n r : S64x5000x4.Idx) = cornerOf a1 a2 b r n := by
  obtain ⟨e0, e1, e2, e3⟩ := columns_apply a1 b n
  show cornersRaw a1 (ix3 b n r : S64x5000x4.Idx) * sizes a2 (ix3 b n r : S64x5000x4.Idx) = _
  rw [sizes_apply]
  unfold cornersRaw cornerOf
  rw [beside_apply, ← e0, ← e1, ← e2, ← e3]
  match r with
  | 0 => exact congrArg (· * _) (laid_apply _ b n)
  | 1 => exact congrArg (· * _) (laid_apply _ b n)
  | 2 => exact congrArg (· * _) (laid_apply _ b n)
  | 3 => exact congrArg (· * _) (laid_apply _ b n)

/-- The boxes the reference returns, of the quotients, the boxes and the extents. -/
def boxesRef (q : IVec S64x300 32) : FVec Ideal S64x300x4 .f32 :=
  select (inside q) (Host.gather gather_S64x5000x4_S64x300x4x1_S64x300x4_n_1_02_02_1_3_111 (mulf (cornersRaw a1) (sizes a2)) (starts q)) (broadcastInDim S64x300x4 ![] bcast_S_S64x300x4 (constant S_ .f32 0x7FC00000#32))

theorem boxesRef_apply (q : IVec S64x300 32) (n : Fin 64 → Fin 300 → Fin 5000) (hq : ∀ b k, q (ix2 b k) = BitVec.ofNat 32 (n b k).val)
    (b : Fin 64) (k : Fin 300) (r : Fin 4) :
    boxesRef a1 a2 q (ix3 b k r : S64x300x4.Idx) = cornerOf a1 a2 b r (n b k) := by
  unfold boxesRef
  show Scalar.select (inside q (ix3 b k r)) _ _ = _
  rw [inside_apply q n hq]
  refine (ValueIdx.select_one _ _).trans ?_
  refine (gather_apply _ _ b k r (n b k) (starts_apply q _ _ (n b k).isLt (hq b k))).trans ?_
  exact corners_apply a1 a2 b (n b k) r

theorem returned_boxes (m : (ℓ : Loc nD τ sig) → Buf (Elt Ideal) ℓ) (c : Dev nD) :
    Cert.CodesReferenceIdeal.Value.res_main_v40 m c
      = boxesRef (m ((c.tc : Thread nD τ).loc main_arg1)) (m ((c.tc : Thread nD τ).loc main_arg2))
          (quots (Host.topK S64x300 1 (IntOp.cmpi .sgt) (shapeCast S64x400000 (m ((c.tc : Thread nD τ).loc main_arg0)) shapeCasts_S64x5000x80_S64x400000) sliceFits_S64x400000_S64x300).2) := rfl

end Cert.CodesReferenceIdeal.Hand

end
-- ==== Proof.lean ====
/-
  The claims: the kernel's runs, the reference's runs, that their labels and scores agree, and the same of the two
  programs that are given the words of the scores, whose boxes agree as well.
-/
module

public import proofs.«01_k».proof.Defs
public import proofs.«01_k».proof.Proof.Finish
public import proofs.«01_k».proof.Proof.CodesFinish
public import proofs.«01_k».proof.Proof.CodesReference
public import proofs.«01_k».proof.Proof.Gen.Pre_ordered
public import proofs.«01_k».proof.Proof.Gen.On_labels_and_scores
public import proofs.«01_k».proof.Proof.Gen.Reference.Run
public import proofs.«01_k».proof.Proof.Gen.Codes
public import proofs.«01_k».proof.Proof.Gen.Pre_nonnegative

@[expose] public section

set_option maxRecDepth 16384

noncomputable section

namespace Cert.Proof

open Idealize.ShloMosaic Idealize.SL.Sem Cert.Kernel.Hand

theorem kernel_frame : Cert.quiescent_Kernel := fun m g hpre =>
  (θ_run Cert.Kernel.defs _ _).mono (fun r h => ⟨fun c => ended_args m r h.1 c, h.2⟩) (run_ended m g (plain m hpre))

theorem reference_run (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0) :=
  (θ_run Cert.Reference.defs _ _).mono (fun r h => ⟨fun c => (h c).2.2.2, sem_eq_zero_of_no_sems (by decide) r.2⟩)
    (Cert.Reference.Value.run (F := Bits) m g)

theorem reference_frame : Cert.quiescent_Reference := fun m g _ => reference_run m g

theorem reference_frame_ordered : Cert.quiescent_Reference_pre_ordered := fun m g _ => reference_run m g

theorem same_results : Cert.bitexact_Kernel_Reference_on_labels_and_scores := by
  intro m g m' g' hpre hargs
  refine ⟨fun c => topLabels m c, fun _ => (fun _ => 0#32 : FVec Bits Cert.Kernel.S64x300x4 .f32), fun c => topScores m c, ?_, ?_⟩
  · refine (θ_run Cert.Kernel.defs _ _).mono (fun r h c => ?_) (run_ended m g (plain m hpre))
    have hr := ended_results m hpre r h.1 c
    exact ⟨fun i _ => congrFun hr.1 i, fun i hi => absurd hi (by show ¬ (0#1 = 1#1); decide), fun i _ => congrFun hr.2 i, ended_args m r h.1 c⟩
  · refine (θ_run Cert.Reference.defs _ _).mono (fun r h c => ?_) (Cert.Reference.Value.run (F := Bits) m' g')
    obtain ⟨h1, -, h3, h4⟩ := h c
    have e0 := (hargs c).1
    rw [e0] at h1 h3
    refine ⟨fun i _ => ?_, fun i hi => absurd hi (by show ¬ (0#1 = 1#1); decide), fun i _ => ?_, h4⟩
    · refine (congrFun h1 i).trans ?_
      refine Eq.trans ?_ (congrArg refLabel (ref_index m c Cert.Reference.Gen.sliceFits_S64x400000_S64x300 i))
      rfl
    · refine (congrFun h3 i).trans ?_
      exact congrFun (ref_scores m c Cert.Reference.Gen.sliceFits_S64x400000_S64x300) i

/-! ## The programs over words -/

/-- The two printed body tables over words are one. -/
theorem codes_defs₀ : (Cert.Codes.defs₀ (F := Bits)) = Cert.CodesIdeal.defs₀ (F := Bits) :=
  congrArg Defs.onTc (by
    funext b x
    match b, x with
    | ⟨0, _⟩, _ => rfl)

theorem codes_defs : (Cert.Codes.defs (F := Bits)) = Cert.CodesIdeal.defs (F := Bits) := by
  show Pipeline.defs (Cert.CodesIdeal.pcfgs (F := Bits)) (Cert.Codes.defs₀ (F := Bits)) = Pipeline.defs (Cert.CodesIdeal.pcfgs (F := Bits)) (Cert.CodesIdeal.defs₀ (F := Bits))
  exact congrArg _ codes_defs₀

theorem codes_main : (Cert.Codes.main (F := Bits)) = Cert.CodesIdeal.main (F := Bits) := rfl

theorem codes_frame : Cert.quiescent_Codes := fun m g hpre => by
  rw [codes_defs, codes_main]
  exact (θ_run Cert.CodesIdeal.defs _ _).mono (fun r h => ⟨fun c => Cert.CodesIdeal.Hand.ended_args m r h.1 c, h.2⟩)
    (Cert.CodesIdeal.Hand.run_ended m g (Cert.CodesIdeal.Hand.plain m (Cert.CodesIdeal.Hand.nonnegative_of m hpre)))

theorem codes_ideal_frame : Cert.quiescent_CodesIdeal := fun m g hpre =>
  (θ_run Cert.CodesIdeal.defs _ _).mono (fun r h => ⟨fun c => Cert.CodesIdeal.Hand.ended_args m r h.1 c, h.2⟩)
    (Cert.CodesIdeal.Hand.run_ended m g (Cert.CodesIdeal.Hand.plain m (Cert.CodesIdeal.Hand.nonnegative_of m hpre)))

theorem codes_reference_run (m : (ℓ : Loc Cert.CodesReferenceIdeal.nD Cert.CodesReferenceIdeal.τ Cert.CodesReferenceIdeal.sig) → Buf (Elt Ideal) ℓ) (g : Dev Cert.CodesReferenceIdeal.nD → PrngReg) :
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0) :=
  (θ_run Cert.CodesReferenceIdeal.defs _ _).mono (fun r h => ⟨fun c => (h c).2.2.2, sem_eq_zero_of_no_sems (by decide) r.2⟩)
    (Cert.CodesReferenceIdeal.Value.run (F := Ideal) m g)

theorem codes_reference_frame : Cert.quiescent_CodesReferenceIdeal := fun m g _ => codes_reference_run m g

theorem codes_reference_frame_nonnegative : Cert.quiescent_CodesReferenceIdeal_pre_nonnegative := fun m g _ => codes_reference_run m g

theorem codes_preserved : Cert.preserves_Codes_CodesIdeal := trivial

theorem codes_same_results : Cert.algebraic_CodesIdeal_CodesReferenceIdeal := by
  intro m g m' g' hpre hargs
  have hn := Cert.CodesIdeal.Hand.nonnegative_of m hpre
  refine ⟨fun c => Cert.CodesIdeal.Hand.topLabels m c, fun c => Cert.CodesIdeal.Hand.topBoxes m c, fun c => Cert.CodesIdeal.Hand.topScores m c, ?_, ?_⟩
  · refine (θ_run Cert.CodesIdeal.defs _ _).mono (fun r h c => ?_) (Cert.CodesIdeal.Hand.run_ended m g (Cert.CodesIdeal.Hand.plain m hn))
    obtain ⟨h1, h2, h3⟩ := Cert.CodesIdeal.Hand.ended_results m hn r h.1 c
    exact ⟨h1, h2, h3, Cert.CodesIdeal.Hand.ended_args m r h.1 c⟩
  · refine (θ_run Cert.CodesReferenceIdeal.defs _ _).mono (fun r h c => ?_) (Cert.CodesReferenceIdeal.Value.run (F := Ideal) m' g')
    obtain ⟨h1, h2, h3, h4⟩ := h c
    obtain ⟨e0, e1, e2, -⟩ := hargs c
    rw [Cert.CodesReferenceIdeal.Hand.returned_boxes, e0, e1, e2] at h2
    rw [e0] at h1 h3
    have hidx := Cert.Order.topBy_indices (IntOp.cmpi .sgt) (Cert.CodesIdeal.Hand.flatWords m c) Cert.CodesReferenceIdeal.Gen.sliceFits_S64x400000_S64x300
    refine ⟨?_, ?_, ?_, h4⟩
    · funext i
      refine (congrFun h1 i).trans ?_
      refine Eq.trans ?_ (congrArg refLabel (hidx i))
      rfl
    · funext i
      refine (congrFun h2 i).trans ?_
      have ei : i = (ix3 (i 0 : Fin 64) (i 1 : Fin 300) (i 2 : Fin 4) : Cert.CodesReferenceIdeal.S64x300x4.Idx) := (ix3_eta i).symm
      refine (congrArg _ ei).trans ?_
      refine Cert.CodesReferenceIdeal.Hand.boxesRef_apply _ _ _ (Cert.CodesIdeal.Hand.bestBox m c) (fun b k => ?_) _ _ _
      refine (Cert.CodesReferenceIdeal.Hand.quots_apply _ _).trans ((congrArg refQuot (hidx (ix2 b k))).trans ?_)
      exact refQuot_small _ (Fin.isLt _)
    · funext i
      refine (congrFun h3 i).trans ?_
      exact Cert.Order.topBy_values (IntOp.cmpi .sgt) (Cert.CodesIdeal.Hand.flatWords m c) _ i

theorem claim : Cert.Claim :=
  ⟨Cert.Kernel.Gen.facts, Cert.Reference.Gen.facts, Cert.Codes.Gen.facts, Cert.CodesIdeal.Gen.facts, Cert.CodesReferenceIdeal.Gen.facts,
    Cert.Pre_ordered.Gen.facts, Cert.Pre_nonnegative.Gen.facts, Cert.On_labels_and_scores.Gen.facts,
    kernel_frame, reference_frame, reference_frame_ordered, codes_frame, codes_ideal_frame, codes_reference_frame,
    codes_reference_frame_nonnegative, same_results, codes_preserved, codes_same_results⟩

end Cert.Proof

end
